-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S32x1 : Shape := ⟨2, ![32, 1]⟩
abbrev S1 : Shape := ⟨1, ![1]⟩
abbrev S32 : Shape := ⟨1, ![32]⟩
abbrev S_ : Shape := ⟨0, ![]⟩
abbrev S15 : Shape := ⟨1, ![15]⟩
abbrev S48 : Shape := ⟨1, ![48]⟩
abbrev S8192 : Shape := ⟨1, ![8192]⟩
abbrev S256x128 : Shape := ⟨2, ![256, 128]⟩
abbrev S256 : Shape := ⟨1, ![256]⟩
abbrev S16 : Shape := ⟨1, ![16]⟩
abbrev S8192x1 : Shape := ⟨2, ![8192, 1]⟩

abbrev nBuf : Table → Nat
  | .hbm => 9
  | .local .scVector .vmem => 3
  | _ => 0

abbrev bufTy : (tb : Table) → Fin (nBuf tb) → BufTy
  | .hbm, ⟨0, _⟩ => ⟨S8192x4096, .f32⟩
  | .hbm, ⟨1, _⟩ => ⟨S32x1, .f32⟩
  | .hbm, ⟨2, _⟩ => ⟨S1, .f32⟩
  | .hbm, ⟨3, _⟩ => ⟨S32, .f32⟩
  | .hbm, ⟨4, _⟩ => ⟨S_, .f32⟩
  | .hbm, ⟨5, _⟩ => ⟨S15, .f32⟩
  | .hbm, ⟨6, _⟩ => ⟨S48, .f32⟩
  | .hbm, ⟨7, _⟩ => ⟨S8192, .f32⟩
  | .hbm, ⟨8, _⟩ => ⟨S8192x1, .f32⟩
  | .local .scVector .vmem, ⟨0, _⟩ => ⟨S256x128, .f32⟩
  | .local .scVector .vmem, ⟨1, _⟩ => ⟨S48, .f32⟩
  | .local .scVector .vmem, ⟨2, _⟩ => ⟨S256, .f32⟩
  | _, _ => ⟨S8192x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_2_r0 : BitVec 32 := 0#32
  ![v2.toNat, 0]
@[reducible] def k0_t1_loop : Scf.Loop 32 :=
  let c0_i32_0 : BitVec 32 := 0#32
  let c4_i32 : BitVec 32 := 4#32
  let v45 : BitVec 32 := Scalar.addi c0_i32_0 c4_i32
  let c1_i32 : BitVec 32 := 1#32
  ⟨c0_i32_0, v45, c1_i32⟩

def k0_chk1 (v50 : IVec S16 32) (v54 : IVec S16 32) : Prop :=
  (∀ a x, ((![v50, v54] : Fin 2 → IVec S16 32) a x).toNat < S256x128.size a)
theorem k0_idx1_inb : ∀ (v50 : IVec S16 32) (v54 : IVec S16 32) (k0_hw1 : k0_chk1 v50 v54), ∀ a x, ((![v50, v54] : Fin 2 → IVec S16 32) a x).toNat < S256x128.size a := fun v50 v54 k0_hw1 => k0_hw1

def k0_chk2 (v50 : IVec S16 32) (v61 : IVec S16 32) : Prop :=
  (∀ a x, ((![v50, v61] : Fin 2 → IVec S16 32) a x).toNat < S256x128.size a)
theorem k0_idx2_inb : ∀ (v50 : IVec S16 32) (v61 : IVec S16 32) (k0_hw2 : k0_chk2 v50 v61), ∀ a x, ((![v50, v61] : Fin 2 → IVec S16 32) a x).toNat < S256x128.size a := fun v50 v61 k0_hw2 => k0_hw2

def k0_chk3 (v50 : IVec S16 32) (v69 : IVec S16 32) : Prop :=
  (∀ a x, ((![v50, v69] : Fin 2 → IVec S16 32) a x).toNat < S256x128.size a)
theorem k0_idx3_inb : ∀ (v50 : IVec S16 32) (v69 : IVec S16 32) (k0_hw3 : k0_chk3 v50 v69), ∀ a x, ((![v50, v69] : Fin 2 → IVec S16 32) a x).toNat < S256x128.size a := fun v50 v69 k0_hw3 => k0_hw3

def k0_chk4 (v50 : IVec S16 32) (v77 : IVec S16 32) : Prop :=
  (∀ a x, ((![v50, v77] : Fin 2 → IVec S16 32) a x).toNat < S256x128.size a)
theorem k0_idx4_inb : ∀ (v50 : IVec S16 32) (v77 : IVec S16 32) (k0_hw4 : k0_chk4 v50 v77), ∀ a x, ((![v50, v77] : Fin 2 → IVec S16 32) a x).toNat < S256x128.size a := fun v50 v77 k0_hw4 => k0_hw4

def k0_chk5 (v50 : IVec S16 32) (v85 : IVec S16 32) : Prop :=
  (∀ a x, ((![v50, v85] : Fin 2 → IVec S16 32) a x).toNat < S256x128.size a)
theorem k0_idx5_inb : ∀ (v50 : IVec S16 32) (v85 : IVec S16 32) (k0_hw5 : k0_chk5 v50 v85), ∀ a x, ((![v50, v85] : Fin 2 → IVec S16 32) a x).toNat < S256x128.size a := fun v50 v85 k0_hw5 => k0_hw5

def k0_chk6 (v50 : IVec S16 32) (v93 : IVec S16 32) : Prop :=
  (∀ a x, ((![v50, v93] : Fin 2 → IVec S16 32) a x).toNat < S256x128.size a)
theorem k0_idx6_inb : ∀ (v50 : IVec S16 32) (v93 : IVec S16 32) (k0_hw6 : k0_chk6 v50 v93), ∀ a x, ((![v50, v93] : Fin 2 → IVec S16 32) a x).toNat < S256x128.size a := fun v50 v93 k0_hw6 => k0_hw6

def k0_chk7 (v50 : IVec S16 32) (v101 : IVec S16 32) : Prop :=
  (∀ a x, ((![v50, v101] : Fin 2 → IVec S16 32) a x).toNat < S256x128.size a)
theorem k0_idx7_inb : ∀ (v50 : IVec S16 32) (v101 : IVec S16 32) (k0_hw7 : k0_chk7 v50 v101), ∀ a x, ((![v50, v101] : Fin 2 → IVec S16 32) a x).toNat < S256x128.size a := fun v50 v101 k0_hw7 => k0_hw7

def k0_chk8 (v50 : IVec S16 32) (v109 : IVec S16 32) : Prop :=
  (∀ a x, ((![v50, v109] : Fin 2 → IVec S16 32) a x).toNat < S256x128.size a)
theorem k0_idx8_inb : ∀ (v50 : IVec S16 32) (v109 : IVec S16 32) (k0_hw8 : k0_chk8 v50 v109), ∀ a x, ((![v50, v109] : Fin 2 → IVec S16 32) a x).toNat < S256x128.size a := fun v50 v109 k0_hw8 => k0_hw8

def k0_chk9 (v50 : IVec S16 32) (v117 : IVec S16 32) : Prop :=
  (∀ a x, ((![v50, v117] : Fin 2 → IVec S16 32) a x).toNat < S256x128.size a)
theorem k0_idx9_inb : ∀ (v50 : IVec S16 32) (v117 : IVec S16 32) (k0_hw9 : k0_chk9 v50 v117), ∀ a x, ((![v50, v117] : Fin 2 → IVec S16 32) a x).toNat < S256x128.size a := fun v50 v117 k0_hw9 => k0_hw9

def k0_chk10 (v50 : IVec S16 32) (v124 : IVec S16 32) : Prop :=
  (∀ a x, ((![v50, v124] : Fin 2 → IVec S16 32) a x).toNat < S256x128.size a)
theorem k0_idx10_inb : ∀ (v50 : IVec S16 32) (v124 : IVec S16 32) (k0_hw10 : k0_chk10 v50 v124), ∀ a x, ((![v50, v124] : Fin 2 → IVec S16 32) a x).toNat < S256x128.size a := fun v50 v124 k0_hw10 => k0_hw10

def k0_chk11 (v50 : IVec S16 32) (v132 : IVec S16 32) : Prop :=
  (∀ a x, ((![v50, v132] : Fin 2 → IVec S16 32) a x).toNat < S256x128.size a)
theorem k0_idx11_inb : ∀ (v50 : IVec S16 32) (v132 : IVec S16 32) (k0_hw11 : k0_chk11 v50 v132), ∀ a x, ((![v50, v132] : Fin 2 → IVec S16 32) a x).toNat < S256x128.size a := fun v50 v132 k0_hw11 => k0_hw11

def k0_chk12 (v50 : IVec S16 32) (v140 : IVec S16 32) : Prop :=
  (∀ a x, ((![v50, v140] : Fin 2 → IVec S16 32) a x).toNat < S256x128.size a)
theorem k0_idx12_inb : ∀ (v50 : IVec S16 32) (v140 : IVec S16 32) (k0_hw12 : k0_chk12 v50 v140), ∀ a x, ((![v50, v140] : Fin 2 → IVec S16 32) a x).toNat < S256x128.size a := fun v50 v140 k0_hw12 => k0_hw12

def k0_chk13 (v50 : IVec S16 32) (v148 : IVec S16 32) : Prop :=
  (∀ a x, ((![v50, v148] : Fin 2 → IVec S16 32) a x).toNat < S256x128.size a)
theorem k0_idx13_inb : ∀ (v50 : IVec S16 32) (v148 : IVec S16 32) (k0_hw13 : k0_chk13 v50 v148), ∀ a x, ((![v50, v148] : Fin 2 → IVec S16 32) a x).toNat < S256x128.size a := fun v50 v148 k0_hw13 => k0_hw13

def k0_chk14 (v50 : IVec S16 32) (v156 : IVec S16 32) : Prop :=
  (∀ a x, ((![v50, v156] : Fin 2 → IVec S16 32) a x).toNat < S256x128.size a)
theorem k0_idx14_inb : ∀ (v50 : IVec S16 32) (v156 : IVec S16 32) (k0_hw14 : k0_chk14 v50 v156), ∀ a x, ((![v50, v156] : Fin 2 → IVec S16 32) a x).toNat < S256x128.size a := fun v50 v156 k0_hw14 => k0_hw14

def k0_chk15 (v50 : IVec S16 32) (v164 : IVec S16 32) : Prop :=
  (∀ a x, ((![v50, v164] : Fin 2 → IVec S16 32) a x).toNat < S256x128.size a)
theorem k0_idx15_inb : ∀ (v50 : IVec S16 32) (v164 : IVec S16 32) (k0_hw15 : k0_chk15 v50 v164), ∀ a x, ((![v50, v164] : Fin 2 → IVec S16 32) a x).toNat < S256x128.size a := fun v50 v164 k0_hw15 => k0_hw15

def k0_chk16 (v50 : IVec S16 32) (v172 : IVec S16 32) : Prop :=
  (∀ a x, ((![v50, v172] : Fin 2 → IVec S16 32) a x).toNat < S256x128.size a)
theorem k0_idx16_inb : ∀ (v50 : IVec S16 32) (v172 : IVec S16 32) (k0_hw16 : k0_chk16 v50 v172), ∀ a x, ((![v50, v172] : Fin 2 → IVec S16 32) a x).toNat < S256x128.size a := fun v50 v172 k0_hw16 => k0_hw16

def k0_chk17 (v50 : IVec S16 32) (v180 : IVec S16 32) : Prop :=
  (∀ a x, ((![v50, v180] : Fin 2 → IVec S16 32) a x).toNat < S256x128.size a)
theorem k0_idx17_inb : ∀ (v50 : IVec S16 32) (v180 : IVec S16 32) (k0_hw17 : k0_chk17 v50 v180), ∀ a x, ((![v50, v180] : Fin 2 → IVec S16 32) a x).toNat < S256x128.size a := fun v50 v180 k0_hw17 => k0_hw17

def k0_chk18 (v50 : IVec S16 32) (v187 : IVec S16 32) : Prop :=
  (∀ a x, ((![v50, v187] : Fin 2 → IVec S16 32) a x).toNat < S256x128.size a)
theorem k0_idx18_inb : ∀ (v50 : IVec S16 32) (v187 : IVec S16 32) (k0_hw18 : k0_chk18 v50 v187), ∀ a x, ((![v50, v187] : Fin 2 → IVec S16 32) a x).toNat < S256x128.size a := fun v50 v187 k0_hw18 => k0_hw18

def k0_chk19 (v50 : IVec S16 32) (v195 : IVec S16 32) : Prop :=
  (∀ a x, ((![v50, v195] : Fin 2 → IVec S16 32) a x).toNat < S256x128.size a)
theorem k0_idx19_inb : ∀ (v50 : IVec S16 32) (v195 : IVec S16 32) (k0_hw19 : k0_chk19 v50 v195), ∀ a x, ((![v50, v195] : Fin 2 → IVec S16 32) a x).toNat < S256x128.size a := fun v50 v195 k0_hw19 => k0_hw19

def k0_chk20 (v50 : IVec S16 32) (v203 : IVec S16 32) : Prop :=
  (∀ a x, ((![v50, v203] : Fin 2 → IVec S16 32) a x).toNat < S256x128.size a)
theorem k0_idx20_inb : ∀ (v50 : IVec S16 32) (v203 : IVec S16 32) (k0_hw20 : k0_chk20 v50 v203), ∀ a x, ((![v50, v203] : Fin 2 → IVec S16 32) a x).toNat < S256x128.size a := fun v50 v203 k0_hw20 => k0_hw20

def k0_chk21 (v50 : IVec S16 32) (v211 : IVec S16 32) : Prop :=
  (∀ a x, ((![v50, v211] : Fin 2 → IVec S16 32) a x).toNat < S256x128.size a)
theorem k0_idx21_inb : ∀ (v50 : IVec S16 32) (v211 : IVec S16 32) (k0_hw21 : k0_chk21 v50 v211), ∀ a x, ((![v50, v211] : Fin 2 → IVec S16 32) a x).toNat < S256x128.size a := fun v50 v211 k0_hw21 => k0_hw21

def k0_chk22 (v50 : IVec S16 32) (v219 : IVec S16 32) : Prop :=
  (∀ a x, ((![v50, v219] : Fin 2 → IVec S16 32) a x).toNat < S256x128.size a)
theorem k0_idx22_inb : ∀ (v50 : IVec S16 32) (v219 : IVec S16 32) (k0_hw22 : k0_chk22 v50 v219), ∀ a x, ((![v50, v219] : Fin 2 → IVec S16 32) a x).toNat < S256x128.size a := fun v50 v219 k0_hw22 => k0_hw22

def k0_chk23 (v50 : IVec S16 32) (v227 : IVec S16 32) : Prop :=
  (∀ a x, ((![v50, v227] : Fin 2 → IVec S16 32) a x).toNat < S256x128.size a)
theorem k0_idx23_inb : ∀ (v50 : IVec S16 32) (v227 : IVec S16 32) (k0_hw23 : k0_chk23 v50 v227), ∀ a x, ((![v50, v227] : Fin 2 → IVec S16 32) a x).toNat < S256x128.size a := fun v50 v227 k0_hw23 => k0_hw23

def k0_chk24 (v50 : IVec S16 32) (v235 : IVec S16 32) : Prop :=
  (∀ a x, ((![v50, v235] : Fin 2 → IVec S16 32) a x).toNat < S256x128.size a)
theorem k0_idx24_inb : ∀ (v50 : IVec S16 32) (v235 : IVec S16 32) (k0_hw24 : k0_chk24 v50 v235), ∀ a x, ((![v50, v235] : Fin 2 → IVec S16 32) a x).toNat < S256x128.size a := fun v50 v235 k0_hw24 => k0_hw24

def k0_chk25 (v50 : IVec S16 32) (v243 : IVec S16 32) : Prop :=
  (∀ a x, ((![v50, v243] : Fin 2 → IVec S16 32) a x).toNat < S256x128.size a)
theorem k0_idx25_inb : ∀ (v50 : IVec S16 32) (v243 : IVec S16 32) (k0_hw25 : k0_chk25 v50 v243), ∀ a x, ((![v50, v243] : Fin 2 → IVec S16 32) a x).toNat < S256x128.size a := fun v50 v243 k0_hw25 => k0_hw25

def k0_chk26 (v50 : IVec S16 32) (v250 : IVec S16 32) : Prop :=
  (∀ a x, ((![v50, v250] : Fin 2 → IVec S16 32) a x).toNat < S256x128.size a)
theorem k0_idx26_inb : ∀ (v50 : IVec S16 32) (v250 : IVec S16 32) (k0_hw26 : k0_chk26 v50 v250), ∀ a x, ((![v50, v250] : Fin 2 → IVec S16 32) a x).toNat < S256x128.size a := fun v50 v250 k0_hw26 => k0_hw26

def k0_chk27 (v50 : IVec S16 32) (v258 : IVec S16 32) : Prop :=
  (∀ a x, ((![v50, v258] : Fin 2 → IVec S16 32) a x).toNat < S256x128.size a)
theorem k0_idx27_inb : ∀ (v50 : IVec S16 32) (v258 : IVec S16 32) (k0_hw27 : k0_chk27 v50 v258), ∀ a x, ((![v50, v258] : Fin 2 → IVec S16 32) a x).toNat < S256x128.size a := fun v50 v258 k0_hw27 => k0_hw27

def k0_chk28 (v50 : IVec S16 32) (v266 : IVec S16 32) : Prop :=
  (∀ a x, ((![v50, v266] : Fin 2 → IVec S16 32) a x).toNat < S256x128.size a)
theorem k0_idx28_inb : ∀ (v50 : IVec S16 32) (v266 : IVec S16 32) (k0_hw28 : k0_chk28 v50 v266), ∀ a x, ((![v50, v266] : Fin 2 → IVec S16 32) a x).toNat < S256x128.size a := fun v50 v266 k0_hw28 => k0_hw28

def k0_chk29 (v50 : IVec S16 32) (v274 : IVec S16 32) : Prop :=
  (∀ a x, ((![v50, v274] : Fin 2 → IVec S16 32) a x).toNat < S256x128.size a)
theorem k0_idx29_inb : ∀ (v50 : IVec S16 32) (v274 : IVec S16 32) (k0_hw29 : k0_chk29 v50 v274), ∀ a x, ((![v50, v274] : Fin 2 → IVec S16 32) a x).toNat < S256x128.size a := fun v50 v274 k0_hw29 => k0_hw29

def k0_chk30 (v50 : IVec S16 32) (v282 : IVec S16 32) : Prop :=
  (∀ a x, ((![v50, v282] : Fin 2 → IVec S16 32) a x).toNat < S256x128.size a)
theorem k0_idx30_inb : ∀ (v50 : IVec S16 32) (v282 : IVec S16 32) (k0_hw30 : k0_chk30 v50 v282), ∀ a x, ((![v50, v282] : Fin 2 → IVec S16 32) a x).toNat < S256x128.size a := fun v50 v282 k0_hw30 => k0_hw30

def k0_chk31 (v50 : IVec S16 32) (v290 : IVec S16 32) : Prop :=
  (∀ a x, ((![v50, v290] : Fin 2 → IVec S16 32) a x).toNat < S256x128.size a)
theorem k0_idx31_inb : ∀ (v50 : IVec S16 32) (v290 : IVec S16 32) (k0_hw31 : k0_chk31 v50 v290), ∀ a x, ((![v50, v290] : Fin 2 → IVec S16 32) a x).toNat < S256x128.size a := fun v50 v290 k0_hw31 => k0_hw31

def k0_chk32 (v50 : IVec S16 32) (v298 : IVec S16 32) : Prop :=
  (∀ a x, ((![v50, v298] : Fin 2 → IVec S16 32) a x).toNat < S256x128.size a)
theorem k0_idx32_inb : ∀ (v50 : IVec S16 32) (v298 : IVec S16 32) (k0_hw32 : k0_chk32 v50 v298), ∀ a x, ((![v50, v298] : Fin 2 → IVec S16 32) a x).toNat < S256x128.size a := fun v50 v298 k0_hw32 => k0_hw32

def k0_chk33 (v50 : IVec S16 32) (v306 : IVec S16 32) : Prop :=
  (∀ a x, ((![v50, v306] : Fin 2 → IVec S16 32) a x).toNat < S256x128.size a)
theorem k0_idx33_inb : ∀ (v50 : IVec S16 32) (v306 : IVec S16 32) (k0_hw33 : k0_chk33 v50 v306), ∀ a x, ((![v50, v306] : Fin 2 → IVec S16 32) a x).toNat < S256x128.size a := fun v50 v306 k0_hw33 => k0_hw33

def k0_chk34 (v50 : IVec S16 32) (v313 : IVec S16 32) : Prop :=
  (∀ a x, ((![v50, v313] : Fin 2 → IVec S16 32) a x).toNat < S256x128.size a)
theorem k0_idx34_inb : ∀ (v50 : IVec S16 32) (v313 : IVec S16 32) (k0_hw34 : k0_chk34 v50 v313), ∀ a x, ((![v50, v313] : Fin 2 → IVec S16 32) a x).toNat < S256x128.size a := fun v50 v313 k0_hw34 => k0_hw34

def k0_chk35 (v50 : IVec S16 32) (v321 : IVec S16 32) : Prop :=
  (∀ a x, ((![v50, v321] : Fin 2 → IVec S16 32) a x).toNat < S256x128.size a)
theorem k0_idx35_inb : ∀ (v50 : IVec S16 32) (v321 : IVec S16 32) (k0_hw35 : k0_chk35 v50 v321), ∀ a x, ((![v50, v321] : Fin 2 → IVec S16 32) a x).toNat < S256x128.size a := fun v50 v321 k0_hw35 => k0_hw35

def k0_chk36 (v50 : IVec S16 32) (v329 : IVec S16 32) : Prop :=
  (∀ a x, ((![v50, v329] : Fin 2 → IVec S16 32) a x).toNat < S256x128.size a)
theorem k0_idx36_inb : ∀ (v50 : IVec S16 32) (v329 : IVec S16 32) (k0_hw36 : k0_chk36 v50 v329), ∀ a x, ((![v50, v329] : Fin 2 → IVec S16 32) a x).toNat < S256x128.size a := fun v50 v329 k0_hw36 => k0_hw36

def k0_chk37 (v50 : IVec S16 32) (v337 : IVec S16 32) : Prop :=
  (∀ a x, ((![v50, v337] : Fin 2 → IVec S16 32) a x).toNat < S256x128.size a)
theorem k0_idx37_inb : ∀ (v50 : IVec S16 32) (v337 : IVec S16 32) (k0_hw37 : k0_chk37 v50 v337), ∀ a x, ((![v50, v337] : Fin 2 → IVec S16 32) a x).toNat < S256x128.size a := fun v50 v337 k0_hw37 => k0_hw37

def k0_chk38 (v50 : IVec S16 32) (v345 : IVec S16 32) : Prop :=
  (∀ a x, ((![v50, v345] : Fin 2 → IVec S16 32) a x).toNat < S256x128.size a)
theorem k0_idx38_inb : ∀ (v50 : IVec S16 32) (v345 : IVec S16 32) (k0_hw38 : k0_chk38 v50 v345), ∀ a x, ((![v50, v345] : Fin 2 → IVec S16 32) a x).toNat < S256x128.size a := fun v50 v345 k0_hw38 => k0_hw38

def k0_chk39 (v50 : IVec S16 32) (v353 : IVec S16 32) : Prop :=
  (∀ a x, ((![v50, v353] : Fin 2 → IVec S16 32) a x).toNat < S256x128.size a)
theorem k0_idx39_inb : ∀ (v50 : IVec S16 32) (v353 : IVec S16 32) (k0_hw39 : k0_chk39 v50 v353), ∀ a x, ((![v50, v353] : Fin 2 → IVec S16 32) a x).toNat < S256x128.size a := fun v50 v353 k0_hw39 => k0_hw39

def k0_chk40 (v50 : IVec S16 32) (v361 : IVec S16 32) : Prop :=
  (∀ a x, ((![v50, v361] : Fin 2 → IVec S16 32) a x).toNat < S256x128.size a)
theorem k0_idx40_inb : ∀ (v50 : IVec S16 32) (v361 : IVec S16 32) (k0_hw40 : k0_chk40 v50 v361), ∀ a x, ((![v50, v361] : Fin 2 → IVec S16 32) a x).toNat < S256x128.size a := fun v50 v361 k0_hw40 => k0_hw40

def k0_chk41 (v50 : IVec S16 32) (v369 : IVec S16 32) : Prop :=
  (∀ a x, ((![v50, v369] : Fin 2 → IVec S16 32) a x).toNat < S256x128.size a)
theorem k0_idx41_inb : ∀ (v50 : IVec S16 32) (v369 : IVec S16 32) (k0_hw41 : k0_chk41 v50 v369), ∀ a x, ((![v50, v369] : Fin 2 → IVec S16 32) a x).toNat < S256x128.size a := fun v50 v369 k0_hw41 => k0_hw41

def k0_chk42 (v50 : IVec S16 32) (v376 : IVec S16 32) : Prop :=
  (∀ a x, ((![v50, v376] : Fin 2 → IVec S16 32) a x).toNat < S256x128.size a)
theorem k0_idx42_inb : ∀ (v50 : IVec S16 32) (v376 : IVec S16 32) (k0_hw42 : k0_chk42 v50 v376), ∀ a x, ((![v50, v376] : Fin 2 → IVec S16 32) a x).toNat < S256x128.size a := fun v50 v376 k0_hw42 => k0_hw42

def k0_chk43 (v50 : IVec S16 32) (v384 : IVec S16 32) : Prop :=
  (∀ a x, ((![v50, v384] : Fin 2 → IVec S16 32) a x).toNat < S256x128.size a)
theorem k0_idx43_inb : ∀ (v50 : IVec S16 32) (v384 : IVec S16 32) (k0_hw43 : k0_chk43 v50 v384), ∀ a x, ((![v50, v384] : Fin 2 → IVec S16 32) a x).toNat < S256x128.size a := fun v50 v384 k0_hw43 => k0_hw43

def k0_chk44 (v50 : IVec S16 32) (v392 : IVec S16 32) : Prop :=
  (∀ a x, ((![v50, v392] : Fin 2 → IVec S16 32) a x).toNat < S256x128.size a)
theorem k0_idx44_inb : ∀ (v50 : IVec S16 32) (v392 : IVec S16 32) (k0_hw44 : k0_chk44 v50 v392), ∀ a x, ((![v50, v392] : Fin 2 → IVec S16 32) a x).toNat < S256x128.size a := fun v50 v392 k0_hw44 => k0_hw44

def k0_chk45 (v50 : IVec S16 32) (v400 : IVec S16 32) : Prop :=
  (∀ a x, ((![v50, v400] : Fin 2 → IVec S16 32) a x).toNat < S256x128.size a)
theorem k0_idx45_inb : ∀ (v50 : IVec S16 32) (v400 : IVec S16 32) (k0_hw45 : k0_chk45 v50 v400), ∀ a x, ((![v50, v400] : Fin 2 → IVec S16 32) a x).toNat < S256x128.size a := fun v50 v400 k0_hw45 => k0_hw45

def k0_chk46 (v50 : IVec S16 32) (v408 : IVec S16 32) : Prop :=
  (∀ a x, ((![v50, v408] : Fin 2 → IVec S16 32) a x).toNat < S256x128.size a)
theorem k0_idx46_inb : ∀ (v50 : IVec S16 32) (v408 : IVec S16 32) (k0_hw46 : k0_chk46 v50 v408), ∀ a x, ((![v50, v408] : Fin 2 → IVec S16 32) a x).toNat < S256x128.size a := fun v50 v408 k0_hw46 => k0_hw46

def k0_chk47 (v50 : IVec S16 32) (v416 : IVec S16 32) : Prop :=
  (∀ a x, ((![v50, v416] : Fin 2 → IVec S16 32) a x).toNat < S256x128.size a)
theorem k0_idx47_inb : ∀ (v50 : IVec S16 32) (v416 : IVec S16 32) (k0_hw47 : k0_chk47 v50 v416), ∀ a x, ((![v50, v416] : Fin 2 → IVec S16 32) a x).toNat < S256x128.size a := fun v50 v416 k0_hw47 => k0_hw47

def k0_chk48 (v50 : IVec S16 32) (v424 : IVec S16 32) : Prop :=
  (∀ a x, ((![v50, v424] : Fin 2 → IVec S16 32) a x).toNat < S256x128.size a)
theorem k0_idx48_inb : ∀ (v50 : IVec S16 32) (v424 : IVec S16 32) (k0_hw48 : k0_chk48 v50 v424), ∀ a x, ((![v50, v424] : Fin 2 → IVec S16 32) a x).toNat < S256x128.size a := fun v50 v424 k0_hw48 => k0_hw48

def k0_chk49 (v50 : IVec S16 32) (v432 : IVec S16 32) : Prop :=
  (∀ a x, ((![v50, v432] : Fin 2 → IVec S16 32) a x).toNat < S256x128.size a)
theorem k0_idx49_inb : ∀ (v50 : IVec S16 32) (v432 : IVec S16 32) (k0_hw49 : k0_chk49 v50 v432), ∀ a x, ((![v50, v432] : Fin 2 → IVec S16 32) a x).toNat < S256x128.size a := fun v50 v432 k0_hw49 => k0_hw49

def k0_chk50 (v50 : IVec S16 32) (v439 : IVec S16 32) : Prop :=
  (∀ a x, ((![v50, v439] : Fin 2 → IVec S16 32) a x).toNat < S256x128.size a)
theorem k0_idx50_inb : ∀ (v50 : IVec S16 32) (v439 : IVec S16 32) (k0_hw50 : k0_chk50 v50 v439), ∀ a x, ((![v50, v439] : Fin 2 → IVec S16 32) a x).toNat < S256x128.size a := fun v50 v439 k0_hw50 => k0_hw50

def k0_chk51 (v50 : IVec S16 32) (v447 : IVec S16 32) : Prop :=
  (∀ a x, ((![v50, v447] : Fin 2 → IVec S16 32) a x).toNat < S256x128.size a)
theorem k0_idx51_inb : ∀ (v50 : IVec S16 32) (v447 : IVec S16 32) (k0_hw51 : k0_chk51 v50 v447), ∀ a x, ((![v50, v447] : Fin 2 → IVec S16 32) a x).toNat < S256x128.size a := fun v50 v447 k0_hw51 => k0_hw51

def k0_chk52 (v50 : IVec S16 32) (v455 : IVec S16 32) : Prop :=
  (∀ a x, ((![v50, v455] : Fin 2 → IVec S16 32) a x).toNat < S256x128.size a)
theorem k0_idx52_inb : ∀ (v50 : IVec S16 32) (v455 : IVec S16 32) (k0_hw52 : k0_chk52 v50 v455), ∀ a x, ((![v50, v455] : Fin 2 → IVec S16 32) a x).toNat < S256x128.size a := fun v50 v455 k0_hw52 => k0_hw52

def k0_chk53 (v50 : IVec S16 32) (v463 : IVec S16 32) : Prop :=
  (∀ a x, ((![v50, v463] : Fin 2 → IVec S16 32) a x).toNat < S256x128.size a)
theorem k0_idx53_inb : ∀ (v50 : IVec S16 32) (v463 : IVec S16 32) (k0_hw53 : k0_chk53 v50 v463), ∀ a x, ((![v50, v463] : Fin 2 → IVec S16 32) a x).toNat < S256x128.size a := fun v50 v463 k0_hw53 => k0_hw53

def k0_chk54 (v50 : IVec S16 32) (v471 : IVec S16 32) : Prop :=
  (∀ a x, ((![v50, v471] : Fin 2 → IVec S16 32) a x).toNat < S256x128.size a)
theorem k0_idx54_inb : ∀ (v50 : IVec S16 32) (v471 : IVec S16 32) (k0_hw54 : k0_chk54 v50 v471), ∀ a x, ((![v50, v471] : Fin 2 → IVec S16 32) a x).toNat < S256x128.size a := fun v50 v471 k0_hw54 => k0_hw54

def k0_chk55 (v50 : IVec S16 32) (v479 : IVec S16 32) : Prop :=
  (∀ a x, ((![v50, v479] : Fin 2 → IVec S16 32) a x).toNat < S256x128.size a)
theorem k0_idx55_inb : ∀ (v50 : IVec S16 32) (v479 : IVec S16 32) (k0_hw55 : k0_chk55 v50 v479), ∀ a x, ((![v50, v479] : Fin 2 → IVec S16 32) a x).toNat < S256x128.size a := fun v50 v479 k0_hw55 => k0_hw55

def k0_chk56 (v50 : IVec S16 32) (v487 : IVec S16 32) : Prop :=
  (∀ a x, ((![v50, v487] : Fin 2 → IVec S16 32) a x).toNat < S256x128.size a)
theorem k0_idx56_inb : ∀ (v50 : IVec S16 32) (v487 : IVec S16 32) (k0_hw56 : k0_chk56 v50 v487), ∀ a x, ((![v50, v487] : Fin 2 → IVec S16 32) a x).toNat < S256x128.size a := fun v50 v487 k0_hw56 => k0_hw56

def k0_chk57 (v50 : IVec S16 32) (v495 : IVec S16 32) : Prop :=
  (∀ a x, ((![v50, v495] : Fin 2 → IVec S16 32) a x).toNat < S256x128.size a)
theorem k0_idx57_inb : ∀ (v50 : IVec S16 32) (v495 : IVec S16 32) (k0_hw57 : k0_chk57 v50 v495), ∀ a x, ((![v50, v495] : Fin 2 → IVec S16 32) a x).toNat < S256x128.size a := fun v50 v495 k0_hw57 => k0_hw57

def k0_chk58 (v50 : IVec S16 32) (v502 : IVec S16 32) : Prop :=
  (∀ a x, ((![v50, v502] : Fin 2 → IVec S16 32) a x).toNat < S256x128.size a)
theorem k0_idx58_inb : ∀ (v50 : IVec S16 32) (v502 : IVec S16 32) (k0_hw58 : k0_chk58 v50 v502), ∀ a x, ((![v50, v502] : Fin 2 → IVec S16 32) a x).toNat < S256x128.size a := fun v50 v502 k0_hw58 => k0_hw58

def k0_chk59 (v50 : IVec S16 32) (v510 : IVec S16 32) : Prop :=
  (∀ a x, ((![v50, v510] : Fin 2 → IVec S16 32) a x).toNat < S256x128.size a)
theorem k0_idx59_inb : ∀ (v50 : IVec S16 32) (v510 : IVec S16 32) (k0_hw59 : k0_chk59 v50 v510), ∀ a x, ((![v50, v510] : Fin 2 → IVec S16 32) a x).toNat < S256x128.size a := fun v50 v510 k0_hw59 => k0_hw59

def k0_chk60 (v50 : IVec S16 32) (v518 : IVec S16 32) : Prop :=
  (∀ a x, ((![v50, v518] : Fin 2 → IVec S16 32) a x).toNat < S256x128.size a)
theorem k0_idx60_inb : ∀ (v50 : IVec S16 32) (v518 : IVec S16 32) (k0_hw60 : k0_chk60 v50 v518), ∀ a x, ((![v50, v518] : Fin 2 → IVec S16 32) a x).toNat < S256x128.size a := fun v50 v518 k0_hw60 => k0_hw60

def k0_chk61 (v50 : IVec S16 32) (v526 : IVec S16 32) : Prop :=
  (∀ a x, ((![v50, v526] : Fin 2 → IVec S16 32) a x).toNat < S256x128.size a)
theorem k0_idx61_inb : ∀ (v50 : IVec S16 32) (v526 : IVec S16 32) (k0_hw61 : k0_chk61 v50 v526), ∀ a x, ((![v50, v526] : Fin 2 → IVec S16 32) a x).toNat < S256x128.size a := fun v50 v526 k0_hw61 => k0_hw61

def k0_chk62 (v50 : IVec S16 32) (v534 : IVec S16 32) : Prop :=
  (∀ a x, ((![v50, v534] : Fin 2 → IVec S16 32) a x).toNat < S256x128.size a)
theorem k0_idx62_inb : ∀ (v50 : IVec S16 32) (v534 : IVec S16 32) (k0_hw62 : k0_chk62 v50 v534), ∀ a x, ((![v50, v534] : Fin 2 → IVec S16 32) a x).toNat < S256x128.size a := fun v50 v534 k0_hw62 => k0_hw62

def k0_chk63 (v50 : IVec S16 32) (v542 : IVec S16 32) : Prop :=
  (∀ a x, ((![v50, v542] : Fin 2 → IVec S16 32) a x).toNat < S256x128.size a)
theorem k0_idx63_inb : ∀ (v50 : IVec S16 32) (v542 : IVec S16 32) (k0_hw63 : k0_chk63 v50 v542), ∀ a x, ((![v50, v542] : Fin 2 → IVec S16 32) a x).toNat < S256x128.size a := fun v50 v542 k0_hw63 => k0_hw63

def k0_chk64 (v50 : IVec S16 32) (v550 : IVec S16 32) : Prop :=
  (∀ a x, ((![v50, v550] : Fin 2 → IVec S16 32) a x).toNat < S256x128.size a)
theorem k0_idx64_inb : ∀ (v50 : IVec S16 32) (v550 : IVec S16 32) (k0_hw64 : k0_chk64 v50 v550), ∀ a x, ((![v50, v550] : Fin 2 → IVec S16 32) a x).toNat < S256x128.size a := fun v50 v550 k0_hw64 => k0_hw64

def k0_chk65 (v50 : IVec S16 32) (v558 : IVec S16 32) : Prop :=
  (∀ a x, ((![v50, v558] : Fin 2 → IVec S16 32) a x).toNat < S256x128.size a)
theorem k0_idx65_inb : ∀ (v50 : IVec S16 32) (v558 : IVec S16 32) (k0_hw65 : k0_chk65 v50 v558), ∀ a x, ((![v50, v558] : Fin 2 → IVec S16 32) a x).toNat < S256x128.size a := fun v50 v558 k0_hw65 => k0_hw65

def k0_chk66 (v50 : IVec S16 32) (v565 : IVec S16 32) : Prop :=
  (∀ a x, ((![v50, v565] : Fin 2 → IVec S16 32) a x).toNat < S256x128.size a)
theorem k0_idx66_inb : ∀ (v50 : IVec S16 32) (v565 : IVec S16 32) (k0_hw66 : k0_chk66 v50 v565), ∀ a x, ((![v50, v565] : Fin 2 → IVec S16 32) a x).toNat < S256x128.size a := fun v50 v565 k0_hw66 => k0_hw66

def k0_chk67 (v50 : IVec S16 32) (v573 : IVec S16 32) : Prop :=
  (∀ a x, ((![v50, v573] : Fin 2 → IVec S16 32) a x).toNat < S256x128.size a)
theorem k0_idx67_inb : ∀ (v50 : IVec S16 32) (v573 : IVec S16 32) (k0_hw67 : k0_chk67 v50 v573), ∀ a x, ((![v50, v573] : Fin 2 → IVec S16 32) a x).toNat < S256x128.size a := fun v50 v573 k0_hw67 => k0_hw67

def k0_chk68 (v50 : IVec S16 32) (v581 : IVec S16 32) : Prop :=
  (∀ a x, ((![v50, v581] : Fin 2 → IVec S16 32) a x).toNat < S256x128.size a)
theorem k0_idx68_inb : ∀ (v50 : IVec S16 32) (v581 : IVec S16 32) (k0_hw68 : k0_chk68 v50 v581), ∀ a x, ((![v50, v581] : Fin 2 → IVec S16 32) a x).toNat < S256x128.size a := fun v50 v581 k0_hw68 => k0_hw68

def k0_chk69 (v50 : IVec S16 32) (v589 : IVec S16 32) : Prop :=
  (∀ a x, ((![v50, v589] : Fin 2 → IVec S16 32) a x).toNat < S256x128.size a)
theorem k0_idx69_inb : ∀ (v50 : IVec S16 32) (v589 : IVec S16 32) (k0_hw69 : k0_chk69 v50 v589), ∀ a x, ((![v50, v589] : Fin 2 → IVec S16 32) a x).toNat < S256x128.size a := fun v50 v589 k0_hw69 => k0_hw69

def k0_chk70 (v50 : IVec S16 32) (v597 : IVec S16 32) : Prop :=
  (∀ a x, ((![v50, v597] : Fin 2 → IVec S16 32) a x).toNat < S256x128.size a)
theorem k0_idx70_inb : ∀ (v50 : IVec S16 32) (v597 : IVec S16 32) (k0_hw70 : k0_chk70 v50 v597), ∀ a x, ((![v50, v597] : Fin 2 → IVec S16 32) a x).toNat < S256x128.size a := fun v50 v597 k0_hw70 => k0_hw70

def k0_chk71 (v50 : IVec S16 32) (v605 : IVec S16 32) : Prop :=
  (∀ a x, ((![v50, v605] : Fin 2 → IVec S16 32) a x).toNat < S256x128.size a)
theorem k0_idx71_inb : ∀ (v50 : IVec S16 32) (v605 : IVec S16 32) (k0_hw71 : k0_chk71 v50 v605), ∀ a x, ((![v50, v605] : Fin 2 → IVec S16 32) a x).toNat < S256x128.size a := fun v50 v605 k0_hw71 => k0_hw71

def k0_chk72 (v50 : IVec S16 32) (v613 : IVec S16 32) : Prop :=
  (∀ a x, ((![v50, v613] : Fin 2 → IVec S16 32) a x).toNat < S256x128.size a)
theorem k0_idx72_inb : ∀ (v50 : IVec S16 32) (v613 : IVec S16 32) (k0_hw72 : k0_chk72 v50 v613), ∀ a x, ((![v50, v613] : Fin 2 → IVec S16 32) a x).toNat < S256x128.size a := fun v50 v613 k0_hw72 => k0_hw72

def k0_chk73 (v50 : IVec S16 32) (v621 : IVec S16 32) : Prop :=
  (∀ a x, ((![v50, v621] : Fin 2 → IVec S16 32) a x).toNat < S256x128.size a)
theorem k0_idx73_inb : ∀ (v50 : IVec S16 32) (v621 : IVec S16 32) (k0_hw73 : k0_chk73 v50 v621), ∀ a x, ((![v50, v621] : Fin 2 → IVec S16 32) a x).toNat < S256x128.size a := fun v50 v621 k0_hw73 => k0_hw73

def k0_chk74 (v50 : IVec S16 32) (v628 : IVec S16 32) : Prop :=
  (∀ a x, ((![v50, v628] : Fin 2 → IVec S16 32) a x).toNat < S256x128.size a)
theorem k0_idx74_inb : ∀ (v50 : IVec S16 32) (v628 : IVec S16 32) (k0_hw74 : k0_chk74 v50 v628), ∀ a x, ((![v50, v628] : Fin 2 → IVec S16 32) a x).toNat < S256x128.size a := fun v50 v628 k0_hw74 => k0_hw74

def k0_chk75 (v50 : IVec S16 32) (v636 : IVec S16 32) : Prop :=
  (∀ a x, ((![v50, v636] : Fin 2 → IVec S16 32) a x).toNat < S256x128.size a)
theorem k0_idx75_inb : ∀ (v50 : IVec S16 32) (v636 : IVec S16 32) (k0_hw75 : k0_chk75 v50 v636), ∀ a x, ((![v50, v636] : Fin 2 → IVec S16 32) a x).toNat < S256x128.size a := fun v50 v636 k0_hw75 => k0_hw75

def k0_chk76 (v50 : IVec S16 32) (v644 : IVec S16 32) : Prop :=
  (∀ a x, ((![v50, v644] : Fin 2 → IVec S16 32) a x).toNat < S256x128.size a)
theorem k0_idx76_inb : ∀ (v50 : IVec S16 32) (v644 : IVec S16 32) (k0_hw76 : k0_chk76 v50 v644), ∀ a x, ((![v50, v644] : Fin 2 → IVec S16 32) a x).toNat < S256x128.size a := fun v50 v644 k0_hw76 => k0_hw76

def k0_chk77 (v50 : IVec S16 32) (v652 : IVec S16 32) : Prop :=
  (∀ a x, ((![v50, v652] : Fin 2 → IVec S16 32) a x).toNat < S256x128.size a)
theorem k0_idx77_inb : ∀ (v50 : IVec S16 32) (v652 : IVec S16 32) (k0_hw77 : k0_chk77 v50 v652), ∀ a x, ((![v50, v652] : Fin 2 → IVec S16 32) a x).toNat < S256x128.size a := fun v50 v652 k0_hw77 => k0_hw77

def k0_chk78 (v50 : IVec S16 32) (v660 : IVec S16 32) : Prop :=
  (∀ a x, ((![v50, v660] : Fin 2 → IVec S16 32) a x).toNat < S256x128.size a)
theorem k0_idx78_inb : ∀ (v50 : IVec S16 32) (v660 : IVec S16 32) (k0_hw78 : k0_chk78 v50 v660), ∀ a x, ((![v50, v660] : Fin 2 → IVec S16 32) a x).toNat < S256x128.size a := fun v50 v660 k0_hw78 => k0_hw78

def k0_chk79 (v50 : IVec S16 32) (v668 : IVec S16 32) : Prop :=
  (∀ a x, ((![v50, v668] : Fin 2 → IVec S16 32) a x).toNat < S256x128.size a)
theorem k0_idx79_inb : ∀ (v50 : IVec S16 32) (v668 : IVec S16 32) (k0_hw79 : k0_chk79 v50 v668), ∀ a x, ((![v50, v668] : Fin 2 → IVec S16 32) a x).toNat < S256x128.size a := fun v50 v668 k0_hw79 => k0_hw79

def k0_chk80 (v50 : IVec S16 32) (v676 : IVec S16 32) : Prop :=
  (∀ a x, ((![v50, v676] : Fin 2 → IVec S16 32) a x).toNat < S256x128.size a)
theorem k0_idx80_inb : ∀ (v50 : IVec S16 32) (v676 : IVec S16 32) (k0_hw80 : k0_chk80 v50 v676), ∀ a x, ((![v50, v676] : Fin 2 → IVec S16 32) a x).toNat < S256x128.size a := fun v50 v676 k0_hw80 => k0_hw80

def k0_chk81 (v50 : IVec S16 32) (v684 : IVec S16 32) : Prop :=
  (∀ a x, ((![v50, v684] : Fin 2 → IVec S16 32) a x).toNat < S256x128.size a)
theorem k0_idx81_inb : ∀ (v50 : IVec S16 32) (v684 : IVec S16 32) (k0_hw81 : k0_chk81 v50 v684), ∀ a x, ((![v50, v684] : Fin 2 → IVec S16 32) a x).toNat < S256x128.size a := fun v50 v684 k0_hw81 => k0_hw81

def k0_chk82 (v50 : IVec S16 32) (v691 : IVec S16 32) : Prop :=
  (∀ a x, ((![v50, v691] : Fin 2 → IVec S16 32) a x).toNat < S256x128.size a)
theorem k0_idx82_inb : ∀ (v50 : IVec S16 32) (v691 : IVec S16 32) (k0_hw82 : k0_chk82 v50 v691), ∀ a x, ((![v50, v691] : Fin 2 → IVec S16 32) a x).toNat < S256x128.size a := fun v50 v691 k0_hw82 => k0_hw82

def k0_chk83 (v50 : IVec S16 32) (v699 : IVec S16 32) : Prop :=
  (∀ a x, ((![v50, v699] : Fin 2 → IVec S16 32) a x).toNat < S256x128.size a)
theorem k0_idx83_inb : ∀ (v50 : IVec S16 32) (v699 : IVec S16 32) (k0_hw83 : k0_chk83 v50 v699), ∀ a x, ((![v50, v699] : Fin 2 → IVec S16 32) a x).toNat < S256x128.size a := fun v50 v699 k0_hw83 => k0_hw83

def k0_chk84 (v50 : IVec S16 32) (v707 : IVec S16 32) : Prop :=
  (∀ a x, ((![v50, v707] : Fin 2 → IVec S16 32) a x).toNat < S256x128.size a)
theorem k0_idx84_inb : ∀ (v50 : IVec S16 32) (v707 : IVec S16 32) (k0_hw84 : k0_chk84 v50 v707), ∀ a x, ((![v50, v707] : Fin 2 → IVec S16 32) a x).toNat < S256x128.size a := fun v50 v707 k0_hw84 => k0_hw84

def k0_chk85 (v50 : IVec S16 32) (v715 : IVec S16 32) : Prop :=
  (∀ a x, ((![v50, v715] : Fin 2 → IVec S16 32) a x).toNat < S256x128.size a)
theorem k0_idx85_inb : ∀ (v50 : IVec S16 32) (v715 : IVec S16 32) (k0_hw85 : k0_chk85 v50 v715), ∀ a x, ((![v50, v715] : Fin 2 → IVec S16 32) a x).toNat < S256x128.size a := fun v50 v715 k0_hw85 => k0_hw85

def k0_chk86 (v50 : IVec S16 32) (v723 : IVec S16 32) : Prop :=
  (∀ a x, ((![v50, v723] : Fin 2 → IVec S16 32) a x).toNat < S256x128.size a)
theorem k0_idx86_inb : ∀ (v50 : IVec S16 32) (v723 : IVec S16 32) (k0_hw86 : k0_chk86 v50 v723), ∀ a x, ((![v50, v723] : Fin 2 → IVec S16 32) a x).toNat < S256x128.size a := fun v50 v723 k0_hw86 => k0_hw86

def k0_chk87 (v50 : IVec S16 32) (v731 : IVec S16 32) : Prop :=
  (∀ a x, ((![v50, v731] : Fin 2 → IVec S16 32) a x).toNat < S256x128.size a)
theorem k0_idx87_inb : ∀ (v50 : IVec S16 32) (v731 : IVec S16 32) (k0_hw87 : k0_chk87 v50 v731), ∀ a x, ((![v50, v731] : Fin 2 → IVec S16 32) a x).toNat < S256x128.size a := fun v50 v731 k0_hw87 => k0_hw87

def k0_chk88 (v50 : IVec S16 32) (v739 : IVec S16 32) : Prop :=
  (∀ a x, ((![v50, v739] : Fin 2 → IVec S16 32) a x).toNat < S256x128.size a)
theorem k0_idx88_inb : ∀ (v50 : IVec S16 32) (v739 : IVec S16 32) (k0_hw88 : k0_chk88 v50 v739), ∀ a x, ((![v50, v739] : Fin 2 → IVec S16 32) a x).toNat < S256x128.size a := fun v50 v739 k0_hw88 => k0_hw88

def k0_chk89 (v50 : IVec S16 32) (v747 : IVec S16 32) : Prop :=
  (∀ a x, ((![v50, v747] : Fin 2 → IVec S16 32) a x).toNat < S256x128.size a)
theorem k0_idx89_inb : ∀ (v50 : IVec S16 32) (v747 : IVec S16 32) (k0_hw89 : k0_chk89 v50 v747), ∀ a x, ((![v50, v747] : Fin 2 → IVec S16 32) a x).toNat < S256x128.size a := fun v50 v747 k0_hw89 => k0_hw89

def k0_chk90 (v50 : IVec S16 32) (v754 : IVec S16 32) : Prop :=
  (∀ a x, ((![v50, v754] : Fin 2 → IVec S16 32) a x).toNat < S256x128.size a)
theorem k0_idx90_inb : ∀ (v50 : IVec S16 32) (v754 : IVec S16 32) (k0_hw90 : k0_chk90 v50 v754), ∀ a x, ((![v50, v754] : Fin 2 → IVec S16 32) a x).toNat < S256x128.size a := fun v50 v754 k0_hw90 => k0_hw90

def k0_chk91 (v50 : IVec S16 32) (v762 : IVec S16 32) : Prop :=
  (∀ a x, ((![v50, v762] : Fin 2 → IVec S16 32) a x).toNat < S256x128.size a)
theorem k0_idx91_inb : ∀ (v50 : IVec S16 32) (v762 : IVec S16 32) (k0_hw91 : k0_chk91 v50 v762), ∀ a x, ((![v50, v762] : Fin 2 → IVec S16 32) a x).toNat < S256x128.size a := fun v50 v762 k0_hw91 => k0_hw91

def k0_chk92 (v50 : IVec S16 32) (v770 : IVec S16 32) : Prop :=
  (∀ a x, ((![v50, v770] : Fin 2 → IVec S16 32) a x).toNat < S256x128.size a)
theorem k0_idx92_inb : ∀ (v50 : IVec S16 32) (v770 : IVec S16 32) (k0_hw92 : k0_chk92 v50 v770), ∀ a x, ((![v50, v770] : Fin 2 → IVec S16 32) a x).toNat < S256x128.size a := fun v50 v770 k0_hw92 => k0_hw92

def k0_chk93 (v50 : IVec S16 32) (v778 : IVec S16 32) : Prop :=
  (∀ a x, ((![v50, v778] : Fin 2 → IVec S16 32) a x).toNat < S256x128.size a)
theorem k0_idx93_inb : ∀ (v50 : IVec S16 32) (v778 : IVec S16 32) (k0_hw93 : k0_chk93 v50 v778), ∀ a x, ((![v50, v778] : Fin 2 → IVec S16 32) a x).toNat < S256x128.size a := fun v50 v778 k0_hw93 => k0_hw93

def k0_chk94 (v50 : IVec S16 32) (v786 : IVec S16 32) : Prop :=
  (∀ a x, ((![v50, v786] : Fin 2 → IVec S16 32) a x).toNat < S256x128.size a)
theorem k0_idx94_inb : ∀ (v50 : IVec S16 32) (v786 : IVec S16 32) (k0_hw94 : k0_chk94 v50 v786), ∀ a x, ((![v50, v786] : Fin 2 → IVec S16 32) a x).toNat < S256x128.size a := fun v50 v786 k0_hw94 => k0_hw94

def k0_chk95 (v50 : IVec S16 32) (v794 : IVec S16 32) : Prop :=
  (∀ a x, ((![v50, v794] : Fin 2 → IVec S16 32) a x).toNat < S256x128.size a)
theorem k0_idx95_inb : ∀ (v50 : IVec S16 32) (v794 : IVec S16 32) (k0_hw95 : k0_chk95 v50 v794), ∀ a x, ((![v50, v794] : Fin 2 → IVec S16 32) a x).toNat < S256x128.size a := fun v50 v794 k0_hw95 => k0_hw95

def k0_chk96 (v50 : IVec S16 32) (v802 : IVec S16 32) : Prop :=
  (∀ a x, ((![v50, v802] : Fin 2 → IVec S16 32) a x).toNat < S256x128.size a)
theorem k0_idx96_inb : ∀ (v50 : IVec S16 32) (v802 : IVec S16 32) (k0_hw96 : k0_chk96 v50 v802), ∀ a x, ((![v50, v802] : Fin 2 → IVec S16 32) a x).toNat < S256x128.size a := fun v50 v802 k0_hw96 => k0_hw96

def k0_chk97 (v812 : IVec S16 32) : Prop :=
  (∀ a x, ((![v812] : Fin 1 → IVec S16 32) a x).toNat < S48.size a)
theorem k0_idx97_inb : ∀ (v812 : IVec S16 32) (k0_hw97 : k0_chk97 v812), ∀ a x, ((![v812] : Fin 1 → IVec S16 32) a x).toNat < S48.size a := fun v812 k0_hw97 => k0_hw97

def k0_chk98 (v50 : IVec S16 32) (v815 : IVec S16 32) : Prop :=
  (∀ a x, ((![v50, v815] : Fin 2 → IVec S16 32) a x).toNat < S256x128.size a)
theorem k0_idx98_inb : ∀ (v50 : IVec S16 32) (v815 : IVec S16 32) (k0_hw98 : k0_chk98 v50 v815), ∀ a x, ((![v50, v815] : Fin 2 → IVec S16 32) a x).toNat < S256x128.size a := fun v50 v815 k0_hw98 => k0_hw98

def k0_chk99 (v824 : IVec S16 32) : Prop :=
  (∀ a x, ((![v824] : Fin 1 → IVec S16 32) a x).toNat < S48.size a)
theorem k0_idx99_inb : ∀ (v824 : IVec S16 32) (k0_hw99 : k0_chk99 v824), ∀ a x, ((![v824] : Fin 1 → IVec S16 32) a x).toNat < S48.size a := fun v824 k0_hw99 => k0_hw99

def k0_chk100 (v50 : IVec S16 32) (v827 : IVec S16 32) : Prop :=
  (∀ a x, ((![v50, v827] : Fin 2 → IVec S16 32) a x).toNat < S256x128.size a)
theorem k0_idx100_inb : ∀ (v50 : IVec S16 32) (v827 : IVec S16 32) (k0_hw100 : k0_chk100 v50 v827), ∀ a x, ((![v50, v827] : Fin 2 → IVec S16 32) a x).toNat < S256x128.size a := fun v50 v827 k0_hw100 => k0_hw100

def k0_chk101 (v836 : IVec S16 32) : Prop :=
  (∀ a x, ((![v836] : Fin 1 → IVec S16 32) a x).toNat < S48.size a)
theorem k0_idx101_inb : ∀ (v836 : IVec S16 32) (k0_hw101 : k0_chk101 v836), ∀ a x, ((![v836] : Fin 1 → IVec S16 32) a x).toNat < S48.size a := fun v836 k0_hw101 => k0_hw101

def k0_chk102 (v50 : IVec S16 32) (v839 : IVec S16 32) : Prop :=
  (∀ a x, ((![v50, v839] : Fin 2 → IVec S16 32) a x).toNat < S256x128.size a)
theorem k0_idx102_inb : ∀ (v50 : IVec S16 32) (v839 : IVec S16 32) (k0_hw102 : k0_chk102 v50 v839), ∀ a x, ((![v50, v839] : Fin 2 → IVec S16 32) a x).toNat < S256x128.size a := fun v50 v839 k0_hw102 => k0_hw102

def k0_chk103 (v848 : IVec S16 32) : Prop :=
  (∀ a x, ((![v848] : Fin 1 → IVec S16 32) a x).toNat < S48.size a)
theorem k0_idx103_inb : ∀ (v848 : IVec S16 32) (k0_hw103 : k0_chk103 v848), ∀ a x, ((![v848] : Fin 1 → IVec S16 32) a x).toNat < S48.size a := fun v848 k0_hw103 => k0_hw103

def k0_chk104 (v50 : IVec S16 32) (v851 : IVec S16 32) : Prop :=
  (∀ a x, ((![v50, v851] : Fin 2 → IVec S16 32) a x).toNat < S256x128.size a)
theorem k0_idx104_inb : ∀ (v50 : IVec S16 32) (v851 : IVec S16 32) (k0_hw104 : k0_chk104 v50 v851), ∀ a x, ((![v50, v851] : Fin 2 → IVec S16 32) a x).toNat < S256x128.size a := fun v50 v851 k0_hw104 => k0_hw104

def k0_chk105 (v860 : IVec S16 32) : Prop :=
  (∀ a x, ((![v860] : Fin 1 → IVec S16 32) a x).toNat < S48.size a)
theorem k0_idx105_inb : ∀ (v860 : IVec S16 32) (k0_hw105 : k0_chk105 v860), ∀ a x, ((![v860] : Fin 1 → IVec S16 32) a x).toNat < S48.size a := fun v860 k0_hw105 => k0_hw105

def k0_chk106 (v50 : IVec S16 32) (v863 : IVec S16 32) : Prop :=
  (∀ a x, ((![v50, v863] : Fin 2 → IVec S16 32) a x).toNat < S256x128.size a)
theorem k0_idx106_inb : ∀ (v50 : IVec S16 32) (v863 : IVec S16 32) (k0_hw106 : k0_chk106 v50 v863), ∀ a x, ((![v50, v863] : Fin 2 → IVec S16 32) a x).toNat < S256x128.size a := fun v50 v863 k0_hw106 => k0_hw106

def k0_chk107 (v872 : IVec S16 32) : Prop :=
  (∀ a x, ((![v872] : Fin 1 → IVec S16 32) a x).toNat < S48.size a)
theorem k0_idx107_inb : ∀ (v872 : IVec S16 32) (k0_hw107 : k0_chk107 v872), ∀ a x, ((![v872] : Fin 1 → IVec S16 32) a x).toNat < S48.size a := fun v872 k0_hw107 => k0_hw107

def k0_chk108 (v50 : IVec S16 32) (v875 : IVec S16 32) : Prop :=
  (∀ a x, ((![v50, v875] : Fin 2 → IVec S16 32) a x).toNat < S256x128.size a)
theorem k0_idx108_inb : ∀ (v50 : IVec S16 32) (v875 : IVec S16 32) (k0_hw108 : k0_chk108 v50 v875), ∀ a x, ((![v50, v875] : Fin 2 → IVec S16 32) a x).toNat < S256x128.size a := fun v50 v875 k0_hw108 => k0_hw108

def k0_chk109 (v884 : IVec S16 32) : Prop :=
  (∀ a x, ((![v884] : Fin 1 → IVec S16 32) a x).toNat < S48.size a)
theorem k0_idx109_inb : ∀ (v884 : IVec S16 32) (k0_hw109 : k0_chk109 v884), ∀ a x, ((![v884] : Fin 1 → IVec S16 32) a x).toNat < S48.size a := fun v884 k0_hw109 => k0_hw109

def k0_chk110 (v50 : IVec S16 32) (v887 : IVec S16 32) : Prop :=
  (∀ a x, ((![v50, v887] : Fin 2 → IVec S16 32) a x).toNat < S256x128.size a)
theorem k0_idx110_inb : ∀ (v50 : IVec S16 32) (v887 : IVec S16 32) (k0_hw110 : k0_chk110 v50 v887), ∀ a x, ((![v50, v887] : Fin 2 → IVec S16 32) a x).toNat < S256x128.size a := fun v50 v887 k0_hw110 => k0_hw110

def k0_chk111 (v896 : IVec S16 32) : Prop :=
  (∀ a x, ((![v896] : Fin 1 → IVec S16 32) a x).toNat < S48.size a)
theorem k0_idx111_inb : ∀ (v896 : IVec S16 32) (k0_hw111 : k0_chk111 v896), ∀ a x, ((![v896] : Fin 1 → IVec S16 32) a x).toNat < S48.size a := fun v896 k0_hw111 => k0_hw111

def k0_chk112 (v50 : IVec S16 32) (v899 : IVec S16 32) : Prop :=
  (∀ a x, ((![v50, v899] : Fin 2 → IVec S16 32) a x).toNat < S256x128.size a)
theorem k0_idx112_inb : ∀ (v50 : IVec S16 32) (v899 : IVec S16 32) (k0_hw112 : k0_chk112 v50 v899), ∀ a x, ((![v50, v899] : Fin 2 → IVec S16 32) a x).toNat < S256x128.size a := fun v50 v899 k0_hw112 => k0_hw112

def k0_chk113 (v908 : IVec S16 32) : Prop :=
  (∀ a x, ((![v908] : Fin 1 → IVec S16 32) a x).toNat < S48.size a)
theorem k0_idx113_inb : ∀ (v908 : IVec S16 32) (k0_hw113 : k0_chk113 v908), ∀ a x, ((![v908] : Fin 1 → IVec S16 32) a x).toNat < S48.size a := fun v908 k0_hw113 => k0_hw113

def k0_chk114 (v50 : IVec S16 32) (v911 : IVec S16 32) : Prop :=
  (∀ a x, ((![v50, v911] : Fin 2 → IVec S16 32) a x).toNat < S256x128.size a)
theorem k0_idx114_inb : ∀ (v50 : IVec S16 32) (v911 : IVec S16 32) (k0_hw114 : k0_chk114 v50 v911), ∀ a x, ((![v50, v911] : Fin 2 → IVec S16 32) a x).toNat < S256x128.size a := fun v50 v911 k0_hw114 => k0_hw114

def k0_chk115 (v920 : IVec S16 32) : Prop :=
  (∀ a x, ((![v920] : Fin 1 → IVec S16 32) a x).toNat < S48.size a)
theorem k0_idx115_inb : ∀ (v920 : IVec S16 32) (k0_hw115 : k0_chk115 v920), ∀ a x, ((![v920] : Fin 1 → IVec S16 32) a x).toNat < S48.size a := fun v920 k0_hw115 => k0_hw115

def k0_chk116 (v50 : IVec S16 32) (v923 : IVec S16 32) : Prop :=
  (∀ a x, ((![v50, v923] : Fin 2 → IVec S16 32) a x).toNat < S256x128.size a)
theorem k0_idx116_inb : ∀ (v50 : IVec S16 32) (v923 : IVec S16 32) (k0_hw116 : k0_chk116 v50 v923), ∀ a x, ((![v50, v923] : Fin 2 → IVec S16 32) a x).toNat < S256x128.size a := fun v50 v923 k0_hw116 => k0_hw116

def k0_chk117 (v932 : IVec S16 32) : Prop :=
  (∀ a x, ((![v932] : Fin 1 → IVec S16 32) a x).toNat < S48.size a)
theorem k0_idx117_inb : ∀ (v932 : IVec S16 32) (k0_hw117 : k0_chk117 v932), ∀ a x, ((![v932] : Fin 1 → IVec S16 32) a x).toNat < S48.size a := fun v932 k0_hw117 => k0_hw117

def k0_chk118 (v50 : IVec S16 32) (v935 : IVec S16 32) : Prop :=
  (∀ a x, ((![v50, v935] : Fin 2 → IVec S16 32) a x).toNat < S256x128.size a)
theorem k0_idx118_inb : ∀ (v50 : IVec S16 32) (v935 : IVec S16 32) (k0_hw118 : k0_chk118 v50 v935), ∀ a x, ((![v50, v935] : Fin 2 → IVec S16 32) a x).toNat < S256x128.size a := fun v50 v935 k0_hw118 => k0_hw118

def k0_chk119 (v944 : IVec S16 32) : Prop :=
  (∀ a x, ((![v944] : Fin 1 → IVec S16 32) a x).toNat < S48.size a)
theorem k0_idx119_inb : ∀ (v944 : IVec S16 32) (k0_hw119 : k0_chk119 v944), ∀ a x, ((![v944] : Fin 1 → IVec S16 32) a x).toNat < S48.size a := fun v944 k0_hw119 => k0_hw119

def k0_chk120 (v50 : IVec S16 32) (v947 : IVec S16 32) : Prop :=
  (∀ a x, ((![v50, v947] : Fin 2 → IVec S16 32) a x).toNat < S256x128.size a)
theorem k0_idx120_inb : ∀ (v50 : IVec S16 32) (v947 : IVec S16 32) (k0_hw120 : k0_chk120 v50 v947), ∀ a x, ((![v50, v947] : Fin 2 → IVec S16 32) a x).toNat < S256x128.size a := fun v50 v947 k0_hw120 => k0_hw120

def k0_chk121 (v956 : IVec S16 32) : Prop :=
  (∀ a x, ((![v956] : Fin 1 → IVec S16 32) a x).toNat < S48.size a)
theorem k0_idx121_inb : ∀ (v956 : IVec S16 32) (k0_hw121 : k0_chk121 v956), ∀ a x, ((![v956] : Fin 1 → IVec S16 32) a x).toNat < S48.size a := fun v956 k0_hw121 => k0_hw121

def k0_chk122 (v50 : IVec S16 32) (v959 : IVec S16 32) : Prop :=
  (∀ a x, ((![v50, v959] : Fin 2 → IVec S16 32) a x).toNat < S256x128.size a)
theorem k0_idx122_inb : ∀ (v50 : IVec S16 32) (v959 : IVec S16 32) (k0_hw122 : k0_chk122 v50 v959), ∀ a x, ((![v50, v959] : Fin 2 → IVec S16 32) a x).toNat < S256x128.size a := fun v50 v959 k0_hw122 => k0_hw122

def k0_chk123 (v968 : IVec S16 32) : Prop :=
  (∀ a x, ((![v968] : Fin 1 → IVec S16 32) a x).toNat < S48.size a)
theorem k0_idx123_inb : ∀ (v968 : IVec S16 32) (k0_hw123 : k0_chk123 v968), ∀ a x, ((![v968] : Fin 1 → IVec S16 32) a x).toNat < S48.size a := fun v968 k0_hw123 => k0_hw123

def k0_chk124 (v50 : IVec S16 32) (v971 : IVec S16 32) : Prop :=
  (∀ a x, ((![v50, v971] : Fin 2 → IVec S16 32) a x).toNat < S256x128.size a)
theorem k0_idx124_inb : ∀ (v50 : IVec S16 32) (v971 : IVec S16 32) (k0_hw124 : k0_chk124 v50 v971), ∀ a x, ((![v50, v971] : Fin 2 → IVec S16 32) a x).toNat < S256x128.size a := fun v50 v971 k0_hw124 => k0_hw124

def k0_chk125 (v980 : IVec S16 32) : Prop :=
  (∀ a x, ((![v980] : Fin 1 → IVec S16 32) a x).toNat < S48.size a)
theorem k0_idx125_inb : ∀ (v980 : IVec S16 32) (k0_hw125 : k0_chk125 v980), ∀ a x, ((![v980] : Fin 1 → IVec S16 32) a x).toNat < S48.size a := fun v980 k0_hw125 => k0_hw125

def k0_chk126 (v50 : IVec S16 32) (v983 : IVec S16 32) : Prop :=
  (∀ a x, ((![v50, v983] : Fin 2 → IVec S16 32) a x).toNat < S256x128.size a)
theorem k0_idx126_inb : ∀ (v50 : IVec S16 32) (v983 : IVec S16 32) (k0_hw126 : k0_chk126 v50 v983), ∀ a x, ((![v50, v983] : Fin 2 → IVec S16 32) a x).toNat < S256x128.size a := fun v50 v983 k0_hw126 => k0_hw126

def k0_chk127 (v992 : IVec S16 32) : Prop :=
  (∀ a x, ((![v992] : Fin 1 → IVec S16 32) a x).toNat < S48.size a)
theorem k0_idx127_inb : ∀ (v992 : IVec S16 32) (k0_hw127 : k0_chk127 v992), ∀ a x, ((![v992] : Fin 1 → IVec S16 32) a x).toNat < S48.size a := fun v992 k0_hw127 => k0_hw127

def k0_chk128 (v50 : IVec S16 32) (v995 : IVec S16 32) : Prop :=
  (∀ a x, ((![v50, v995] : Fin 2 → IVec S16 32) a x).toNat < S256x128.size a)
theorem k0_idx128_inb : ∀ (v50 : IVec S16 32) (v995 : IVec S16 32) (k0_hw128 : k0_chk128 v50 v995), ∀ a x, ((![v50, v995] : Fin 2 → IVec S16 32) a x).toNat < S256x128.size a := fun v50 v995 k0_hw128 => k0_hw128

def k0_chk129 (v1004 : IVec S16 32) : Prop :=
  (∀ a x, ((![v1004] : Fin 1 → IVec S16 32) a x).toNat < S48.size a)
theorem k0_idx129_inb : ∀ (v1004 : IVec S16 32) (k0_hw129 : k0_chk129 v1004), ∀ a x, ((![v1004] : Fin 1 → IVec S16 32) a x).toNat < S48.size a := fun v1004 k0_hw129 => k0_hw129

def k0_chk130 (v50 : IVec S16 32) (v1007 : IVec S16 32) : Prop :=
  (∀ a x, ((![v50, v1007] : Fin 2 → IVec S16 32) a x).toNat < S256x128.size a)
theorem k0_idx130_inb : ∀ (v50 : IVec S16 32) (v1007 : IVec S16 32) (k0_hw130 : k0_chk130 v50 v1007), ∀ a x, ((![v50, v1007] : Fin 2 → IVec S16 32) a x).toNat < S256x128.size a := fun v50 v1007 k0_hw130 => k0_hw130

def k0_chk131 (v1016 : IVec S16 32) : Prop :=
  (∀ a x, ((![v1016] : Fin 1 → IVec S16 32) a x).toNat < S48.size a)
theorem k0_idx131_inb : ∀ (v1016 : IVec S16 32) (k0_hw131 : k0_chk131 v1016), ∀ a x, ((![v1016] : Fin 1 → IVec S16 32) a x).toNat < S48.size a := fun v1016 k0_hw131 => k0_hw131

def k0_chk132 (v50 : IVec S16 32) (v1019 : IVec S16 32) : Prop :=
  (∀ a x, ((![v50, v1019] : Fin 2 → IVec S16 32) a x).toNat < S256x128.size a)
theorem k0_idx132_inb : ∀ (v50 : IVec S16 32) (v1019 : IVec S16 32) (k0_hw132 : k0_chk132 v50 v1019), ∀ a x, ((![v50, v1019] : Fin 2 → IVec S16 32) a x).toNat < S256x128.size a := fun v50 v1019 k0_hw132 => k0_hw132

def k0_chk133 (v1028 : IVec S16 32) : Prop :=
  (∀ a x, ((![v1028] : Fin 1 → IVec S16 32) a x).toNat < S48.size a)
theorem k0_idx133_inb : ∀ (v1028 : IVec S16 32) (k0_hw133 : k0_chk133 v1028), ∀ a x, ((![v1028] : Fin 1 → IVec S16 32) a x).toNat < S48.size a := fun v1028 k0_hw133 => k0_hw133

def k0_chk134 (v50 : IVec S16 32) (v1031 : IVec S16 32) : Prop :=
  (∀ a x, ((![v50, v1031] : Fin 2 → IVec S16 32) a x).toNat < S256x128.size a)
theorem k0_idx134_inb : ∀ (v50 : IVec S16 32) (v1031 : IVec S16 32) (k0_hw134 : k0_chk134 v50 v1031), ∀ a x, ((![v50, v1031] : Fin 2 → IVec S16 32) a x).toNat < S256x128.size a := fun v50 v1031 k0_hw134 => k0_hw134

def k0_chk135 (v1040 : IVec S16 32) : Prop :=
  (∀ a x, ((![v1040] : Fin 1 → IVec S16 32) a x).toNat < S48.size a)
theorem k0_idx135_inb : ∀ (v1040 : IVec S16 32) (k0_hw135 : k0_chk135 v1040), ∀ a x, ((![v1040] : Fin 1 → IVec S16 32) a x).toNat < S48.size a := fun v1040 k0_hw135 => k0_hw135

def k0_chk136 (v50 : IVec S16 32) (v1043 : IVec S16 32) : Prop :=
  (∀ a x, ((![v50, v1043] : Fin 2 → IVec S16 32) a x).toNat < S256x128.size a)
theorem k0_idx136_inb : ∀ (v50 : IVec S16 32) (v1043 : IVec S16 32) (k0_hw136 : k0_chk136 v50 v1043), ∀ a x, ((![v50, v1043] : Fin 2 → IVec S16 32) a x).toNat < S256x128.size a := fun v50 v1043 k0_hw136 => k0_hw136
def k0_off2 (k0_t1 : Fin k0_t1_loop.trips) : Fin 1 → Nat :=
  let c4_i32_2 : BitVec 32 := 4#32
  let c0_i32_0 : BitVec 32 := 0#32
  let c1_i32 : BitVec 32 := 1#32
  let arg8 : BitVec 32 := Scf.iv c0_i32_0 c1_i32 k0_t1
  let v46 : BitVec 32 := Scalar.muli c4_i32_2 arg8
  let c0_i32_3 : BitVec 32 := 0#32
  let v47 : BitVec 32 := Scalar.addi v46 c0_i32_3
  let c16_i32_336 : BitVec 32 := 16#32
  let v1047 : BitVec 32 := Scalar.muli v47 c16_i32_336
  let v1048 : Index := Scalar.indexCast v1047
  ![v1048.toNat]

def k0_chk137 (v1054 : IVec S16 32) (v1058 : IVec S16 32) : Prop :=
  (∀ a x, ((![v1054, v1058] : Fin 2 → IVec S16 32) a x).toNat < S256x128.size a)
theorem k0_idx137_inb : ∀ (v1054 : IVec S16 32) (v1058 : IVec S16 32) (k0_hw137 : k0_chk137 v1054 v1058), ∀ a x, ((![v1054, v1058] : Fin 2 → IVec S16 32) a x).toNat < S256x128.size a := fun v1054 v1058 k0_hw137 => k0_hw137

def k0_chk138 (v1054 : IVec S16 32) (v1065 : IVec S16 32) : Prop :=
  (∀ a x, ((![v1054, v1065] : Fin 2 → IVec S16 32) a x).toNat < S256x128.size a)
theorem k0_idx138_inb : ∀ (v1054 : IVec S16 32) (v1065 : IVec S16 32) (k0_hw138 : k0_chk138 v1054 v1065), ∀ a x, ((![v1054, v1065] : Fin 2 → IVec S16 32) a x).toNat < S256x128.size a := fun v1054 v1065 k0_hw138 => k0_hw138

def k0_chk139 (v1054 : IVec S16 32) (v1073 : IVec S16 32) : Prop :=
  (∀ a x, ((![v1054, v1073] : Fin 2 → IVec S16 32) a x).toNat < S256x128.size a)
theorem k0_idx139_inb : ∀ (v1054 : IVec S16 32) (v1073 : IVec S16 32) (k0_hw139 : k0_chk139 v1054 v1073), ∀ a x, ((![v1054, v1073] : Fin 2 → IVec S16 32) a x).toNat < S256x128.size a := fun v1054 v1073 k0_hw139 => k0_hw139

def k0_chk140 (v1054 : IVec S16 32) (v1081 : IVec S16 32) : Prop :=
  (∀ a x, ((![v1054, v1081] : Fin 2 → IVec S16 32) a x).toNat < S256x128.size a)
theorem k0_idx140_inb : ∀ (v1054 : IVec S16 32) (v1081 : IVec S16 32) (k0_hw140 : k0_chk140 v1054 v1081), ∀ a x, ((![v1054, v1081] : Fin 2 → IVec S16 32) a x).toNat < S256x128.size a := fun v1054 v1081 k0_hw140 => k0_hw140

def k0_chk141 (v1054 : IVec S16 32) (v1089 : IVec S16 32) : Prop :=
  (∀ a x, ((![v1054, v1089] : Fin 2 → IVec S16 32) a x).toNat < S256x128.size a)
theorem k0_idx141_inb : ∀ (v1054 : IVec S16 32) (v1089 : IVec S16 32) (k0_hw141 : k0_chk141 v1054 v1089), ∀ a x, ((![v1054, v1089] : Fin 2 → IVec S16 32) a x).toNat < S256x128.size a := fun v1054 v1089 k0_hw141 => k0_hw141

def k0_chk142 (v1054 : IVec S16 32) (v1097 : IVec S16 32) : Prop :=
  (∀ a x, ((![v1054, v1097] : Fin 2 → IVec S16 32) a x).toNat < S256x128.size a)
theorem k0_idx142_inb : ∀ (v1054 : IVec S16 32) (v1097 : IVec S16 32) (k0_hw142 : k0_chk142 v1054 v1097), ∀ a x, ((![v1054, v1097] : Fin 2 → IVec S16 32) a x).toNat < S256x128.size a := fun v1054 v1097 k0_hw142 => k0_hw142

def k0_chk143 (v1054 : IVec S16 32) (v1105 : IVec S16 32) : Prop :=
  (∀ a x, ((![v1054, v1105] : Fin 2 → IVec S16 32) a x).toNat < S256x128.size a)
theorem k0_idx143_inb : ∀ (v1054 : IVec S16 32) (v1105 : IVec S16 32) (k0_hw143 : k0_chk143 v1054 v1105), ∀ a x, ((![v1054, v1105] : Fin 2 → IVec S16 32) a x).toNat < S256x128.size a := fun v1054 v1105 k0_hw143 => k0_hw143

def k0_chk144 (v1054 : IVec S16 32) (v1113 : IVec S16 32) : Prop :=
  (∀ a x, ((![v1054, v1113] : Fin 2 → IVec S16 32) a x).toNat < S256x128.size a)
theorem k0_idx144_inb : ∀ (v1054 : IVec S16 32) (v1113 : IVec S16 32) (k0_hw144 : k0_chk144 v1054 v1113), ∀ a x, ((![v1054, v1113] : Fin 2 → IVec S16 32) a x).toNat < S256x128.size a := fun v1054 v1113 k0_hw144 => k0_hw144

def k0_chk145 (v1054 : IVec S16 32) (v1121 : IVec S16 32) : Prop :=
  (∀ a x, ((![v1054, v1121] : Fin 2 → IVec S16 32) a x).toNat < S256x128.size a)
theorem k0_idx145_inb : ∀ (v1054 : IVec S16 32) (v1121 : IVec S16 32) (k0_hw145 : k0_chk145 v1054 v1121), ∀ a x, ((![v1054, v1121] : Fin 2 → IVec S16 32) a x).toNat < S256x128.size a := fun v1054 v1121 k0_hw145 => k0_hw145

def k0_chk146 (v1054 : IVec S16 32) (v1128 : IVec S16 32) : Prop :=
  (∀ a x, ((![v1054, v1128] : Fin 2 → IVec S16 32) a x).toNat < S256x128.size a)
theorem k0_idx146_inb : ∀ (v1054 : IVec S16 32) (v1128 : IVec S16 32) (k0_hw146 : k0_chk146 v1054 v1128), ∀ a x, ((![v1054, v1128] : Fin 2 → IVec S16 32) a x).toNat < S256x128.size a := fun v1054 v1128 k0_hw146 => k0_hw146

def k0_chk147 (v1054 : IVec S16 32) (v1136 : IVec S16 32) : Prop :=
  (∀ a x, ((![v1054, v1136] : Fin 2 → IVec S16 32) a x).toNat < S256x128.size a)
theorem k0_idx147_inb : ∀ (v1054 : IVec S16 32) (v1136 : IVec S16 32) (k0_hw147 : k0_chk147 v1054 v1136), ∀ a x, ((![v1054, v1136] : Fin 2 → IVec S16 32) a x).toNat < S256x128.size a := fun v1054 v1136 k0_hw147 => k0_hw147

def k0_chk148 (v1054 : IVec S16 32) (v1144 : IVec S16 32) : Prop :=
  (∀ a x, ((![v1054, v1144] : Fin 2 → IVec S16 32) a x).toNat < S256x128.size a)
theorem k0_idx148_inb : ∀ (v1054 : IVec S16 32) (v1144 : IVec S16 32) (k0_hw148 : k0_chk148 v1054 v1144), ∀ a x, ((![v1054, v1144] : Fin 2 → IVec S16 32) a x).toNat < S256x128.size a := fun v1054 v1144 k0_hw148 => k0_hw148

def k0_chk149 (v1054 : IVec S16 32) (v1152 : IVec S16 32) : Prop :=
  (∀ a x, ((![v1054, v1152] : Fin 2 → IVec S16 32) a x).toNat < S256x128.size a)
theorem k0_idx149_inb : ∀ (v1054 : IVec S16 32) (v1152 : IVec S16 32) (k0_hw149 : k0_chk149 v1054 v1152), ∀ a x, ((![v1054, v1152] : Fin 2 → IVec S16 32) a x).toNat < S256x128.size a := fun v1054 v1152 k0_hw149 => k0_hw149

def k0_chk150 (v1054 : IVec S16 32) (v1160 : IVec S16 32) : Prop :=
  (∀ a x, ((![v1054, v1160] : Fin 2 → IVec S16 32) a x).toNat < S256x128.size a)
theorem k0_idx150_inb : ∀ (v1054 : IVec S16 32) (v1160 : IVec S16 32) (k0_hw150 : k0_chk150 v1054 v1160), ∀ a x, ((![v1054, v1160] : Fin 2 → IVec S16 32) a x).toNat < S256x128.size a := fun v1054 v1160 k0_hw150 => k0_hw150

def k0_chk151 (v1054 : IVec S16 32) (v1168 : IVec S16 32) : Prop :=
  (∀ a x, ((![v1054, v1168] : Fin 2 → IVec S16 32) a x).toNat < S256x128.size a)
theorem k0_idx151_inb : ∀ (v1054 : IVec S16 32) (v1168 : IVec S16 32) (k0_hw151 : k0_chk151 v1054 v1168), ∀ a x, ((![v1054, v1168] : Fin 2 → IVec S16 32) a x).toNat < S256x128.size a := fun v1054 v1168 k0_hw151 => k0_hw151

def k0_chk152 (v1054 : IVec S16 32) (v1176 : IVec S16 32) : Prop :=
  (∀ a x, ((![v1054, v1176] : Fin 2 → IVec S16 32) a x).toNat < S256x128.size a)
theorem k0_idx152_inb : ∀ (v1054 : IVec S16 32) (v1176 : IVec S16 32) (k0_hw152 : k0_chk152 v1054 v1176), ∀ a x, ((![v1054, v1176] : Fin 2 → IVec S16 32) a x).toNat < S256x128.size a := fun v1054 v1176 k0_hw152 => k0_hw152

def k0_chk153 (v1054 : IVec S16 32) (v1184 : IVec S16 32) : Prop :=
  (∀ a x, ((![v1054, v1184] : Fin 2 → IVec S16 32) a x).toNat < S256x128.size a)
theorem k0_idx153_inb : ∀ (v1054 : IVec S16 32) (v1184 : IVec S16 32) (k0_hw153 : k0_chk153 v1054 v1184), ∀ a x, ((![v1054, v1184] : Fin 2 → IVec S16 32) a x).toNat < S256x128.size a := fun v1054 v1184 k0_hw153 => k0_hw153

def k0_chk154 (v1054 : IVec S16 32) (v1191 : IVec S16 32) : Prop :=
  (∀ a x, ((![v1054, v1191] : Fin 2 → IVec S16 32) a x).toNat < S256x128.size a)
theorem k0_idx154_inb : ∀ (v1054 : IVec S16 32) (v1191 : IVec S16 32) (k0_hw154 : k0_chk154 v1054 v1191), ∀ a x, ((![v1054, v1191] : Fin 2 → IVec S16 32) a x).toNat < S256x128.size a := fun v1054 v1191 k0_hw154 => k0_hw154

def k0_chk155 (v1054 : IVec S16 32) (v1199 : IVec S16 32) : Prop :=
  (∀ a x, ((![v1054, v1199] : Fin 2 → IVec S16 32) a x).toNat < S256x128.size a)
theorem k0_idx155_inb : ∀ (v1054 : IVec S16 32) (v1199 : IVec S16 32) (k0_hw155 : k0_chk155 v1054 v1199), ∀ a x, ((![v1054, v1199] : Fin 2 → IVec S16 32) a x).toNat < S256x128.size a := fun v1054 v1199 k0_hw155 => k0_hw155

def k0_chk156 (v1054 : IVec S16 32) (v1207 : IVec S16 32) : Prop :=
  (∀ a x, ((![v1054, v1207] : Fin 2 → IVec S16 32) a x).toNat < S256x128.size a)
theorem k0_idx156_inb : ∀ (v1054 : IVec S16 32) (v1207 : IVec S16 32) (k0_hw156 : k0_chk156 v1054 v1207), ∀ a x, ((![v1054, v1207] : Fin 2 → IVec S16 32) a x).toNat < S256x128.size a := fun v1054 v1207 k0_hw156 => k0_hw156

def k0_chk157 (v1054 : IVec S16 32) (v1215 : IVec S16 32) : Prop :=
  (∀ a x, ((![v1054, v1215] : Fin 2 → IVec S16 32) a x).toNat < S256x128.size a)
theorem k0_idx157_inb : ∀ (v1054 : IVec S16 32) (v1215 : IVec S16 32) (k0_hw157 : k0_chk157 v1054 v1215), ∀ a x, ((![v1054, v1215] : Fin 2 → IVec S16 32) a x).toNat < S256x128.size a := fun v1054 v1215 k0_hw157 => k0_hw157

def k0_chk158 (v1054 : IVec S16 32) (v1223 : IVec S16 32) : Prop :=
  (∀ a x, ((![v1054, v1223] : Fin 2 → IVec S16 32) a x).toNat < S256x128.size a)
theorem k0_idx158_inb : ∀ (v1054 : IVec S16 32) (v1223 : IVec S16 32) (k0_hw158 : k0_chk158 v1054 v1223), ∀ a x, ((![v1054, v1223] : Fin 2 → IVec S16 32) a x).toNat < S256x128.size a := fun v1054 v1223 k0_hw158 => k0_hw158

def k0_chk159 (v1054 : IVec S16 32) (v1231 : IVec S16 32) : Prop :=
  (∀ a x, ((![v1054, v1231] : Fin 2 → IVec S16 32) a x).toNat < S256x128.size a)
theorem k0_idx159_inb : ∀ (v1054 : IVec S16 32) (v1231 : IVec S16 32) (k0_hw159 : k0_chk159 v1054 v1231), ∀ a x, ((![v1054, v1231] : Fin 2 → IVec S16 32) a x).toNat < S256x128.size a := fun v1054 v1231 k0_hw159 => k0_hw159

def k0_chk160 (v1054 : IVec S16 32) (v1239 : IVec S16 32) : Prop :=
  (∀ a x, ((![v1054, v1239] : Fin 2 → IVec S16 32) a x).toNat < S256x128.size a)
theorem k0_idx160_inb : ∀ (v1054 : IVec S16 32) (v1239 : IVec S16 32) (k0_hw160 : k0_chk160 v1054 v1239), ∀ a x, ((![v1054, v1239] : Fin 2 → IVec S16 32) a x).toNat < S256x128.size a := fun v1054 v1239 k0_hw160 => k0_hw160

def k0_chk161 (v1054 : IVec S16 32) (v1247 : IVec S16 32) : Prop :=
  (∀ a x, ((![v1054, v1247] : Fin 2 → IVec S16 32) a x).toNat < S256x128.size a)
theorem k0_idx161_inb : ∀ (v1054 : IVec S16 32) (v1247 : IVec S16 32) (k0_hw161 : k0_chk161 v1054 v1247), ∀ a x, ((![v1054, v1247] : Fin 2 → IVec S16 32) a x).toNat < S256x128.size a := fun v1054 v1247 k0_hw161 => k0_hw161

def k0_chk162 (v1054 : IVec S16 32) (v1254 : IVec S16 32) : Prop :=
  (∀ a x, ((![v1054, v1254] : Fin 2 → IVec S16 32) a x).toNat < S256x128.size a)
theorem k0_idx162_inb : ∀ (v1054 : IVec S16 32) (v1254 : IVec S16 32) (k0_hw162 : k0_chk162 v1054 v1254), ∀ a x, ((![v1054, v1254] : Fin 2 → IVec S16 32) a x).toNat < S256x128.size a := fun v1054 v1254 k0_hw162 => k0_hw162

def k0_chk163 (v1054 : IVec S16 32) (v1262 : IVec S16 32) : Prop :=
  (∀ a x, ((![v1054, v1262] : Fin 2 → IVec S16 32) a x).toNat < S256x128.size a)
theorem k0_idx163_inb : ∀ (v1054 : IVec S16 32) (v1262 : IVec S16 32) (k0_hw163 : k0_chk163 v1054 v1262), ∀ a x, ((![v1054, v1262] : Fin 2 → IVec S16 32) a x).toNat < S256x128.size a := fun v1054 v1262 k0_hw163 => k0_hw163

def k0_chk164 (v1054 : IVec S16 32) (v1270 : IVec S16 32) : Prop :=
  (∀ a x, ((![v1054, v1270] : Fin 2 → IVec S16 32) a x).toNat < S256x128.size a)
theorem k0_idx164_inb : ∀ (v1054 : IVec S16 32) (v1270 : IVec S16 32) (k0_hw164 : k0_chk164 v1054 v1270), ∀ a x, ((![v1054, v1270] : Fin 2 → IVec S16 32) a x).toNat < S256x128.size a := fun v1054 v1270 k0_hw164 => k0_hw164

def k0_chk165 (v1054 : IVec S16 32) (v1278 : IVec S16 32) : Prop :=
  (∀ a x, ((![v1054, v1278] : Fin 2 → IVec S16 32) a x).toNat < S256x128.size a)
theorem k0_idx165_inb : ∀ (v1054 : IVec S16 32) (v1278 : IVec S16 32) (k0_hw165 : k0_chk165 v1054 v1278), ∀ a x, ((![v1054, v1278] : Fin 2 → IVec S16 32) a x).toNat < S256x128.size a := fun v1054 v1278 k0_hw165 => k0_hw165

def k0_chk166 (v1054 : IVec S16 32) (v1286 : IVec S16 32) : Prop :=
  (∀ a x, ((![v1054, v1286] : Fin 2 → IVec S16 32) a x).toNat < S256x128.size a)
theorem k0_idx166_inb : ∀ (v1054 : IVec S16 32) (v1286 : IVec S16 32) (k0_hw166 : k0_chk166 v1054 v1286), ∀ a x, ((![v1054, v1286] : Fin 2 → IVec S16 32) a x).toNat < S256x128.size a := fun v1054 v1286 k0_hw166 => k0_hw166

def k0_chk167 (v1054 : IVec S16 32) (v1294 : IVec S16 32) : Prop :=
  (∀ a x, ((![v1054, v1294] : Fin 2 → IVec S16 32) a x).toNat < S256x128.size a)
theorem k0_idx167_inb : ∀ (v1054 : IVec S16 32) (v1294 : IVec S16 32) (k0_hw167 : k0_chk167 v1054 v1294), ∀ a x, ((![v1054, v1294] : Fin 2 → IVec S16 32) a x).toNat < S256x128.size a := fun v1054 v1294 k0_hw167 => k0_hw167

def k0_chk168 (v1054 : IVec S16 32) (v1302 : IVec S16 32) : Prop :=
  (∀ a x, ((![v1054, v1302] : Fin 2 → IVec S16 32) a x).toNat < S256x128.size a)
theorem k0_idx168_inb : ∀ (v1054 : IVec S16 32) (v1302 : IVec S16 32) (k0_hw168 : k0_chk168 v1054 v1302), ∀ a x, ((![v1054, v1302] : Fin 2 → IVec S16 32) a x).toNat < S256x128.size a := fun v1054 v1302 k0_hw168 => k0_hw168

def k0_chk169 (v1054 : IVec S16 32) (v1310 : IVec S16 32) : Prop :=
  (∀ a x, ((![v1054, v1310] : Fin 2 → IVec S16 32) a x).toNat < S256x128.size a)
theorem k0_idx169_inb : ∀ (v1054 : IVec S16 32) (v1310 : IVec S16 32) (k0_hw169 : k0_chk169 v1054 v1310), ∀ a x, ((![v1054, v1310] : Fin 2 → IVec S16 32) a x).toNat < S256x128.size a := fun v1054 v1310 k0_hw169 => k0_hw169

def k0_chk170 (v1054 : IVec S16 32) (v1317 : IVec S16 32) : Prop :=
  (∀ a x, ((![v1054, v1317] : Fin 2 → IVec S16 32) a x).toNat < S256x128.size a)
theorem k0_idx170_inb : ∀ (v1054 : IVec S16 32) (v1317 : IVec S16 32) (k0_hw170 : k0_chk170 v1054 v1317), ∀ a x, ((![v1054, v1317] : Fin 2 → IVec S16 32) a x).toNat < S256x128.size a := fun v1054 v1317 k0_hw170 => k0_hw170

def k0_chk171 (v1054 : IVec S16 32) (v1325 : IVec S16 32) : Prop :=
  (∀ a x, ((![v1054, v1325] : Fin 2 → IVec S16 32) a x).toNat < S256x128.size a)
theorem k0_idx171_inb : ∀ (v1054 : IVec S16 32) (v1325 : IVec S16 32) (k0_hw171 : k0_chk171 v1054 v1325), ∀ a x, ((![v1054, v1325] : Fin 2 → IVec S16 32) a x).toNat < S256x128.size a := fun v1054 v1325 k0_hw171 => k0_hw171

def k0_chk172 (v1054 : IVec S16 32) (v1333 : IVec S16 32) : Prop :=
  (∀ a x, ((![v1054, v1333] : Fin 2 → IVec S16 32) a x).toNat < S256x128.size a)
theorem k0_idx172_inb : ∀ (v1054 : IVec S16 32) (v1333 : IVec S16 32) (k0_hw172 : k0_chk172 v1054 v1333), ∀ a x, ((![v1054, v1333] : Fin 2 → IVec S16 32) a x).toNat < S256x128.size a := fun v1054 v1333 k0_hw172 => k0_hw172

def k0_chk173 (v1054 : IVec S16 32) (v1341 : IVec S16 32) : Prop :=
  (∀ a x, ((![v1054, v1341] : Fin 2 → IVec S16 32) a x).toNat < S256x128.size a)
theorem k0_idx173_inb : ∀ (v1054 : IVec S16 32) (v1341 : IVec S16 32) (k0_hw173 : k0_chk173 v1054 v1341), ∀ a x, ((![v1054, v1341] : Fin 2 → IVec S16 32) a x).toNat < S256x128.size a := fun v1054 v1341 k0_hw173 => k0_hw173

def k0_chk174 (v1054 : IVec S16 32) (v1349 : IVec S16 32) : Prop :=
  (∀ a x, ((![v1054, v1349] : Fin 2 → IVec S16 32) a x).toNat < S256x128.size a)
theorem k0_idx174_inb : ∀ (v1054 : IVec S16 32) (v1349 : IVec S16 32) (k0_hw174 : k0_chk174 v1054 v1349), ∀ a x, ((![v1054, v1349] : Fin 2 → IVec S16 32) a x).toNat < S256x128.size a := fun v1054 v1349 k0_hw174 => k0_hw174

def k0_chk175 (v1054 : IVec S16 32) (v1357 : IVec S16 32) : Prop :=
  (∀ a x, ((![v1054, v1357] : Fin 2 → IVec S16 32) a x).toNat < S256x128.size a)
theorem k0_idx175_inb : ∀ (v1054 : IVec S16 32) (v1357 : IVec S16 32) (k0_hw175 : k0_chk175 v1054 v1357), ∀ a x, ((![v1054, v1357] : Fin 2 → IVec S16 32) a x).toNat < S256x128.size a := fun v1054 v1357 k0_hw175 => k0_hw175

def k0_chk176 (v1054 : IVec S16 32) (v1365 : IVec S16 32) : Prop :=
  (∀ a x, ((![v1054, v1365] : Fin 2 → IVec S16 32) a x).toNat < S256x128.size a)
theorem k0_idx176_inb : ∀ (v1054 : IVec S16 32) (v1365 : IVec S16 32) (k0_hw176 : k0_chk176 v1054 v1365), ∀ a x, ((![v1054, v1365] : Fin 2 → IVec S16 32) a x).toNat < S256x128.size a := fun v1054 v1365 k0_hw176 => k0_hw176

def k0_chk177 (v1054 : IVec S16 32) (v1373 : IVec S16 32) : Prop :=
  (∀ a x, ((![v1054, v1373] : Fin 2 → IVec S16 32) a x).toNat < S256x128.size a)
theorem k0_idx177_inb : ∀ (v1054 : IVec S16 32) (v1373 : IVec S16 32) (k0_hw177 : k0_chk177 v1054 v1373), ∀ a x, ((![v1054, v1373] : Fin 2 → IVec S16 32) a x).toNat < S256x128.size a := fun v1054 v1373 k0_hw177 => k0_hw177

def k0_chk178 (v1054 : IVec S16 32) (v1380 : IVec S16 32) : Prop :=
  (∀ a x, ((![v1054, v1380] : Fin 2 → IVec S16 32) a x).toNat < S256x128.size a)
theorem k0_idx178_inb : ∀ (v1054 : IVec S16 32) (v1380 : IVec S16 32) (k0_hw178 : k0_chk178 v1054 v1380), ∀ a x, ((![v1054, v1380] : Fin 2 → IVec S16 32) a x).toNat < S256x128.size a := fun v1054 v1380 k0_hw178 => k0_hw178

def k0_chk179 (v1054 : IVec S16 32) (v1388 : IVec S16 32) : Prop :=
  (∀ a x, ((![v1054, v1388] : Fin 2 → IVec S16 32) a x).toNat < S256x128.size a)
theorem k0_idx179_inb : ∀ (v1054 : IVec S16 32) (v1388 : IVec S16 32) (k0_hw179 : k0_chk179 v1054 v1388), ∀ a x, ((![v1054, v1388] : Fin 2 → IVec S16 32) a x).toNat < S256x128.size a := fun v1054 v1388 k0_hw179 => k0_hw179

def k0_chk180 (v1054 : IVec S16 32) (v1396 : IVec S16 32) : Prop :=
  (∀ a x, ((![v1054, v1396] : Fin 2 → IVec S16 32) a x).toNat < S256x128.size a)
theorem k0_idx180_inb : ∀ (v1054 : IVec S16 32) (v1396 : IVec S16 32) (k0_hw180 : k0_chk180 v1054 v1396), ∀ a x, ((![v1054, v1396] : Fin 2 → IVec S16 32) a x).toNat < S256x128.size a := fun v1054 v1396 k0_hw180 => k0_hw180

def k0_chk181 (v1054 : IVec S16 32) (v1404 : IVec S16 32) : Prop :=
  (∀ a x, ((![v1054, v1404] : Fin 2 → IVec S16 32) a x).toNat < S256x128.size a)
theorem k0_idx181_inb : ∀ (v1054 : IVec S16 32) (v1404 : IVec S16 32) (k0_hw181 : k0_chk181 v1054 v1404), ∀ a x, ((![v1054, v1404] : Fin 2 → IVec S16 32) a x).toNat < S256x128.size a := fun v1054 v1404 k0_hw181 => k0_hw181

def k0_chk182 (v1054 : IVec S16 32) (v1412 : IVec S16 32) : Prop :=
  (∀ a x, ((![v1054, v1412] : Fin 2 → IVec S16 32) a x).toNat < S256x128.size a)
theorem k0_idx182_inb : ∀ (v1054 : IVec S16 32) (v1412 : IVec S16 32) (k0_hw182 : k0_chk182 v1054 v1412), ∀ a x, ((![v1054, v1412] : Fin 2 → IVec S16 32) a x).toNat < S256x128.size a := fun v1054 v1412 k0_hw182 => k0_hw182

def k0_chk183 (v1054 : IVec S16 32) (v1420 : IVec S16 32) : Prop :=
  (∀ a x, ((![v1054, v1420] : Fin 2 → IVec S16 32) a x).toNat < S256x128.size a)
theorem k0_idx183_inb : ∀ (v1054 : IVec S16 32) (v1420 : IVec S16 32) (k0_hw183 : k0_chk183 v1054 v1420), ∀ a x, ((![v1054, v1420] : Fin 2 → IVec S16 32) a x).toNat < S256x128.size a := fun v1054 v1420 k0_hw183 => k0_hw183

def k0_chk184 (v1054 : IVec S16 32) (v1428 : IVec S16 32) : Prop :=
  (∀ a x, ((![v1054, v1428] : Fin 2 → IVec S16 32) a x).toNat < S256x128.size a)
theorem k0_idx184_inb : ∀ (v1054 : IVec S16 32) (v1428 : IVec S16 32) (k0_hw184 : k0_chk184 v1054 v1428), ∀ a x, ((![v1054, v1428] : Fin 2 → IVec S16 32) a x).toNat < S256x128.size a := fun v1054 v1428 k0_hw184 => k0_hw184

def k0_chk185 (v1054 : IVec S16 32) (v1436 : IVec S16 32) : Prop :=
  (∀ a x, ((![v1054, v1436] : Fin 2 → IVec S16 32) a x).toNat < S256x128.size a)
theorem k0_idx185_inb : ∀ (v1054 : IVec S16 32) (v1436 : IVec S16 32) (k0_hw185 : k0_chk185 v1054 v1436), ∀ a x, ((![v1054, v1436] : Fin 2 → IVec S16 32) a x).toNat < S256x128.size a := fun v1054 v1436 k0_hw185 => k0_hw185

def k0_chk186 (v1054 : IVec S16 32) (v1443 : IVec S16 32) : Prop :=
  (∀ a x, ((![v1054, v1443] : Fin 2 → IVec S16 32) a x).toNat < S256x128.size a)
theorem k0_idx186_inb : ∀ (v1054 : IVec S16 32) (v1443 : IVec S16 32) (k0_hw186 : k0_chk186 v1054 v1443), ∀ a x, ((![v1054, v1443] : Fin 2 → IVec S16 32) a x).toNat < S256x128.size a := fun v1054 v1443 k0_hw186 => k0_hw186

def k0_chk187 (v1054 : IVec S16 32) (v1451 : IVec S16 32) : Prop :=
  (∀ a x, ((![v1054, v1451] : Fin 2 → IVec S16 32) a x).toNat < S256x128.size a)
theorem k0_idx187_inb : ∀ (v1054 : IVec S16 32) (v1451 : IVec S16 32) (k0_hw187 : k0_chk187 v1054 v1451), ∀ a x, ((![v1054, v1451] : Fin 2 → IVec S16 32) a x).toNat < S256x128.size a := fun v1054 v1451 k0_hw187 => k0_hw187

def k0_chk188 (v1054 : IVec S16 32) (v1459 : IVec S16 32) : Prop :=
  (∀ a x, ((![v1054, v1459] : Fin 2 → IVec S16 32) a x).toNat < S256x128.size a)
theorem k0_idx188_inb : ∀ (v1054 : IVec S16 32) (v1459 : IVec S16 32) (k0_hw188 : k0_chk188 v1054 v1459), ∀ a x, ((![v1054, v1459] : Fin 2 → IVec S16 32) a x).toNat < S256x128.size a := fun v1054 v1459 k0_hw188 => k0_hw188

def k0_chk189 (v1054 : IVec S16 32) (v1467 : IVec S16 32) : Prop :=
  (∀ a x, ((![v1054, v1467] : Fin 2 → IVec S16 32) a x).toNat < S256x128.size a)
theorem k0_idx189_inb : ∀ (v1054 : IVec S16 32) (v1467 : IVec S16 32) (k0_hw189 : k0_chk189 v1054 v1467), ∀ a x, ((![v1054, v1467] : Fin 2 → IVec S16 32) a x).toNat < S256x128.size a := fun v1054 v1467 k0_hw189 => k0_hw189

def k0_chk190 (v1054 : IVec S16 32) (v1475 : IVec S16 32) : Prop :=
  (∀ a x, ((![v1054, v1475] : Fin 2 → IVec S16 32) a x).toNat < S256x128.size a)
theorem k0_idx190_inb : ∀ (v1054 : IVec S16 32) (v1475 : IVec S16 32) (k0_hw190 : k0_chk190 v1054 v1475), ∀ a x, ((![v1054, v1475] : Fin 2 → IVec S16 32) a x).toNat < S256x128.size a := fun v1054 v1475 k0_hw190 => k0_hw190

def k0_chk191 (v1054 : IVec S16 32) (v1483 : IVec S16 32) : Prop :=
  (∀ a x, ((![v1054, v1483] : Fin 2 → IVec S16 32) a x).toNat < S256x128.size a)
theorem k0_idx191_inb : ∀ (v1054 : IVec S16 32) (v1483 : IVec S16 32) (k0_hw191 : k0_chk191 v1054 v1483), ∀ a x, ((![v1054, v1483] : Fin 2 → IVec S16 32) a x).toNat < S256x128.size a := fun v1054 v1483 k0_hw191 => k0_hw191

def k0_chk192 (v1054 : IVec S16 32) (v1491 : IVec S16 32) : Prop :=
  (∀ a x, ((![v1054, v1491] : Fin 2 → IVec S16 32) a x).toNat < S256x128.size a)
theorem k0_idx192_inb : ∀ (v1054 : IVec S16 32) (v1491 : IVec S16 32) (k0_hw192 : k0_chk192 v1054 v1491), ∀ a x, ((![v1054, v1491] : Fin 2 → IVec S16 32) a x).toNat < S256x128.size a := fun v1054 v1491 k0_hw192 => k0_hw192

def k0_chk193 (v1054 : IVec S16 32) (v1499 : IVec S16 32) : Prop :=
  (∀ a x, ((![v1054, v1499] : Fin 2 → IVec S16 32) a x).toNat < S256x128.size a)
theorem k0_idx193_inb : ∀ (v1054 : IVec S16 32) (v1499 : IVec S16 32) (k0_hw193 : k0_chk193 v1054 v1499), ∀ a x, ((![v1054, v1499] : Fin 2 → IVec S16 32) a x).toNat < S256x128.size a := fun v1054 v1499 k0_hw193 => k0_hw193

def k0_chk194 (v1054 : IVec S16 32) (v1506 : IVec S16 32) : Prop :=
  (∀ a x, ((![v1054, v1506] : Fin 2 → IVec S16 32) a x).toNat < S256x128.size a)
theorem k0_idx194_inb : ∀ (v1054 : IVec S16 32) (v1506 : IVec S16 32) (k0_hw194 : k0_chk194 v1054 v1506), ∀ a x, ((![v1054, v1506] : Fin 2 → IVec S16 32) a x).toNat < S256x128.size a := fun v1054 v1506 k0_hw194 => k0_hw194

def k0_chk195 (v1054 : IVec S16 32) (v1514 : IVec S16 32) : Prop :=
  (∀ a x, ((![v1054, v1514] : Fin 2 → IVec S16 32) a x).toNat < S256x128.size a)
theorem k0_idx195_inb : ∀ (v1054 : IVec S16 32) (v1514 : IVec S16 32) (k0_hw195 : k0_chk195 v1054 v1514), ∀ a x, ((![v1054, v1514] : Fin 2 → IVec S16 32) a x).toNat < S256x128.size a := fun v1054 v1514 k0_hw195 => k0_hw195

def k0_chk196 (v1054 : IVec S16 32) (v1522 : IVec S16 32) : Prop :=
  (∀ a x, ((![v1054, v1522] : Fin 2 → IVec S16 32) a x).toNat < S256x128.size a)
theorem k0_idx196_inb : ∀ (v1054 : IVec S16 32) (v1522 : IVec S16 32) (k0_hw196 : k0_chk196 v1054 v1522), ∀ a x, ((![v1054, v1522] : Fin 2 → IVec S16 32) a x).toNat < S256x128.size a := fun v1054 v1522 k0_hw196 => k0_hw196

def k0_chk197 (v1054 : IVec S16 32) (v1530 : IVec S16 32) : Prop :=
  (∀ a x, ((![v1054, v1530] : Fin 2 → IVec S16 32) a x).toNat < S256x128.size a)
theorem k0_idx197_inb : ∀ (v1054 : IVec S16 32) (v1530 : IVec S16 32) (k0_hw197 : k0_chk197 v1054 v1530), ∀ a x, ((![v1054, v1530] : Fin 2 → IVec S16 32) a x).toNat < S256x128.size a := fun v1054 v1530 k0_hw197 => k0_hw197

def k0_chk198 (v1054 : IVec S16 32) (v1538 : IVec S16 32) : Prop :=
  (∀ a x, ((![v1054, v1538] : Fin 2 → IVec S16 32) a x).toNat < S256x128.size a)
theorem k0_idx198_inb : ∀ (v1054 : IVec S16 32) (v1538 : IVec S16 32) (k0_hw198 : k0_chk198 v1054 v1538), ∀ a x, ((![v1054, v1538] : Fin 2 → IVec S16 32) a x).toNat < S256x128.size a := fun v1054 v1538 k0_hw198 => k0_hw198

def k0_chk199 (v1054 : IVec S16 32) (v1546 : IVec S16 32) : Prop :=
  (∀ a x, ((![v1054, v1546] : Fin 2 → IVec S16 32) a x).toNat < S256x128.size a)
theorem k0_idx199_inb : ∀ (v1054 : IVec S16 32) (v1546 : IVec S16 32) (k0_hw199 : k0_chk199 v1054 v1546), ∀ a x, ((![v1054, v1546] : Fin 2 → IVec S16 32) a x).toNat < S256x128.size a := fun v1054 v1546 k0_hw199 => k0_hw199

def k0_chk200 (v1054 : IVec S16 32) (v1554 : IVec S16 32) : Prop :=
  (∀ a x, ((![v1054, v1554] : Fin 2 → IVec S16 32) a x).toNat < S256x128.size a)
theorem k0_idx200_inb : ∀ (v1054 : IVec S16 32) (v1554 : IVec S16 32) (k0_hw200 : k0_chk200 v1054 v1554), ∀ a x, ((![v1054, v1554] : Fin 2 → IVec S16 32) a x).toNat < S256x128.size a := fun v1054 v1554 k0_hw200 => k0_hw200

def k0_chk201 (v1054 : IVec S16 32) (v1562 : IVec S16 32) : Prop :=
  (∀ a x, ((![v1054, v1562] : Fin 2 → IVec S16 32) a x).toNat < S256x128.size a)
theorem k0_idx201_inb : ∀ (v1054 : IVec S16 32) (v1562 : IVec S16 32) (k0_hw201 : k0_chk201 v1054 v1562), ∀ a x, ((![v1054, v1562] : Fin 2 → IVec S16 32) a x).toNat < S256x128.size a := fun v1054 v1562 k0_hw201 => k0_hw201

def k0_chk202 (v1054 : IVec S16 32) (v1569 : IVec S16 32) : Prop :=
  (∀ a x, ((![v1054, v1569] : Fin 2 → IVec S16 32) a x).toNat < S256x128.size a)
theorem k0_idx202_inb : ∀ (v1054 : IVec S16 32) (v1569 : IVec S16 32) (k0_hw202 : k0_chk202 v1054 v1569), ∀ a x, ((![v1054, v1569] : Fin 2 → IVec S16 32) a x).toNat < S256x128.size a := fun v1054 v1569 k0_hw202 => k0_hw202

def k0_chk203 (v1054 : IVec S16 32) (v1577 : IVec S16 32) : Prop :=
  (∀ a x, ((![v1054, v1577] : Fin 2 → IVec S16 32) a x).toNat < S256x128.size a)
theorem k0_idx203_inb : ∀ (v1054 : IVec S16 32) (v1577 : IVec S16 32) (k0_hw203 : k0_chk203 v1054 v1577), ∀ a x, ((![v1054, v1577] : Fin 2 → IVec S16 32) a x).toNat < S256x128.size a := fun v1054 v1577 k0_hw203 => k0_hw203

def k0_chk204 (v1054 : IVec S16 32) (v1585 : IVec S16 32) : Prop :=
  (∀ a x, ((![v1054, v1585] : Fin 2 → IVec S16 32) a x).toNat < S256x128.size a)
theorem k0_idx204_inb : ∀ (v1054 : IVec S16 32) (v1585 : IVec S16 32) (k0_hw204 : k0_chk204 v1054 v1585), ∀ a x, ((![v1054, v1585] : Fin 2 → IVec S16 32) a x).toNat < S256x128.size a := fun v1054 v1585 k0_hw204 => k0_hw204

def k0_chk205 (v1054 : IVec S16 32) (v1593 : IVec S16 32) : Prop :=
  (∀ a x, ((![v1054, v1593] : Fin 2 → IVec S16 32) a x).toNat < S256x128.size a)
theorem k0_idx205_inb : ∀ (v1054 : IVec S16 32) (v1593 : IVec S16 32) (k0_hw205 : k0_chk205 v1054 v1593), ∀ a x, ((![v1054, v1593] : Fin 2 → IVec S16 32) a x).toNat < S256x128.size a := fun v1054 v1593 k0_hw205 => k0_hw205

def k0_chk206 (v1054 : IVec S16 32) (v1601 : IVec S16 32) : Prop :=
  (∀ a x, ((![v1054, v1601] : Fin 2 → IVec S16 32) a x).toNat < S256x128.size a)
theorem k0_idx206_inb : ∀ (v1054 : IVec S16 32) (v1601 : IVec S16 32) (k0_hw206 : k0_chk206 v1054 v1601), ∀ a x, ((![v1054, v1601] : Fin 2 → IVec S16 32) a x).toNat < S256x128.size a := fun v1054 v1601 k0_hw206 => k0_hw206

def k0_chk207 (v1054 : IVec S16 32) (v1609 : IVec S16 32) : Prop :=
  (∀ a x, ((![v1054, v1609] : Fin 2 → IVec S16 32) a x).toNat < S256x128.size a)
theorem k0_idx207_inb : ∀ (v1054 : IVec S16 32) (v1609 : IVec S16 32) (k0_hw207 : k0_chk207 v1054 v1609), ∀ a x, ((![v1054, v1609] : Fin 2 → IVec S16 32) a x).toNat < S256x128.size a := fun v1054 v1609 k0_hw207 => k0_hw207

def k0_chk208 (v1054 : IVec S16 32) (v1617 : IVec S16 32) : Prop :=
  (∀ a x, ((![v1054, v1617] : Fin 2 → IVec S16 32) a x).toNat < S256x128.size a)
theorem k0_idx208_inb : ∀ (v1054 : IVec S16 32) (v1617 : IVec S16 32) (k0_hw208 : k0_chk208 v1054 v1617), ∀ a x, ((![v1054, v1617] : Fin 2 → IVec S16 32) a x).toNat < S256x128.size a := fun v1054 v1617 k0_hw208 => k0_hw208

def k0_chk209 (v1054 : IVec S16 32) (v1625 : IVec S16 32) : Prop :=
  (∀ a x, ((![v1054, v1625] : Fin 2 → IVec S16 32) a x).toNat < S256x128.size a)
theorem k0_idx209_inb : ∀ (v1054 : IVec S16 32) (v1625 : IVec S16 32) (k0_hw209 : k0_chk209 v1054 v1625), ∀ a x, ((![v1054, v1625] : Fin 2 → IVec S16 32) a x).toNat < S256x128.size a := fun v1054 v1625 k0_hw209 => k0_hw209

def k0_chk210 (v1054 : IVec S16 32) (v1632 : IVec S16 32) : Prop :=
  (∀ a x, ((![v1054, v1632] : Fin 2 → IVec S16 32) a x).toNat < S256x128.size a)
theorem k0_idx210_inb : ∀ (v1054 : IVec S16 32) (v1632 : IVec S16 32) (k0_hw210 : k0_chk210 v1054 v1632), ∀ a x, ((![v1054, v1632] : Fin 2 → IVec S16 32) a x).toNat < S256x128.size a := fun v1054 v1632 k0_hw210 => k0_hw210

def k0_chk211 (v1054 : IVec S16 32) (v1640 : IVec S16 32) : Prop :=
  (∀ a x, ((![v1054, v1640] : Fin 2 → IVec S16 32) a x).toNat < S256x128.size a)
theorem k0_idx211_inb : ∀ (v1054 : IVec S16 32) (v1640 : IVec S16 32) (k0_hw211 : k0_chk211 v1054 v1640), ∀ a x, ((![v1054, v1640] : Fin 2 → IVec S16 32) a x).toNat < S256x128.size a := fun v1054 v1640 k0_hw211 => k0_hw211

def k0_chk212 (v1054 : IVec S16 32) (v1648 : IVec S16 32) : Prop :=
  (∀ a x, ((![v1054, v1648] : Fin 2 → IVec S16 32) a x).toNat < S256x128.size a)
theorem k0_idx212_inb : ∀ (v1054 : IVec S16 32) (v1648 : IVec S16 32) (k0_hw212 : k0_chk212 v1054 v1648), ∀ a x, ((![v1054, v1648] : Fin 2 → IVec S16 32) a x).toNat < S256x128.size a := fun v1054 v1648 k0_hw212 => k0_hw212

def k0_chk213 (v1054 : IVec S16 32) (v1656 : IVec S16 32) : Prop :=
  (∀ a x, ((![v1054, v1656] : Fin 2 → IVec S16 32) a x).toNat < S256x128.size a)
theorem k0_idx213_inb : ∀ (v1054 : IVec S16 32) (v1656 : IVec S16 32) (k0_hw213 : k0_chk213 v1054 v1656), ∀ a x, ((![v1054, v1656] : Fin 2 → IVec S16 32) a x).toNat < S256x128.size a := fun v1054 v1656 k0_hw213 => k0_hw213

def k0_chk214 (v1054 : IVec S16 32) (v1664 : IVec S16 32) : Prop :=
  (∀ a x, ((![v1054, v1664] : Fin 2 → IVec S16 32) a x).toNat < S256x128.size a)
theorem k0_idx214_inb : ∀ (v1054 : IVec S16 32) (v1664 : IVec S16 32) (k0_hw214 : k0_chk214 v1054 v1664), ∀ a x, ((![v1054, v1664] : Fin 2 → IVec S16 32) a x).toNat < S256x128.size a := fun v1054 v1664 k0_hw214 => k0_hw214

def k0_chk215 (v1054 : IVec S16 32) (v1672 : IVec S16 32) : Prop :=
  (∀ a x, ((![v1054, v1672] : Fin 2 → IVec S16 32) a x).toNat < S256x128.size a)
theorem k0_idx215_inb : ∀ (v1054 : IVec S16 32) (v1672 : IVec S16 32) (k0_hw215 : k0_chk215 v1054 v1672), ∀ a x, ((![v1054, v1672] : Fin 2 → IVec S16 32) a x).toNat < S256x128.size a := fun v1054 v1672 k0_hw215 => k0_hw215

def k0_chk216 (v1054 : IVec S16 32) (v1680 : IVec S16 32) : Prop :=
  (∀ a x, ((![v1054, v1680] : Fin 2 → IVec S16 32) a x).toNat < S256x128.size a)
theorem k0_idx216_inb : ∀ (v1054 : IVec S16 32) (v1680 : IVec S16 32) (k0_hw216 : k0_chk216 v1054 v1680), ∀ a x, ((![v1054, v1680] : Fin 2 → IVec S16 32) a x).toNat < S256x128.size a := fun v1054 v1680 k0_hw216 => k0_hw216

def k0_chk217 (v1054 : IVec S16 32) (v1688 : IVec S16 32) : Prop :=
  (∀ a x, ((![v1054, v1688] : Fin 2 → IVec S16 32) a x).toNat < S256x128.size a)
theorem k0_idx217_inb : ∀ (v1054 : IVec S16 32) (v1688 : IVec S16 32) (k0_hw217 : k0_chk217 v1054 v1688), ∀ a x, ((![v1054, v1688] : Fin 2 → IVec S16 32) a x).toNat < S256x128.size a := fun v1054 v1688 k0_hw217 => k0_hw217

def k0_chk218 (v1054 : IVec S16 32) (v1695 : IVec S16 32) : Prop :=
  (∀ a x, ((![v1054, v1695] : Fin 2 → IVec S16 32) a x).toNat < S256x128.size a)
theorem k0_idx218_inb : ∀ (v1054 : IVec S16 32) (v1695 : IVec S16 32) (k0_hw218 : k0_chk218 v1054 v1695), ∀ a x, ((![v1054, v1695] : Fin 2 → IVec S16 32) a x).toNat < S256x128.size a := fun v1054 v1695 k0_hw218 => k0_hw218

def k0_chk219 (v1054 : IVec S16 32) (v1703 : IVec S16 32) : Prop :=
  (∀ a x, ((![v1054, v1703] : Fin 2 → IVec S16 32) a x).toNat < S256x128.size a)
theorem k0_idx219_inb : ∀ (v1054 : IVec S16 32) (v1703 : IVec S16 32) (k0_hw219 : k0_chk219 v1054 v1703), ∀ a x, ((![v1054, v1703] : Fin 2 → IVec S16 32) a x).toNat < S256x128.size a := fun v1054 v1703 k0_hw219 => k0_hw219

def k0_chk220 (v1054 : IVec S16 32) (v1711 : IVec S16 32) : Prop :=
  (∀ a x, ((![v1054, v1711] : Fin 2 → IVec S16 32) a x).toNat < S256x128.size a)
theorem k0_idx220_inb : ∀ (v1054 : IVec S16 32) (v1711 : IVec S16 32) (k0_hw220 : k0_chk220 v1054 v1711), ∀ a x, ((![v1054, v1711] : Fin 2 → IVec S16 32) a x).toNat < S256x128.size a := fun v1054 v1711 k0_hw220 => k0_hw220

def k0_chk221 (v1054 : IVec S16 32) (v1719 : IVec S16 32) : Prop :=
  (∀ a x, ((![v1054, v1719] : Fin 2 → IVec S16 32) a x).toNat < S256x128.size a)
theorem k0_idx221_inb : ∀ (v1054 : IVec S16 32) (v1719 : IVec S16 32) (k0_hw221 : k0_chk221 v1054 v1719), ∀ a x, ((![v1054, v1719] : Fin 2 → IVec S16 32) a x).toNat < S256x128.size a := fun v1054 v1719 k0_hw221 => k0_hw221

def k0_chk222 (v1054 : IVec S16 32) (v1727 : IVec S16 32) : Prop :=
  (∀ a x, ((![v1054, v1727] : Fin 2 → IVec S16 32) a x).toNat < S256x128.size a)
theorem k0_idx222_inb : ∀ (v1054 : IVec S16 32) (v1727 : IVec S16 32) (k0_hw222 : k0_chk222 v1054 v1727), ∀ a x, ((![v1054, v1727] : Fin 2 → IVec S16 32) a x).toNat < S256x128.size a := fun v1054 v1727 k0_hw222 => k0_hw222

def k0_chk223 (v1054 : IVec S16 32) (v1735 : IVec S16 32) : Prop :=
  (∀ a x, ((![v1054, v1735] : Fin 2 → IVec S16 32) a x).toNat < S256x128.size a)
theorem k0_idx223_inb : ∀ (v1054 : IVec S16 32) (v1735 : IVec S16 32) (k0_hw223 : k0_chk223 v1054 v1735), ∀ a x, ((![v1054, v1735] : Fin 2 → IVec S16 32) a x).toNat < S256x128.size a := fun v1054 v1735 k0_hw223 => k0_hw223

def k0_chk224 (v1054 : IVec S16 32) (v1743 : IVec S16 32) : Prop :=
  (∀ a x, ((![v1054, v1743] : Fin 2 → IVec S16 32) a x).toNat < S256x128.size a)
theorem k0_idx224_inb : ∀ (v1054 : IVec S16 32) (v1743 : IVec S16 32) (k0_hw224 : k0_chk224 v1054 v1743), ∀ a x, ((![v1054, v1743] : Fin 2 → IVec S16 32) a x).toNat < S256x128.size a := fun v1054 v1743 k0_hw224 => k0_hw224

def k0_chk225 (v1054 : IVec S16 32) (v1751 : IVec S16 32) : Prop :=
  (∀ a x, ((![v1054, v1751] : Fin 2 → IVec S16 32) a x).toNat < S256x128.size a)
theorem k0_idx225_inb : ∀ (v1054 : IVec S16 32) (v1751 : IVec S16 32) (k0_hw225 : k0_chk225 v1054 v1751), ∀ a x, ((![v1054, v1751] : Fin 2 → IVec S16 32) a x).toNat < S256x128.size a := fun v1054 v1751 k0_hw225 => k0_hw225

def k0_chk226 (v1054 : IVec S16 32) (v1758 : IVec S16 32) : Prop :=
  (∀ a x, ((![v1054, v1758] : Fin 2 → IVec S16 32) a x).toNat < S256x128.size a)
theorem k0_idx226_inb : ∀ (v1054 : IVec S16 32) (v1758 : IVec S16 32) (k0_hw226 : k0_chk226 v1054 v1758), ∀ a x, ((![v1054, v1758] : Fin 2 → IVec S16 32) a x).toNat < S256x128.size a := fun v1054 v1758 k0_hw226 => k0_hw226

def k0_chk227 (v1054 : IVec S16 32) (v1766 : IVec S16 32) : Prop :=
  (∀ a x, ((![v1054, v1766] : Fin 2 → IVec S16 32) a x).toNat < S256x128.size a)
theorem k0_idx227_inb : ∀ (v1054 : IVec S16 32) (v1766 : IVec S16 32) (k0_hw227 : k0_chk227 v1054 v1766), ∀ a x, ((![v1054, v1766] : Fin 2 → IVec S16 32) a x).toNat < S256x128.size a := fun v1054 v1766 k0_hw227 => k0_hw227

def k0_chk228 (v1054 : IVec S16 32) (v1774 : IVec S16 32) : Prop :=
  (∀ a x, ((![v1054, v1774] : Fin 2 → IVec S16 32) a x).toNat < S256x128.size a)
theorem k0_idx228_inb : ∀ (v1054 : IVec S16 32) (v1774 : IVec S16 32) (k0_hw228 : k0_chk228 v1054 v1774), ∀ a x, ((![v1054, v1774] : Fin 2 → IVec S16 32) a x).toNat < S256x128.size a := fun v1054 v1774 k0_hw228 => k0_hw228

def k0_chk229 (v1054 : IVec S16 32) (v1782 : IVec S16 32) : Prop :=
  (∀ a x, ((![v1054, v1782] : Fin 2 → IVec S16 32) a x).toNat < S256x128.size a)
theorem k0_idx229_inb : ∀ (v1054 : IVec S16 32) (v1782 : IVec S16 32) (k0_hw229 : k0_chk229 v1054 v1782), ∀ a x, ((![v1054, v1782] : Fin 2 → IVec S16 32) a x).toNat < S256x128.size a := fun v1054 v1782 k0_hw229 => k0_hw229

def k0_chk230 (v1054 : IVec S16 32) (v1790 : IVec S16 32) : Prop :=
  (∀ a x, ((![v1054, v1790] : Fin 2 → IVec S16 32) a x).toNat < S256x128.size a)
theorem k0_idx230_inb : ∀ (v1054 : IVec S16 32) (v1790 : IVec S16 32) (k0_hw230 : k0_chk230 v1054 v1790), ∀ a x, ((![v1054, v1790] : Fin 2 → IVec S16 32) a x).toNat < S256x128.size a := fun v1054 v1790 k0_hw230 => k0_hw230

def k0_chk231 (v1054 : IVec S16 32) (v1798 : IVec S16 32) : Prop :=
  (∀ a x, ((![v1054, v1798] : Fin 2 → IVec S16 32) a x).toNat < S256x128.size a)
theorem k0_idx231_inb : ∀ (v1054 : IVec S16 32) (v1798 : IVec S16 32) (k0_hw231 : k0_chk231 v1054 v1798), ∀ a x, ((![v1054, v1798] : Fin 2 → IVec S16 32) a x).toNat < S256x128.size a := fun v1054 v1798 k0_hw231 => k0_hw231

def k0_chk232 (v1054 : IVec S16 32) (v1806 : IVec S16 32) : Prop :=
  (∀ a x, ((![v1054, v1806] : Fin 2 → IVec S16 32) a x).toNat < S256x128.size a)
theorem k0_idx232_inb : ∀ (v1054 : IVec S16 32) (v1806 : IVec S16 32) (k0_hw232 : k0_chk232 v1054 v1806), ∀ a x, ((![v1054, v1806] : Fin 2 → IVec S16 32) a x).toNat < S256x128.size a := fun v1054 v1806 k0_hw232 => k0_hw232

def k0_chk233 (v1816 : IVec S16 32) : Prop :=
  (∀ a x, ((![v1816] : Fin 1 → IVec S16 32) a x).toNat < S48.size a)
theorem k0_idx233_inb : ∀ (v1816 : IVec S16 32) (k0_hw233 : k0_chk233 v1816), ∀ a x, ((![v1816] : Fin 1 → IVec S16 32) a x).toNat < S48.size a := fun v1816 k0_hw233 => k0_hw233

def k0_chk234 (v1054 : IVec S16 32) (v1819 : IVec S16 32) : Prop :=
  (∀ a x, ((![v1054, v1819] : Fin 2 → IVec S16 32) a x).toNat < S256x128.size a)
theorem k0_idx234_inb : ∀ (v1054 : IVec S16 32) (v1819 : IVec S16 32) (k0_hw234 : k0_chk234 v1054 v1819), ∀ a x, ((![v1054, v1819] : Fin 2 → IVec S16 32) a x).toNat < S256x128.size a := fun v1054 v1819 k0_hw234 => k0_hw234

def k0_chk235 (v1828 : IVec S16 32) : Prop :=
  (∀ a x, ((![v1828] : Fin 1 → IVec S16 32) a x).toNat < S48.size a)
theorem k0_idx235_inb : ∀ (v1828 : IVec S16 32) (k0_hw235 : k0_chk235 v1828), ∀ a x, ((![v1828] : Fin 1 → IVec S16 32) a x).toNat < S48.size a := fun v1828 k0_hw235 => k0_hw235

def k0_chk236 (v1054 : IVec S16 32) (v1831 : IVec S16 32) : Prop :=
  (∀ a x, ((![v1054, v1831] : Fin 2 → IVec S16 32) a x).toNat < S256x128.size a)
theorem k0_idx236_inb : ∀ (v1054 : IVec S16 32) (v1831 : IVec S16 32) (k0_hw236 : k0_chk236 v1054 v1831), ∀ a x, ((![v1054, v1831] : Fin 2 → IVec S16 32) a x).toNat < S256x128.size a := fun v1054 v1831 k0_hw236 => k0_hw236

def k0_chk237 (v1840 : IVec S16 32) : Prop :=
  (∀ a x, ((![v1840] : Fin 1 → IVec S16 32) a x).toNat < S48.size a)
theorem k0_idx237_inb : ∀ (v1840 : IVec S16 32) (k0_hw237 : k0_chk237 v1840), ∀ a x, ((![v1840] : Fin 1 → IVec S16 32) a x).toNat < S48.size a := fun v1840 k0_hw237 => k0_hw237

def k0_chk238 (v1054 : IVec S16 32) (v1843 : IVec S16 32) : Prop :=
  (∀ a x, ((![v1054, v1843] : Fin 2 → IVec S16 32) a x).toNat < S256x128.size a)
theorem k0_idx238_inb : ∀ (v1054 : IVec S16 32) (v1843 : IVec S16 32) (k0_hw238 : k0_chk238 v1054 v1843), ∀ a x, ((![v1054, v1843] : Fin 2 → IVec S16 32) a x).toNat < S256x128.size a := fun v1054 v1843 k0_hw238 => k0_hw238

def k0_chk239 (v1852 : IVec S16 32) : Prop :=
  (∀ a x, ((![v1852] : Fin 1 → IVec S16 32) a x).toNat < S48.size a)
theorem k0_idx239_inb : ∀ (v1852 : IVec S16 32) (k0_hw239 : k0_chk239 v1852), ∀ a x, ((![v1852] : Fin 1 → IVec S16 32) a x).toNat < S48.size a := fun v1852 k0_hw239 => k0_hw239

def k0_chk240 (v1054 : IVec S16 32) (v1855 : IVec S16 32) : Prop :=
  (∀ a x, ((![v1054, v1855] : Fin 2 → IVec S16 32) a x).toNat < S256x128.size a)
theorem k0_idx240_inb : ∀ (v1054 : IVec S16 32) (v1855 : IVec S16 32) (k0_hw240 : k0_chk240 v1054 v1855), ∀ a x, ((![v1054, v1855] : Fin 2 → IVec S16 32) a x).toNat < S256x128.size a := fun v1054 v1855 k0_hw240 => k0_hw240

def k0_chk241 (v1864 : IVec S16 32) : Prop :=
  (∀ a x, ((![v1864] : Fin 1 → IVec S16 32) a x).toNat < S48.size a)
theorem k0_idx241_inb : ∀ (v1864 : IVec S16 32) (k0_hw241 : k0_chk241 v1864), ∀ a x, ((![v1864] : Fin 1 → IVec S16 32) a x).toNat < S48.size a := fun v1864 k0_hw241 => k0_hw241

def k0_chk242 (v1054 : IVec S16 32) (v1867 : IVec S16 32) : Prop :=
  (∀ a x, ((![v1054, v1867] : Fin 2 → IVec S16 32) a x).toNat < S256x128.size a)
theorem k0_idx242_inb : ∀ (v1054 : IVec S16 32) (v1867 : IVec S16 32) (k0_hw242 : k0_chk242 v1054 v1867), ∀ a x, ((![v1054, v1867] : Fin 2 → IVec S16 32) a x).toNat < S256x128.size a := fun v1054 v1867 k0_hw242 => k0_hw242

def k0_chk243 (v1876 : IVec S16 32) : Prop :=
  (∀ a x, ((![v1876] : Fin 1 → IVec S16 32) a x).toNat < S48.size a)
theorem k0_idx243_inb : ∀ (v1876 : IVec S16 32) (k0_hw243 : k0_chk243 v1876), ∀ a x, ((![v1876] : Fin 1 → IVec S16 32) a x).toNat < S48.size a := fun v1876 k0_hw243 => k0_hw243

def k0_chk244 (v1054 : IVec S16 32) (v1879 : IVec S16 32) : Prop :=
  (∀ a x, ((![v1054, v1879] : Fin 2 → IVec S16 32) a x).toNat < S256x128.size a)
theorem k0_idx244_inb : ∀ (v1054 : IVec S16 32) (v1879 : IVec S16 32) (k0_hw244 : k0_chk244 v1054 v1879), ∀ a x, ((![v1054, v1879] : Fin 2 → IVec S16 32) a x).toNat < S256x128.size a := fun v1054 v1879 k0_hw244 => k0_hw244

def k0_chk245 (v1888 : IVec S16 32) : Prop :=
  (∀ a x, ((![v1888] : Fin 1 → IVec S16 32) a x).toNat < S48.size a)
theorem k0_idx245_inb : ∀ (v1888 : IVec S16 32) (k0_hw245 : k0_chk245 v1888), ∀ a x, ((![v1888] : Fin 1 → IVec S16 32) a x).toNat < S48.size a := fun v1888 k0_hw245 => k0_hw245

def k0_chk246 (v1054 : IVec S16 32) (v1891 : IVec S16 32) : Prop :=
  (∀ a x, ((![v1054, v1891] : Fin 2 → IVec S16 32) a x).toNat < S256x128.size a)
theorem k0_idx246_inb : ∀ (v1054 : IVec S16 32) (v1891 : IVec S16 32) (k0_hw246 : k0_chk246 v1054 v1891), ∀ a x, ((![v1054, v1891] : Fin 2 → IVec S16 32) a x).toNat < S256x128.size a := fun v1054 v1891 k0_hw246 => k0_hw246

def k0_chk247 (v1900 : IVec S16 32) : Prop :=
  (∀ a x, ((![v1900] : Fin 1 → IVec S16 32) a x).toNat < S48.size a)
theorem k0_idx247_inb : ∀ (v1900 : IVec S16 32) (k0_hw247 : k0_chk247 v1900), ∀ a x, ((![v1900] : Fin 1 → IVec S16 32) a x).toNat < S48.size a := fun v1900 k0_hw247 => k0_hw247

def k0_chk248 (v1054 : IVec S16 32) (v1903 : IVec S16 32) : Prop :=
  (∀ a x, ((![v1054, v1903] : Fin 2 → IVec S16 32) a x).toNat < S256x128.size a)
theorem k0_idx248_inb : ∀ (v1054 : IVec S16 32) (v1903 : IVec S16 32) (k0_hw248 : k0_chk248 v1054 v1903), ∀ a x, ((![v1054, v1903] : Fin 2 → IVec S16 32) a x).toNat < S256x128.size a := fun v1054 v1903 k0_hw248 => k0_hw248

def k0_chk249 (v1912 : IVec S16 32) : Prop :=
  (∀ a x, ((![v1912] : Fin 1 → IVec S16 32) a x).toNat < S48.size a)
theorem k0_idx249_inb : ∀ (v1912 : IVec S16 32) (k0_hw249 : k0_chk249 v1912), ∀ a x, ((![v1912] : Fin 1 → IVec S16 32) a x).toNat < S48.size a := fun v1912 k0_hw249 => k0_hw249

def k0_chk250 (v1054 : IVec S16 32) (v1915 : IVec S16 32) : Prop :=
  (∀ a x, ((![v1054, v1915] : Fin 2 → IVec S16 32) a x).toNat < S256x128.size a)
theorem k0_idx250_inb : ∀ (v1054 : IVec S16 32) (v1915 : IVec S16 32) (k0_hw250 : k0_chk250 v1054 v1915), ∀ a x, ((![v1054, v1915] : Fin 2 → IVec S16 32) a x).toNat < S256x128.size a := fun v1054 v1915 k0_hw250 => k0_hw250

def k0_chk251 (v1924 : IVec S16 32) : Prop :=
  (∀ a x, ((![v1924] : Fin 1 → IVec S16 32) a x).toNat < S48.size a)
theorem k0_idx251_inb : ∀ (v1924 : IVec S16 32) (k0_hw251 : k0_chk251 v1924), ∀ a x, ((![v1924] : Fin 1 → IVec S16 32) a x).toNat < S48.size a := fun v1924 k0_hw251 => k0_hw251

def k0_chk252 (v1054 : IVec S16 32) (v1927 : IVec S16 32) : Prop :=
  (∀ a x, ((![v1054, v1927] : Fin 2 → IVec S16 32) a x).toNat < S256x128.size a)
theorem k0_idx252_inb : ∀ (v1054 : IVec S16 32) (v1927 : IVec S16 32) (k0_hw252 : k0_chk252 v1054 v1927), ∀ a x, ((![v1054, v1927] : Fin 2 → IVec S16 32) a x).toNat < S256x128.size a := fun v1054 v1927 k0_hw252 => k0_hw252

def k0_chk253 (v1936 : IVec S16 32) : Prop :=
  (∀ a x, ((![v1936] : Fin 1 → IVec S16 32) a x).toNat < S48.size a)
theorem k0_idx253_inb : ∀ (v1936 : IVec S16 32) (k0_hw253 : k0_chk253 v1936), ∀ a x, ((![v1936] : Fin 1 → IVec S16 32) a x).toNat < S48.size a := fun v1936 k0_hw253 => k0_hw253

def k0_chk254 (v1054 : IVec S16 32) (v1939 : IVec S16 32) : Prop :=
  (∀ a x, ((![v1054, v1939] : Fin 2 → IVec S16 32) a x).toNat < S256x128.size a)
theorem k0_idx254_inb : ∀ (v1054 : IVec S16 32) (v1939 : IVec S16 32) (k0_hw254 : k0_chk254 v1054 v1939), ∀ a x, ((![v1054, v1939] : Fin 2 → IVec S16 32) a x).toNat < S256x128.size a := fun v1054 v1939 k0_hw254 => k0_hw254

def k0_chk255 (v1948 : IVec S16 32) : Prop :=
  (∀ a x, ((![v1948] : Fin 1 → IVec S16 32) a x).toNat < S48.size a)
theorem k0_idx255_inb : ∀ (v1948 : IVec S16 32) (k0_hw255 : k0_chk255 v1948), ∀ a x, ((![v1948] : Fin 1 → IVec S16 32) a x).toNat < S48.size a := fun v1948 k0_hw255 => k0_hw255

def k0_chk256 (v1054 : IVec S16 32) (v1951 : IVec S16 32) : Prop :=
  (∀ a x, ((![v1054, v1951] : Fin 2 → IVec S16 32) a x).toNat < S256x128.size a)
theorem k0_idx256_inb : ∀ (v1054 : IVec S16 32) (v1951 : IVec S16 32) (k0_hw256 : k0_chk256 v1054 v1951), ∀ a x, ((![v1054, v1951] : Fin 2 → IVec S16 32) a x).toNat < S256x128.size a := fun v1054 v1951 k0_hw256 => k0_hw256

def k0_chk257 (v1960 : IVec S16 32) : Prop :=
  (∀ a x, ((![v1960] : Fin 1 → IVec S16 32) a x).toNat < S48.size a)
theorem k0_idx257_inb : ∀ (v1960 : IVec S16 32) (k0_hw257 : k0_chk257 v1960), ∀ a x, ((![v1960] : Fin 1 → IVec S16 32) a x).toNat < S48.size a := fun v1960 k0_hw257 => k0_hw257

def k0_chk258 (v1054 : IVec S16 32) (v1963 : IVec S16 32) : Prop :=
  (∀ a x, ((![v1054, v1963] : Fin 2 → IVec S16 32) a x).toNat < S256x128.size a)
theorem k0_idx258_inb : ∀ (v1054 : IVec S16 32) (v1963 : IVec S16 32) (k0_hw258 : k0_chk258 v1054 v1963), ∀ a x, ((![v1054, v1963] : Fin 2 → IVec S16 32) a x).toNat < S256x128.size a := fun v1054 v1963 k0_hw258 => k0_hw258

def k0_chk259 (v1972 : IVec S16 32) : Prop :=
  (∀ a x, ((![v1972] : Fin 1 → IVec S16 32) a x).toNat < S48.size a)
theorem k0_idx259_inb : ∀ (v1972 : IVec S16 32) (k0_hw259 : k0_chk259 v1972), ∀ a x, ((![v1972] : Fin 1 → IVec S16 32) a x).toNat < S48.size a := fun v1972 k0_hw259 => k0_hw259

def k0_chk260 (v1054 : IVec S16 32) (v1975 : IVec S16 32) : Prop :=
  (∀ a x, ((![v1054, v1975] : Fin 2 → IVec S16 32) a x).toNat < S256x128.size a)
theorem k0_idx260_inb : ∀ (v1054 : IVec S16 32) (v1975 : IVec S16 32) (k0_hw260 : k0_chk260 v1054 v1975), ∀ a x, ((![v1054, v1975] : Fin 2 → IVec S16 32) a x).toNat < S256x128.size a := fun v1054 v1975 k0_hw260 => k0_hw260

def k0_chk261 (v1984 : IVec S16 32) : Prop :=
  (∀ a x, ((![v1984] : Fin 1 → IVec S16 32) a x).toNat < S48.size a)
theorem k0_idx261_inb : ∀ (v1984 : IVec S16 32) (k0_hw261 : k0_chk261 v1984), ∀ a x, ((![v1984] : Fin 1 → IVec S16 32) a x).toNat < S48.size a := fun v1984 k0_hw261 => k0_hw261

def k0_chk262 (v1054 : IVec S16 32) (v1987 : IVec S16 32) : Prop :=
  (∀ a x, ((![v1054, v1987] : Fin 2 → IVec S16 32) a x).toNat < S256x128.size a)
theorem k0_idx262_inb : ∀ (v1054 : IVec S16 32) (v1987 : IVec S16 32) (k0_hw262 : k0_chk262 v1054 v1987), ∀ a x, ((![v1054, v1987] : Fin 2 → IVec S16 32) a x).toNat < S256x128.size a := fun v1054 v1987 k0_hw262 => k0_hw262

def k0_chk263 (v1996 : IVec S16 32) : Prop :=
  (∀ a x, ((![v1996] : Fin 1 → IVec S16 32) a x).toNat < S48.size a)
theorem k0_idx263_inb : ∀ (v1996 : IVec S16 32) (k0_hw263 : k0_chk263 v1996), ∀ a x, ((![v1996] : Fin 1 → IVec S16 32) a x).toNat < S48.size a := fun v1996 k0_hw263 => k0_hw263

def k0_chk264 (v1054 : IVec S16 32) (v1999 : IVec S16 32) : Prop :=
  (∀ a x, ((![v1054, v1999] : Fin 2 → IVec S16 32) a x).toNat < S256x128.size a)
theorem k0_idx264_inb : ∀ (v1054 : IVec S16 32) (v1999 : IVec S16 32) (k0_hw264 : k0_chk264 v1054 v1999), ∀ a x, ((![v1054, v1999] : Fin 2 → IVec S16 32) a x).toNat < S256x128.size a := fun v1054 v1999 k0_hw264 => k0_hw264

def k0_chk265 (v2008 : IVec S16 32) : Prop :=
  (∀ a x, ((![v2008] : Fin 1 → IVec S16 32) a x).toNat < S48.size a)
theorem k0_idx265_inb : ∀ (v2008 : IVec S16 32) (k0_hw265 : k0_chk265 v2008), ∀ a x, ((![v2008] : Fin 1 → IVec S16 32) a x).toNat < S48.size a := fun v2008 k0_hw265 => k0_hw265

def k0_chk266 (v1054 : IVec S16 32) (v2011 : IVec S16 32) : Prop :=
  (∀ a x, ((![v1054, v2011] : Fin 2 → IVec S16 32) a x).toNat < S256x128.size a)
theorem k0_idx266_inb : ∀ (v1054 : IVec S16 32) (v2011 : IVec S16 32) (k0_hw266 : k0_chk266 v1054 v2011), ∀ a x, ((![v1054, v2011] : Fin 2 → IVec S16 32) a x).toNat < S256x128.size a := fun v1054 v2011 k0_hw266 => k0_hw266

def k0_chk267 (v2020 : IVec S16 32) : Prop :=
  (∀ a x, ((![v2020] : Fin 1 → IVec S16 32) a x).toNat < S48.size a)
theorem k0_idx267_inb : ∀ (v2020 : IVec S16 32) (k0_hw267 : k0_chk267 v2020), ∀ a x, ((![v2020] : Fin 1 → IVec S16 32) a x).toNat < S48.size a := fun v2020 k0_hw267 => k0_hw267

def k0_chk268 (v1054 : IVec S16 32) (v2023 : IVec S16 32) : Prop :=
  (∀ a x, ((![v1054, v2023] : Fin 2 → IVec S16 32) a x).toNat < S256x128.size a)
theorem k0_idx268_inb : ∀ (v1054 : IVec S16 32) (v2023 : IVec S16 32) (k0_hw268 : k0_chk268 v1054 v2023), ∀ a x, ((![v1054, v2023] : Fin 2 → IVec S16 32) a x).toNat < S256x128.size a := fun v1054 v2023 k0_hw268 => k0_hw268

def k0_chk269 (v2032 : IVec S16 32) : Prop :=
  (∀ a x, ((![v2032] : Fin 1 → IVec S16 32) a x).toNat < S48.size a)
theorem k0_idx269_inb : ∀ (v2032 : IVec S16 32) (k0_hw269 : k0_chk269 v2032), ∀ a x, ((![v2032] : Fin 1 → IVec S16 32) a x).toNat < S48.size a := fun v2032 k0_hw269 => k0_hw269

def k0_chk270 (v1054 : IVec S16 32) (v2035 : IVec S16 32) : Prop :=
  (∀ a x, ((![v1054, v2035] : Fin 2 → IVec S16 32) a x).toNat < S256x128.size a)
theorem k0_idx270_inb : ∀ (v1054 : IVec S16 32) (v2035 : IVec S16 32) (k0_hw270 : k0_chk270 v1054 v2035), ∀ a x, ((![v1054, v2035] : Fin 2 → IVec S16 32) a x).toNat < S256x128.size a := fun v1054 v2035 k0_hw270 => k0_hw270

def k0_chk271 (v2044 : IVec S16 32) : Prop :=
  (∀ a x, ((![v2044] : Fin 1 → IVec S16 32) a x).toNat < S48.size a)
theorem k0_idx271_inb : ∀ (v2044 : IVec S16 32) (k0_hw271 : k0_chk271 v2044), ∀ a x, ((![v2044] : Fin 1 → IVec S16 32) a x).toNat < S48.size a := fun v2044 k0_hw271 => k0_hw271

def k0_chk272 (v1054 : IVec S16 32) (v2047 : IVec S16 32) : Prop :=
  (∀ a x, ((![v1054, v2047] : Fin 2 → IVec S16 32) a x).toNat < S256x128.size a)
theorem k0_idx272_inb : ∀ (v1054 : IVec S16 32) (v2047 : IVec S16 32) (k0_hw272 : k0_chk272 v1054 v2047), ∀ a x, ((![v1054, v2047] : Fin 2 → IVec S16 32) a x).toNat < S256x128.size a := fun v1054 v2047 k0_hw272 => k0_hw272
def k0_off3 (k0_t1 : Fin k0_t1_loop.trips) : Fin 1 → Nat :=
  let c4_i32_337 : BitVec 32 := 4#32
  let c0_i32_0 : BitVec 32 := 0#32
  let c1_i32 : BitVec 32 := 1#32
  let arg8 : BitVec 32 := Scf.iv c0_i32_0 c1_i32 k0_t1
  let v1050 : BitVec 32 := Scalar.muli c4_i32_337 arg8
  let c1_i32_338 : BitVec 32 := 1#32
  let v1051 : BitVec 32 := Scalar.addi v1050 c1_i32_338
  let c16_i32_696 : BitVec 32 := 16#32
  let v2051 : BitVec 32 := Scalar.muli v1051 c16_i32_696
  let v2052 : Index := Scalar.indexCast v2051
  ![v2052.toNat]

def k0_chk273 (v2058 : IVec S16 32) (v2062 : IVec S16 32) : Prop :=
  (∀ a x, ((![v2058, v2062] : Fin 2 → IVec S16 32) a x).toNat < S256x128.size a)
theorem k0_idx273_inb : ∀ (v2058 : IVec S16 32) (v2062 : IVec S16 32) (k0_hw273 : k0_chk273 v2058 v2062), ∀ a x, ((![v2058, v2062] : Fin 2 → IVec S16 32) a x).toNat < S256x128.size a := fun v2058 v2062 k0_hw273 => k0_hw273

def k0_chk274 (v2058 : IVec S16 32) (v2069 : IVec S16 32) : Prop :=
  (∀ a x, ((![v2058, v2069] : Fin 2 → IVec S16 32) a x).toNat < S256x128.size a)
theorem k0_idx274_inb : ∀ (v2058 : IVec S16 32) (v2069 : IVec S16 32) (k0_hw274 : k0_chk274 v2058 v2069), ∀ a x, ((![v2058, v2069] : Fin 2 → IVec S16 32) a x).toNat < S256x128.size a := fun v2058 v2069 k0_hw274 => k0_hw274

def k0_chk275 (v2058 : IVec S16 32) (v2077 : IVec S16 32) : Prop :=
  (∀ a x, ((![v2058, v2077] : Fin 2 → IVec S16 32) a x).toNat < S256x128.size a)
theorem k0_idx275_inb : ∀ (v2058 : IVec S16 32) (v2077 : IVec S16 32) (k0_hw275 : k0_chk275 v2058 v2077), ∀ a x, ((![v2058, v2077] : Fin 2 → IVec S16 32) a x).toNat < S256x128.size a := fun v2058 v2077 k0_hw275 => k0_hw275

def k0_chk276 (v2058 : IVec S16 32) (v2085 : IVec S16 32) : Prop :=
  (∀ a x, ((![v2058, v2085] : Fin 2 → IVec S16 32) a x).toNat < S256x128.size a)
theorem k0_idx276_inb : ∀ (v2058 : IVec S16 32) (v2085 : IVec S16 32) (k0_hw276 : k0_chk276 v2058 v2085), ∀ a x, ((![v2058, v2085] : Fin 2 → IVec S16 32) a x).toNat < S256x128.size a := fun v2058 v2085 k0_hw276 => k0_hw276

def k0_chk277 (v2058 : IVec S16 32) (v2093 : IVec S16 32) : Prop :=
  (∀ a x, ((![v2058, v2093] : Fin 2 → IVec S16 32) a x).toNat < S256x128.size a)
theorem k0_idx277_inb : ∀ (v2058 : IVec S16 32) (v2093 : IVec S16 32) (k0_hw277 : k0_chk277 v2058 v2093), ∀ a x, ((![v2058, v2093] : Fin 2 → IVec S16 32) a x).toNat < S256x128.size a := fun v2058 v2093 k0_hw277 => k0_hw277

def k0_chk278 (v2058 : IVec S16 32) (v2101 : IVec S16 32) : Prop :=
  (∀ a x, ((![v2058, v2101] : Fin 2 → IVec S16 32) a x).toNat < S256x128.size a)
theorem k0_idx278_inb : ∀ (v2058 : IVec S16 32) (v2101 : IVec S16 32) (k0_hw278 : k0_chk278 v2058 v2101), ∀ a x, ((![v2058, v2101] : Fin 2 → IVec S16 32) a x).toNat < S256x128.size a := fun v2058 v2101 k0_hw278 => k0_hw278

def k0_chk279 (v2058 : IVec S16 32) (v2109 : IVec S16 32) : Prop :=
  (∀ a x, ((![v2058, v2109] : Fin 2 → IVec S16 32) a x).toNat < S256x128.size a)
theorem k0_idx279_inb : ∀ (v2058 : IVec S16 32) (v2109 : IVec S16 32) (k0_hw279 : k0_chk279 v2058 v2109), ∀ a x, ((![v2058, v2109] : Fin 2 → IVec S16 32) a x).toNat < S256x128.size a := fun v2058 v2109 k0_hw279 => k0_hw279

def k0_chk280 (v2058 : IVec S16 32) (v2117 : IVec S16 32) : Prop :=
  (∀ a x, ((![v2058, v2117] : Fin 2 → IVec S16 32) a x).toNat < S256x128.size a)
theorem k0_idx280_inb : ∀ (v2058 : IVec S16 32) (v2117 : IVec S16 32) (k0_hw280 : k0_chk280 v2058 v2117), ∀ a x, ((![v2058, v2117] : Fin 2 → IVec S16 32) a x).toNat < S256x128.size a := fun v2058 v2117 k0_hw280 => k0_hw280

def k0_chk281 (v2058 : IVec S16 32) (v2125 : IVec S16 32) : Prop :=
  (∀ a x, ((![v2058, v2125] : Fin 2 → IVec S16 32) a x).toNat < S256x128.size a)
theorem k0_idx281_inb : ∀ (v2058 : IVec S16 32) (v2125 : IVec S16 32) (k0_hw281 : k0_chk281 v2058 v2125), ∀ a x, ((![v2058, v2125] : Fin 2 → IVec S16 32) a x).toNat < S256x128.size a := fun v2058 v2125 k0_hw281 => k0_hw281

def k0_chk282 (v2058 : IVec S16 32) (v2132 : IVec S16 32) : Prop :=
  (∀ a x, ((![v2058, v2132] : Fin 2 → IVec S16 32) a x).toNat < S256x128.size a)
theorem k0_idx282_inb : ∀ (v2058 : IVec S16 32) (v2132 : IVec S16 32) (k0_hw282 : k0_chk282 v2058 v2132), ∀ a x, ((![v2058, v2132] : Fin 2 → IVec S16 32) a x).toNat < S256x128.size a := fun v2058 v2132 k0_hw282 => k0_hw282

def k0_chk283 (v2058 : IVec S16 32) (v2140 : IVec S16 32) : Prop :=
  (∀ a x, ((![v2058, v2140] : Fin 2 → IVec S16 32) a x).toNat < S256x128.size a)
theorem k0_idx283_inb : ∀ (v2058 : IVec S16 32) (v2140 : IVec S16 32) (k0_hw283 : k0_chk283 v2058 v2140), ∀ a x, ((![v2058, v2140] : Fin 2 → IVec S16 32) a x).toNat < S256x128.size a := fun v2058 v2140 k0_hw283 => k0_hw283

def k0_chk284 (v2058 : IVec S16 32) (v2148 : IVec S16 32) : Prop :=
  (∀ a x, ((![v2058, v2148] : Fin 2 → IVec S16 32) a x).toNat < S256x128.size a)
theorem k0_idx284_inb : ∀ (v2058 : IVec S16 32) (v2148 : IVec S16 32) (k0_hw284 : k0_chk284 v2058 v2148), ∀ a x, ((![v2058, v2148] : Fin 2 → IVec S16 32) a x).toNat < S256x128.size a := fun v2058 v2148 k0_hw284 => k0_hw284

def k0_chk285 (v2058 : IVec S16 32) (v2156 : IVec S16 32) : Prop :=
  (∀ a x, ((![v2058, v2156] : Fin 2 → IVec S16 32) a x).toNat < S256x128.size a)
theorem k0_idx285_inb : ∀ (v2058 : IVec S16 32) (v2156 : IVec S16 32) (k0_hw285 : k0_chk285 v2058 v2156), ∀ a x, ((![v2058, v2156] : Fin 2 → IVec S16 32) a x).toNat < S256x128.size a := fun v2058 v2156 k0_hw285 => k0_hw285

def k0_chk286 (v2058 : IVec S16 32) (v2164 : IVec S16 32) : Prop :=
  (∀ a x, ((![v2058, v2164] : Fin 2 → IVec S16 32) a x).toNat < S256x128.size a)
theorem k0_idx286_inb : ∀ (v2058 : IVec S16 32) (v2164 : IVec S16 32) (k0_hw286 : k0_chk286 v2058 v2164), ∀ a x, ((![v2058, v2164] : Fin 2 → IVec S16 32) a x).toNat < S256x128.size a := fun v2058 v2164 k0_hw286 => k0_hw286

def k0_chk287 (v2058 : IVec S16 32) (v2172 : IVec S16 32) : Prop :=
  (∀ a x, ((![v2058, v2172] : Fin 2 → IVec S16 32) a x).toNat < S256x128.size a)
theorem k0_idx287_inb : ∀ (v2058 : IVec S16 32) (v2172 : IVec S16 32) (k0_hw287 : k0_chk287 v2058 v2172), ∀ a x, ((![v2058, v2172] : Fin 2 → IVec S16 32) a x).toNat < S256x128.size a := fun v2058 v2172 k0_hw287 => k0_hw287

def k0_chk288 (v2058 : IVec S16 32) (v2180 : IVec S16 32) : Prop :=
  (∀ a x, ((![v2058, v2180] : Fin 2 → IVec S16 32) a x).toNat < S256x128.size a)
theorem k0_idx288_inb : ∀ (v2058 : IVec S16 32) (v2180 : IVec S16 32) (k0_hw288 : k0_chk288 v2058 v2180), ∀ a x, ((![v2058, v2180] : Fin 2 → IVec S16 32) a x).toNat < S256x128.size a := fun v2058 v2180 k0_hw288 => k0_hw288

def k0_chk289 (v2058 : IVec S16 32) (v2188 : IVec S16 32) : Prop :=
  (∀ a x, ((![v2058, v2188] : Fin 2 → IVec S16 32) a x).toNat < S256x128.size a)
theorem k0_idx289_inb : ∀ (v2058 : IVec S16 32) (v2188 : IVec S16 32) (k0_hw289 : k0_chk289 v2058 v2188), ∀ a x, ((![v2058, v2188] : Fin 2 → IVec S16 32) a x).toNat < S256x128.size a := fun v2058 v2188 k0_hw289 => k0_hw289

def k0_chk290 (v2058 : IVec S16 32) (v2195 : IVec S16 32) : Prop :=
  (∀ a x, ((![v2058, v2195] : Fin 2 → IVec S16 32) a x).toNat < S256x128.size a)
theorem k0_idx290_inb : ∀ (v2058 : IVec S16 32) (v2195 : IVec S16 32) (k0_hw290 : k0_chk290 v2058 v2195), ∀ a x, ((![v2058, v2195] : Fin 2 → IVec S16 32) a x).toNat < S256x128.size a := fun v2058 v2195 k0_hw290 => k0_hw290

def k0_chk291 (v2058 : IVec S16 32) (v2203 : IVec S16 32) : Prop :=
  (∀ a x, ((![v2058, v2203] : Fin 2 → IVec S16 32) a x).toNat < S256x128.size a)
theorem k0_idx291_inb : ∀ (v2058 : IVec S16 32) (v2203 : IVec S16 32) (k0_hw291 : k0_chk291 v2058 v2203), ∀ a x, ((![v2058, v2203] : Fin 2 → IVec S16 32) a x).toNat < S256x128.size a := fun v2058 v2203 k0_hw291 => k0_hw291

def k0_chk292 (v2058 : IVec S16 32) (v2211 : IVec S16 32) : Prop :=
  (∀ a x, ((![v2058, v2211] : Fin 2 → IVec S16 32) a x).toNat < S256x128.size a)
theorem k0_idx292_inb : ∀ (v2058 : IVec S16 32) (v2211 : IVec S16 32) (k0_hw292 : k0_chk292 v2058 v2211), ∀ a x, ((![v2058, v2211] : Fin 2 → IVec S16 32) a x).toNat < S256x128.size a := fun v2058 v2211 k0_hw292 => k0_hw292

def k0_chk293 (v2058 : IVec S16 32) (v2219 : IVec S16 32) : Prop :=
  (∀ a x, ((![v2058, v2219] : Fin 2 → IVec S16 32) a x).toNat < S256x128.size a)
theorem k0_idx293_inb : ∀ (v2058 : IVec S16 32) (v2219 : IVec S16 32) (k0_hw293 : k0_chk293 v2058 v2219), ∀ a x, ((![v2058, v2219] : Fin 2 → IVec S16 32) a x).toNat < S256x128.size a := fun v2058 v2219 k0_hw293 => k0_hw293

def k0_chk294 (v2058 : IVec S16 32) (v2227 : IVec S16 32) : Prop :=
  (∀ a x, ((![v2058, v2227] : Fin 2 → IVec S16 32) a x).toNat < S256x128.size a)
theorem k0_idx294_inb : ∀ (v2058 : IVec S16 32) (v2227 : IVec S16 32) (k0_hw294 : k0_chk294 v2058 v2227), ∀ a x, ((![v2058, v2227] : Fin 2 → IVec S16 32) a x).toNat < S256x128.size a := fun v2058 v2227 k0_hw294 => k0_hw294

def k0_chk295 (v2058 : IVec S16 32) (v2235 : IVec S16 32) : Prop :=
  (∀ a x, ((![v2058, v2235] : Fin 2 → IVec S16 32) a x).toNat < S256x128.size a)
theorem k0_idx295_inb : ∀ (v2058 : IVec S16 32) (v2235 : IVec S16 32) (k0_hw295 : k0_chk295 v2058 v2235), ∀ a x, ((![v2058, v2235] : Fin 2 → IVec S16 32) a x).toNat < S256x128.size a := fun v2058 v2235 k0_hw295 => k0_hw295

def k0_chk296 (v2058 : IVec S16 32) (v2243 : IVec S16 32) : Prop :=
  (∀ a x, ((![v2058, v2243] : Fin 2 → IVec S16 32) a x).toNat < S256x128.size a)
theorem k0_idx296_inb : ∀ (v2058 : IVec S16 32) (v2243 : IVec S16 32) (k0_hw296 : k0_chk296 v2058 v2243), ∀ a x, ((![v2058, v2243] : Fin 2 → IVec S16 32) a x).toNat < S256x128.size a := fun v2058 v2243 k0_hw296 => k0_hw296

def k0_chk297 (v2058 : IVec S16 32) (v2251 : IVec S16 32) : Prop :=
  (∀ a x, ((![v2058, v2251] : Fin 2 → IVec S16 32) a x).toNat < S256x128.size a)
theorem k0_idx297_inb : ∀ (v2058 : IVec S16 32) (v2251 : IVec S16 32) (k0_hw297 : k0_chk297 v2058 v2251), ∀ a x, ((![v2058, v2251] : Fin 2 → IVec S16 32) a x).toNat < S256x128.size a := fun v2058 v2251 k0_hw297 => k0_hw297

def k0_chk298 (v2058 : IVec S16 32) (v2258 : IVec S16 32) : Prop :=
  (∀ a x, ((![v2058, v2258] : Fin 2 → IVec S16 32) a x).toNat < S256x128.size a)
theorem k0_idx298_inb : ∀ (v2058 : IVec S16 32) (v2258 : IVec S16 32) (k0_hw298 : k0_chk298 v2058 v2258), ∀ a x, ((![v2058, v2258] : Fin 2 → IVec S16 32) a x).toNat < S256x128.size a := fun v2058 v2258 k0_hw298 => k0_hw298

def k0_chk299 (v2058 : IVec S16 32) (v2266 : IVec S16 32) : Prop :=
  (∀ a x, ((![v2058, v2266] : Fin 2 → IVec S16 32) a x).toNat < S256x128.size a)
theorem k0_idx299_inb : ∀ (v2058 : IVec S16 32) (v2266 : IVec S16 32) (k0_hw299 : k0_chk299 v2058 v2266), ∀ a x, ((![v2058, v2266] : Fin 2 → IVec S16 32) a x).toNat < S256x128.size a := fun v2058 v2266 k0_hw299 => k0_hw299

def k0_chk300 (v2058 : IVec S16 32) (v2274 : IVec S16 32) : Prop :=
  (∀ a x, ((![v2058, v2274] : Fin 2 → IVec S16 32) a x).toNat < S256x128.size a)
theorem k0_idx300_inb : ∀ (v2058 : IVec S16 32) (v2274 : IVec S16 32) (k0_hw300 : k0_chk300 v2058 v2274), ∀ a x, ((![v2058, v2274] : Fin 2 → IVec S16 32) a x).toNat < S256x128.size a := fun v2058 v2274 k0_hw300 => k0_hw300

def k0_chk301 (v2058 : IVec S16 32) (v2282 : IVec S16 32) : Prop :=
  (∀ a x, ((![v2058, v2282] : Fin 2 → IVec S16 32) a x).toNat < S256x128.size a)
theorem k0_idx301_inb : ∀ (v2058 : IVec S16 32) (v2282 : IVec S16 32) (k0_hw301 : k0_chk301 v2058 v2282), ∀ a x, ((![v2058, v2282] : Fin 2 → IVec S16 32) a x).toNat < S256x128.size a := fun v2058 v2282 k0_hw301 => k0_hw301

def k0_chk302 (v2058 : IVec S16 32) (v2290 : IVec S16 32) : Prop :=
  (∀ a x, ((![v2058, v2290] : Fin 2 → IVec S16 32) a x).toNat < S256x128.size a)
theorem k0_idx302_inb : ∀ (v2058 : IVec S16 32) (v2290 : IVec S16 32) (k0_hw302 : k0_chk302 v2058 v2290), ∀ a x, ((![v2058, v2290] : Fin 2 → IVec S16 32) a x).toNat < S256x128.size a := fun v2058 v2290 k0_hw302 => k0_hw302

def k0_chk303 (v2058 : IVec S16 32) (v2298 : IVec S16 32) : Prop :=
  (∀ a x, ((![v2058, v2298] : Fin 2 → IVec S16 32) a x).toNat < S256x128.size a)
theorem k0_idx303_inb : ∀ (v2058 : IVec S16 32) (v2298 : IVec S16 32) (k0_hw303 : k0_chk303 v2058 v2298), ∀ a x, ((![v2058, v2298] : Fin 2 → IVec S16 32) a x).toNat < S256x128.size a := fun v2058 v2298 k0_hw303 => k0_hw303

def k0_chk304 (v2058 : IVec S16 32) (v2306 : IVec S16 32) : Prop :=
  (∀ a x, ((![v2058, v2306] : Fin 2 → IVec S16 32) a x).toNat < S256x128.size a)
theorem k0_idx304_inb : ∀ (v2058 : IVec S16 32) (v2306 : IVec S16 32) (k0_hw304 : k0_chk304 v2058 v2306), ∀ a x, ((![v2058, v2306] : Fin 2 → IVec S16 32) a x).toNat < S256x128.size a := fun v2058 v2306 k0_hw304 => k0_hw304

def k0_chk305 (v2058 : IVec S16 32) (v2314 : IVec S16 32) : Prop :=
  (∀ a x, ((![v2058, v2314] : Fin 2 → IVec S16 32) a x).toNat < S256x128.size a)
theorem k0_idx305_inb : ∀ (v2058 : IVec S16 32) (v2314 : IVec S16 32) (k0_hw305 : k0_chk305 v2058 v2314), ∀ a x, ((![v2058, v2314] : Fin 2 → IVec S16 32) a x).toNat < S256x128.size a := fun v2058 v2314 k0_hw305 => k0_hw305

def k0_chk306 (v2058 : IVec S16 32) (v2321 : IVec S16 32) : Prop :=
  (∀ a x, ((![v2058, v2321] : Fin 2 → IVec S16 32) a x).toNat < S256x128.size a)
theorem k0_idx306_inb : ∀ (v2058 : IVec S16 32) (v2321 : IVec S16 32) (k0_hw306 : k0_chk306 v2058 v2321), ∀ a x, ((![v2058, v2321] : Fin 2 → IVec S16 32) a x).toNat < S256x128.size a := fun v2058 v2321 k0_hw306 => k0_hw306

def k0_chk307 (v2058 : IVec S16 32) (v2329 : IVec S16 32) : Prop :=
  (∀ a x, ((![v2058, v2329] : Fin 2 → IVec S16 32) a x).toNat < S256x128.size a)
theorem k0_idx307_inb : ∀ (v2058 : IVec S16 32) (v2329 : IVec S16 32) (k0_hw307 : k0_chk307 v2058 v2329), ∀ a x, ((![v2058, v2329] : Fin 2 → IVec S16 32) a x).toNat < S256x128.size a := fun v2058 v2329 k0_hw307 => k0_hw307

def k0_chk308 (v2058 : IVec S16 32) (v2337 : IVec S16 32) : Prop :=
  (∀ a x, ((![v2058, v2337] : Fin 2 → IVec S16 32) a x).toNat < S256x128.size a)
theorem k0_idx308_inb : ∀ (v2058 : IVec S16 32) (v2337 : IVec S16 32) (k0_hw308 : k0_chk308 v2058 v2337), ∀ a x, ((![v2058, v2337] : Fin 2 → IVec S16 32) a x).toNat < S256x128.size a := fun v2058 v2337 k0_hw308 => k0_hw308

def k0_chk309 (v2058 : IVec S16 32) (v2345 : IVec S16 32) : Prop :=
  (∀ a x, ((![v2058, v2345] : Fin 2 → IVec S16 32) a x).toNat < S256x128.size a)
theorem k0_idx309_inb : ∀ (v2058 : IVec S16 32) (v2345 : IVec S16 32) (k0_hw309 : k0_chk309 v2058 v2345), ∀ a x, ((![v2058, v2345] : Fin 2 → IVec S16 32) a x).toNat < S256x128.size a := fun v2058 v2345 k0_hw309 => k0_hw309

def k0_chk310 (v2058 : IVec S16 32) (v2353 : IVec S16 32) : Prop :=
  (∀ a x, ((![v2058, v2353] : Fin 2 → IVec S16 32) a x).toNat < S256x128.size a)
theorem k0_idx310_inb : ∀ (v2058 : IVec S16 32) (v2353 : IVec S16 32) (k0_hw310 : k0_chk310 v2058 v2353), ∀ a x, ((![v2058, v2353] : Fin 2 → IVec S16 32) a x).toNat < S256x128.size a := fun v2058 v2353 k0_hw310 => k0_hw310

def k0_chk311 (v2058 : IVec S16 32) (v2361 : IVec S16 32) : Prop :=
  (∀ a x, ((![v2058, v2361] : Fin 2 → IVec S16 32) a x).toNat < S256x128.size a)
theorem k0_idx311_inb : ∀ (v2058 : IVec S16 32) (v2361 : IVec S16 32) (k0_hw311 : k0_chk311 v2058 v2361), ∀ a x, ((![v2058, v2361] : Fin 2 → IVec S16 32) a x).toNat < S256x128.size a := fun v2058 v2361 k0_hw311 => k0_hw311

def k0_chk312 (v2058 : IVec S16 32) (v2369 : IVec S16 32) : Prop :=
  (∀ a x, ((![v2058, v2369] : Fin 2 → IVec S16 32) a x).toNat < S256x128.size a)
theorem k0_idx312_inb : ∀ (v2058 : IVec S16 32) (v2369 : IVec S16 32) (k0_hw312 : k0_chk312 v2058 v2369), ∀ a x, ((![v2058, v2369] : Fin 2 → IVec S16 32) a x).toNat < S256x128.size a := fun v2058 v2369 k0_hw312 => k0_hw312

def k0_chk313 (v2058 : IVec S16 32) (v2377 : IVec S16 32) : Prop :=
  (∀ a x, ((![v2058, v2377] : Fin 2 → IVec S16 32) a x).toNat < S256x128.size a)
theorem k0_idx313_inb : ∀ (v2058 : IVec S16 32) (v2377 : IVec S16 32) (k0_hw313 : k0_chk313 v2058 v2377), ∀ a x, ((![v2058, v2377] : Fin 2 → IVec S16 32) a x).toNat < S256x128.size a := fun v2058 v2377 k0_hw313 => k0_hw313

def k0_chk314 (v2058 : IVec S16 32) (v2384 : IVec S16 32) : Prop :=
  (∀ a x, ((![v2058, v2384] : Fin 2 → IVec S16 32) a x).toNat < S256x128.size a)
theorem k0_idx314_inb : ∀ (v2058 : IVec S16 32) (v2384 : IVec S16 32) (k0_hw314 : k0_chk314 v2058 v2384), ∀ a x, ((![v2058, v2384] : Fin 2 → IVec S16 32) a x).toNat < S256x128.size a := fun v2058 v2384 k0_hw314 => k0_hw314

def k0_chk315 (v2058 : IVec S16 32) (v2392 : IVec S16 32) : Prop :=
  (∀ a x, ((![v2058, v2392] : Fin 2 → IVec S16 32) a x).toNat < S256x128.size a)
theorem k0_idx315_inb : ∀ (v2058 : IVec S16 32) (v2392 : IVec S16 32) (k0_hw315 : k0_chk315 v2058 v2392), ∀ a x, ((![v2058, v2392] : Fin 2 → IVec S16 32) a x).toNat < S256x128.size a := fun v2058 v2392 k0_hw315 => k0_hw315

def k0_chk316 (v2058 : IVec S16 32) (v2400 : IVec S16 32) : Prop :=
  (∀ a x, ((![v2058, v2400] : Fin 2 → IVec S16 32) a x).toNat < S256x128.size a)
theorem k0_idx316_inb : ∀ (v2058 : IVec S16 32) (v2400 : IVec S16 32) (k0_hw316 : k0_chk316 v2058 v2400), ∀ a x, ((![v2058, v2400] : Fin 2 → IVec S16 32) a x).toNat < S256x128.size a := fun v2058 v2400 k0_hw316 => k0_hw316

def k0_chk317 (v2058 : IVec S16 32) (v2408 : IVec S16 32) : Prop :=
  (∀ a x, ((![v2058, v2408] : Fin 2 → IVec S16 32) a x).toNat < S256x128.size a)
theorem k0_idx317_inb : ∀ (v2058 : IVec S16 32) (v2408 : IVec S16 32) (k0_hw317 : k0_chk317 v2058 v2408), ∀ a x, ((![v2058, v2408] : Fin 2 → IVec S16 32) a x).toNat < S256x128.size a := fun v2058 v2408 k0_hw317 => k0_hw317

def k0_chk318 (v2058 : IVec S16 32) (v2416 : IVec S16 32) : Prop :=
  (∀ a x, ((![v2058, v2416] : Fin 2 → IVec S16 32) a x).toNat < S256x128.size a)
theorem k0_idx318_inb : ∀ (v2058 : IVec S16 32) (v2416 : IVec S16 32) (k0_hw318 : k0_chk318 v2058 v2416), ∀ a x, ((![v2058, v2416] : Fin 2 → IVec S16 32) a x).toNat < S256x128.size a := fun v2058 v2416 k0_hw318 => k0_hw318

def k0_chk319 (v2058 : IVec S16 32) (v2424 : IVec S16 32) : Prop :=
  (∀ a x, ((![v2058, v2424] : Fin 2 → IVec S16 32) a x).toNat < S256x128.size a)
theorem k0_idx319_inb : ∀ (v2058 : IVec S16 32) (v2424 : IVec S16 32) (k0_hw319 : k0_chk319 v2058 v2424), ∀ a x, ((![v2058, v2424] : Fin 2 → IVec S16 32) a x).toNat < S256x128.size a := fun v2058 v2424 k0_hw319 => k0_hw319

def k0_chk320 (v2058 : IVec S16 32) (v2432 : IVec S16 32) : Prop :=
  (∀ a x, ((![v2058, v2432] : Fin 2 → IVec S16 32) a x).toNat < S256x128.size a)
theorem k0_idx320_inb : ∀ (v2058 : IVec S16 32) (v2432 : IVec S16 32) (k0_hw320 : k0_chk320 v2058 v2432), ∀ a x, ((![v2058, v2432] : Fin 2 → IVec S16 32) a x).toNat < S256x128.size a := fun v2058 v2432 k0_hw320 => k0_hw320

def k0_chk321 (v2058 : IVec S16 32) (v2440 : IVec S16 32) : Prop :=
  (∀ a x, ((![v2058, v2440] : Fin 2 → IVec S16 32) a x).toNat < S256x128.size a)
theorem k0_idx321_inb : ∀ (v2058 : IVec S16 32) (v2440 : IVec S16 32) (k0_hw321 : k0_chk321 v2058 v2440), ∀ a x, ((![v2058, v2440] : Fin 2 → IVec S16 32) a x).toNat < S256x128.size a := fun v2058 v2440 k0_hw321 => k0_hw321

def k0_chk322 (v2058 : IVec S16 32) (v2447 : IVec S16 32) : Prop :=
  (∀ a x, ((![v2058, v2447] : Fin 2 → IVec S16 32) a x).toNat < S256x128.size a)
theorem k0_idx322_inb : ∀ (v2058 : IVec S16 32) (v2447 : IVec S16 32) (k0_hw322 : k0_chk322 v2058 v2447), ∀ a x, ((![v2058, v2447] : Fin 2 → IVec S16 32) a x).toNat < S256x128.size a := fun v2058 v2447 k0_hw322 => k0_hw322

def k0_chk323 (v2058 : IVec S16 32) (v2455 : IVec S16 32) : Prop :=
  (∀ a x, ((![v2058, v2455] : Fin 2 → IVec S16 32) a x).toNat < S256x128.size a)
theorem k0_idx323_inb : ∀ (v2058 : IVec S16 32) (v2455 : IVec S16 32) (k0_hw323 : k0_chk323 v2058 v2455), ∀ a x, ((![v2058, v2455] : Fin 2 → IVec S16 32) a x).toNat < S256x128.size a := fun v2058 v2455 k0_hw323 => k0_hw323

def k0_chk324 (v2058 : IVec S16 32) (v2463 : IVec S16 32) : Prop :=
  (∀ a x, ((![v2058, v2463] : Fin 2 → IVec S16 32) a x).toNat < S256x128.size a)
theorem k0_idx324_inb : ∀ (v2058 : IVec S16 32) (v2463 : IVec S16 32) (k0_hw324 : k0_chk324 v2058 v2463), ∀ a x, ((![v2058, v2463] : Fin 2 → IVec S16 32) a x).toNat < S256x128.size a := fun v2058 v2463 k0_hw324 => k0_hw324

def k0_chk325 (v2058 : IVec S16 32) (v2471 : IVec S16 32) : Prop :=
  (∀ a x, ((![v2058, v2471] : Fin 2 → IVec S16 32) a x).toNat < S256x128.size a)
theorem k0_idx325_inb : ∀ (v2058 : IVec S16 32) (v2471 : IVec S16 32) (k0_hw325 : k0_chk325 v2058 v2471), ∀ a x, ((![v2058, v2471] : Fin 2 → IVec S16 32) a x).toNat < S256x128.size a := fun v2058 v2471 k0_hw325 => k0_hw325

def k0_chk326 (v2058 : IVec S16 32) (v2479 : IVec S16 32) : Prop :=
  (∀ a x, ((![v2058, v2479] : Fin 2 → IVec S16 32) a x).toNat < S256x128.size a)
theorem k0_idx326_inb : ∀ (v2058 : IVec S16 32) (v2479 : IVec S16 32) (k0_hw326 : k0_chk326 v2058 v2479), ∀ a x, ((![v2058, v2479] : Fin 2 → IVec S16 32) a x).toNat < S256x128.size a := fun v2058 v2479 k0_hw326 => k0_hw326

def k0_chk327 (v2058 : IVec S16 32) (v2487 : IVec S16 32) : Prop :=
  (∀ a x, ((![v2058, v2487] : Fin 2 → IVec S16 32) a x).toNat < S256x128.size a)
theorem k0_idx327_inb : ∀ (v2058 : IVec S16 32) (v2487 : IVec S16 32) (k0_hw327 : k0_chk327 v2058 v2487), ∀ a x, ((![v2058, v2487] : Fin 2 → IVec S16 32) a x).toNat < S256x128.size a := fun v2058 v2487 k0_hw327 => k0_hw327

def k0_chk328 (v2058 : IVec S16 32) (v2495 : IVec S16 32) : Prop :=
  (∀ a x, ((![v2058, v2495] : Fin 2 → IVec S16 32) a x).toNat < S256x128.size a)
theorem k0_idx328_inb : ∀ (v2058 : IVec S16 32) (v2495 : IVec S16 32) (k0_hw328 : k0_chk328 v2058 v2495), ∀ a x, ((![v2058, v2495] : Fin 2 → IVec S16 32) a x).toNat < S256x128.size a := fun v2058 v2495 k0_hw328 => k0_hw328

def k0_chk329 (v2058 : IVec S16 32) (v2503 : IVec S16 32) : Prop :=
  (∀ a x, ((![v2058, v2503] : Fin 2 → IVec S16 32) a x).toNat < S256x128.size a)
theorem k0_idx329_inb : ∀ (v2058 : IVec S16 32) (v2503 : IVec S16 32) (k0_hw329 : k0_chk329 v2058 v2503), ∀ a x, ((![v2058, v2503] : Fin 2 → IVec S16 32) a x).toNat < S256x128.size a := fun v2058 v2503 k0_hw329 => k0_hw329

def k0_chk330 (v2058 : IVec S16 32) (v2510 : IVec S16 32) : Prop :=
  (∀ a x, ((![v2058, v2510] : Fin 2 → IVec S16 32) a x).toNat < S256x128.size a)
theorem k0_idx330_inb : ∀ (v2058 : IVec S16 32) (v2510 : IVec S16 32) (k0_hw330 : k0_chk330 v2058 v2510), ∀ a x, ((![v2058, v2510] : Fin 2 → IVec S16 32) a x).toNat < S256x128.size a := fun v2058 v2510 k0_hw330 => k0_hw330

def k0_chk331 (v2058 : IVec S16 32) (v2518 : IVec S16 32) : Prop :=
  (∀ a x, ((![v2058, v2518] : Fin 2 → IVec S16 32) a x).toNat < S256x128.size a)
theorem k0_idx331_inb : ∀ (v2058 : IVec S16 32) (v2518 : IVec S16 32) (k0_hw331 : k0_chk331 v2058 v2518), ∀ a x, ((![v2058, v2518] : Fin 2 → IVec S16 32) a x).toNat < S256x128.size a := fun v2058 v2518 k0_hw331 => k0_hw331

def k0_chk332 (v2058 : IVec S16 32) (v2526 : IVec S16 32) : Prop :=
  (∀ a x, ((![v2058, v2526] : Fin 2 → IVec S16 32) a x).toNat < S256x128.size a)
theorem k0_idx332_inb : ∀ (v2058 : IVec S16 32) (v2526 : IVec S16 32) (k0_hw332 : k0_chk332 v2058 v2526), ∀ a x, ((![v2058, v2526] : Fin 2 → IVec S16 32) a x).toNat < S256x128.size a := fun v2058 v2526 k0_hw332 => k0_hw332

def k0_chk333 (v2058 : IVec S16 32) (v2534 : IVec S16 32) : Prop :=
  (∀ a x, ((![v2058, v2534] : Fin 2 → IVec S16 32) a x).toNat < S256x128.size a)
theorem k0_idx333_inb : ∀ (v2058 : IVec S16 32) (v2534 : IVec S16 32) (k0_hw333 : k0_chk333 v2058 v2534), ∀ a x, ((![v2058, v2534] : Fin 2 → IVec S16 32) a x).toNat < S256x128.size a := fun v2058 v2534 k0_hw333 => k0_hw333

def k0_chk334 (v2058 : IVec S16 32) (v2542 : IVec S16 32) : Prop :=
  (∀ a x, ((![v2058, v2542] : Fin 2 → IVec S16 32) a x).toNat < S256x128.size a)
theorem k0_idx334_inb : ∀ (v2058 : IVec S16 32) (v2542 : IVec S16 32) (k0_hw334 : k0_chk334 v2058 v2542), ∀ a x, ((![v2058, v2542] : Fin 2 → IVec S16 32) a x).toNat < S256x128.size a := fun v2058 v2542 k0_hw334 => k0_hw334

def k0_chk335 (v2058 : IVec S16 32) (v2550 : IVec S16 32) : Prop :=
  (∀ a x, ((![v2058, v2550] : Fin 2 → IVec S16 32) a x).toNat < S256x128.size a)
theorem k0_idx335_inb : ∀ (v2058 : IVec S16 32) (v2550 : IVec S16 32) (k0_hw335 : k0_chk335 v2058 v2550), ∀ a x, ((![v2058, v2550] : Fin 2 → IVec S16 32) a x).toNat < S256x128.size a := fun v2058 v2550 k0_hw335 => k0_hw335

def k0_chk336 (v2058 : IVec S16 32) (v2558 : IVec S16 32) : Prop :=
  (∀ a x, ((![v2058, v2558] : Fin 2 → IVec S16 32) a x).toNat < S256x128.size a)
theorem k0_idx336_inb : ∀ (v2058 : IVec S16 32) (v2558 : IVec S16 32) (k0_hw336 : k0_chk336 v2058 v2558), ∀ a x, ((![v2058, v2558] : Fin 2 → IVec S16 32) a x).toNat < S256x128.size a := fun v2058 v2558 k0_hw336 => k0_hw336

def k0_chk337 (v2058 : IVec S16 32) (v2566 : IVec S16 32) : Prop :=
  (∀ a x, ((![v2058, v2566] : Fin 2 → IVec S16 32) a x).toNat < S256x128.size a)
theorem k0_idx337_inb : ∀ (v2058 : IVec S16 32) (v2566 : IVec S16 32) (k0_hw337 : k0_chk337 v2058 v2566), ∀ a x, ((![v2058, v2566] : Fin 2 → IVec S16 32) a x).toNat < S256x128.size a := fun v2058 v2566 k0_hw337 => k0_hw337

def k0_chk338 (v2058 : IVec S16 32) (v2573 : IVec S16 32) : Prop :=
  (∀ a x, ((![v2058, v2573] : Fin 2 → IVec S16 32) a x).toNat < S256x128.size a)
theorem k0_idx338_inb : ∀ (v2058 : IVec S16 32) (v2573 : IVec S16 32) (k0_hw338 : k0_chk338 v2058 v2573), ∀ a x, ((![v2058, v2573] : Fin 2 → IVec S16 32) a x).toNat < S256x128.size a := fun v2058 v2573 k0_hw338 => k0_hw338

def k0_chk339 (v2058 : IVec S16 32) (v2581 : IVec S16 32) : Prop :=
  (∀ a x, ((![v2058, v2581] : Fin 2 → IVec S16 32) a x).toNat < S256x128.size a)
theorem k0_idx339_inb : ∀ (v2058 : IVec S16 32) (v2581 : IVec S16 32) (k0_hw339 : k0_chk339 v2058 v2581), ∀ a x, ((![v2058, v2581] : Fin 2 → IVec S16 32) a x).toNat < S256x128.size a := fun v2058 v2581 k0_hw339 => k0_hw339

def k0_chk340 (v2058 : IVec S16 32) (v2589 : IVec S16 32) : Prop :=
  (∀ a x, ((![v2058, v2589] : Fin 2 → IVec S16 32) a x).toNat < S256x128.size a)
theorem k0_idx340_inb : ∀ (v2058 : IVec S16 32) (v2589 : IVec S16 32) (k0_hw340 : k0_chk340 v2058 v2589), ∀ a x, ((![v2058, v2589] : Fin 2 → IVec S16 32) a x).toNat < S256x128.size a := fun v2058 v2589 k0_hw340 => k0_hw340

def k0_chk341 (v2058 : IVec S16 32) (v2597 : IVec S16 32) : Prop :=
  (∀ a x, ((![v2058, v2597] : Fin 2 → IVec S16 32) a x).toNat < S256x128.size a)
theorem k0_idx341_inb : ∀ (v2058 : IVec S16 32) (v2597 : IVec S16 32) (k0_hw341 : k0_chk341 v2058 v2597), ∀ a x, ((![v2058, v2597] : Fin 2 → IVec S16 32) a x).toNat < S256x128.size a := fun v2058 v2597 k0_hw341 => k0_hw341

def k0_chk342 (v2058 : IVec S16 32) (v2605 : IVec S16 32) : Prop :=
  (∀ a x, ((![v2058, v2605] : Fin 2 → IVec S16 32) a x).toNat < S256x128.size a)
theorem k0_idx342_inb : ∀ (v2058 : IVec S16 32) (v2605 : IVec S16 32) (k0_hw342 : k0_chk342 v2058 v2605), ∀ a x, ((![v2058, v2605] : Fin 2 → IVec S16 32) a x).toNat < S256x128.size a := fun v2058 v2605 k0_hw342 => k0_hw342

def k0_chk343 (v2058 : IVec S16 32) (v2613 : IVec S16 32) : Prop :=
  (∀ a x, ((![v2058, v2613] : Fin 2 → IVec S16 32) a x).toNat < S256x128.size a)
theorem k0_idx343_inb : ∀ (v2058 : IVec S16 32) (v2613 : IVec S16 32) (k0_hw343 : k0_chk343 v2058 v2613), ∀ a x, ((![v2058, v2613] : Fin 2 → IVec S16 32) a x).toNat < S256x128.size a := fun v2058 v2613 k0_hw343 => k0_hw343

def k0_chk344 (v2058 : IVec S16 32) (v2621 : IVec S16 32) : Prop :=
  (∀ a x, ((![v2058, v2621] : Fin 2 → IVec S16 32) a x).toNat < S256x128.size a)
theorem k0_idx344_inb : ∀ (v2058 : IVec S16 32) (v2621 : IVec S16 32) (k0_hw344 : k0_chk344 v2058 v2621), ∀ a x, ((![v2058, v2621] : Fin 2 → IVec S16 32) a x).toNat < S256x128.size a := fun v2058 v2621 k0_hw344 => k0_hw344

def k0_chk345 (v2058 : IVec S16 32) (v2629 : IVec S16 32) : Prop :=
  (∀ a x, ((![v2058, v2629] : Fin 2 → IVec S16 32) a x).toNat < S256x128.size a)
theorem k0_idx345_inb : ∀ (v2058 : IVec S16 32) (v2629 : IVec S16 32) (k0_hw345 : k0_chk345 v2058 v2629), ∀ a x, ((![v2058, v2629] : Fin 2 → IVec S16 32) a x).toNat < S256x128.size a := fun v2058 v2629 k0_hw345 => k0_hw345

def k0_chk346 (v2058 : IVec S16 32) (v2636 : IVec S16 32) : Prop :=
  (∀ a x, ((![v2058, v2636] : Fin 2 → IVec S16 32) a x).toNat < S256x128.size a)
theorem k0_idx346_inb : ∀ (v2058 : IVec S16 32) (v2636 : IVec S16 32) (k0_hw346 : k0_chk346 v2058 v2636), ∀ a x, ((![v2058, v2636] : Fin 2 → IVec S16 32) a x).toNat < S256x128.size a := fun v2058 v2636 k0_hw346 => k0_hw346

def k0_chk347 (v2058 : IVec S16 32) (v2644 : IVec S16 32) : Prop :=
  (∀ a x, ((![v2058, v2644] : Fin 2 → IVec S16 32) a x).toNat < S256x128.size a)
theorem k0_idx347_inb : ∀ (v2058 : IVec S16 32) (v2644 : IVec S16 32) (k0_hw347 : k0_chk347 v2058 v2644), ∀ a x, ((![v2058, v2644] : Fin 2 → IVec S16 32) a x).toNat < S256x128.size a := fun v2058 v2644 k0_hw347 => k0_hw347

def k0_chk348 (v2058 : IVec S16 32) (v2652 : IVec S16 32) : Prop :=
  (∀ a x, ((![v2058, v2652] : Fin 2 → IVec S16 32) a x).toNat < S256x128.size a)
theorem k0_idx348_inb : ∀ (v2058 : IVec S16 32) (v2652 : IVec S16 32) (k0_hw348 : k0_chk348 v2058 v2652), ∀ a x, ((![v2058, v2652] : Fin 2 → IVec S16 32) a x).toNat < S256x128.size a := fun v2058 v2652 k0_hw348 => k0_hw348

def k0_chk349 (v2058 : IVec S16 32) (v2660 : IVec S16 32) : Prop :=
  (∀ a x, ((![v2058, v2660] : Fin 2 → IVec S16 32) a x).toNat < S256x128.size a)
theorem k0_idx349_inb : ∀ (v2058 : IVec S16 32) (v2660 : IVec S16 32) (k0_hw349 : k0_chk349 v2058 v2660), ∀ a x, ((![v2058, v2660] : Fin 2 → IVec S16 32) a x).toNat < S256x128.size a := fun v2058 v2660 k0_hw349 => k0_hw349

def k0_chk350 (v2058 : IVec S16 32) (v2668 : IVec S16 32) : Prop :=
  (∀ a x, ((![v2058, v2668] : Fin 2 → IVec S16 32) a x).toNat < S256x128.size a)
theorem k0_idx350_inb : ∀ (v2058 : IVec S16 32) (v2668 : IVec S16 32) (k0_hw350 : k0_chk350 v2058 v2668), ∀ a x, ((![v2058, v2668] : Fin 2 → IVec S16 32) a x).toNat < S256x128.size a := fun v2058 v2668 k0_hw350 => k0_hw350

def k0_chk351 (v2058 : IVec S16 32) (v2676 : IVec S16 32) : Prop :=
  (∀ a x, ((![v2058, v2676] : Fin 2 → IVec S16 32) a x).toNat < S256x128.size a)
theorem k0_idx351_inb : ∀ (v2058 : IVec S16 32) (v2676 : IVec S16 32) (k0_hw351 : k0_chk351 v2058 v2676), ∀ a x, ((![v2058, v2676] : Fin 2 → IVec S16 32) a x).toNat < S256x128.size a := fun v2058 v2676 k0_hw351 => k0_hw351

def k0_chk352 (v2058 : IVec S16 32) (v2684 : IVec S16 32) : Prop :=
  (∀ a x, ((![v2058, v2684] : Fin 2 → IVec S16 32) a x).toNat < S256x128.size a)
theorem k0_idx352_inb : ∀ (v2058 : IVec S16 32) (v2684 : IVec S16 32) (k0_hw352 : k0_chk352 v2058 v2684), ∀ a x, ((![v2058, v2684] : Fin 2 → IVec S16 32) a x).toNat < S256x128.size a := fun v2058 v2684 k0_hw352 => k0_hw352

def k0_chk353 (v2058 : IVec S16 32) (v2692 : IVec S16 32) : Prop :=
  (∀ a x, ((![v2058, v2692] : Fin 2 → IVec S16 32) a x).toNat < S256x128.size a)
theorem k0_idx353_inb : ∀ (v2058 : IVec S16 32) (v2692 : IVec S16 32) (k0_hw353 : k0_chk353 v2058 v2692), ∀ a x, ((![v2058, v2692] : Fin 2 → IVec S16 32) a x).toNat < S256x128.size a := fun v2058 v2692 k0_hw353 => k0_hw353

def k0_chk354 (v2058 : IVec S16 32) (v2699 : IVec S16 32) : Prop :=
  (∀ a x, ((![v2058, v2699] : Fin 2 → IVec S16 32) a x).toNat < S256x128.size a)
theorem k0_idx354_inb : ∀ (v2058 : IVec S16 32) (v2699 : IVec S16 32) (k0_hw354 : k0_chk354 v2058 v2699), ∀ a x, ((![v2058, v2699] : Fin 2 → IVec S16 32) a x).toNat < S256x128.size a := fun v2058 v2699 k0_hw354 => k0_hw354

def k0_chk355 (v2058 : IVec S16 32) (v2707 : IVec S16 32) : Prop :=
  (∀ a x, ((![v2058, v2707] : Fin 2 → IVec S16 32) a x).toNat < S256x128.size a)
theorem k0_idx355_inb : ∀ (v2058 : IVec S16 32) (v2707 : IVec S16 32) (k0_hw355 : k0_chk355 v2058 v2707), ∀ a x, ((![v2058, v2707] : Fin 2 → IVec S16 32) a x).toNat < S256x128.size a := fun v2058 v2707 k0_hw355 => k0_hw355

def k0_chk356 (v2058 : IVec S16 32) (v2715 : IVec S16 32) : Prop :=
  (∀ a x, ((![v2058, v2715] : Fin 2 → IVec S16 32) a x).toNat < S256x128.size a)
theorem k0_idx356_inb : ∀ (v2058 : IVec S16 32) (v2715 : IVec S16 32) (k0_hw356 : k0_chk356 v2058 v2715), ∀ a x, ((![v2058, v2715] : Fin 2 → IVec S16 32) a x).toNat < S256x128.size a := fun v2058 v2715 k0_hw356 => k0_hw356

def k0_chk357 (v2058 : IVec S16 32) (v2723 : IVec S16 32) : Prop :=
  (∀ a x, ((![v2058, v2723] : Fin 2 → IVec S16 32) a x).toNat < S256x128.size a)
theorem k0_idx357_inb : ∀ (v2058 : IVec S16 32) (v2723 : IVec S16 32) (k0_hw357 : k0_chk357 v2058 v2723), ∀ a x, ((![v2058, v2723] : Fin 2 → IVec S16 32) a x).toNat < S256x128.size a := fun v2058 v2723 k0_hw357 => k0_hw357

def k0_chk358 (v2058 : IVec S16 32) (v2731 : IVec S16 32) : Prop :=
  (∀ a x, ((![v2058, v2731] : Fin 2 → IVec S16 32) a x).toNat < S256x128.size a)
theorem k0_idx358_inb : ∀ (v2058 : IVec S16 32) (v2731 : IVec S16 32) (k0_hw358 : k0_chk358 v2058 v2731), ∀ a x, ((![v2058, v2731] : Fin 2 → IVec S16 32) a x).toNat < S256x128.size a := fun v2058 v2731 k0_hw358 => k0_hw358

def k0_chk359 (v2058 : IVec S16 32) (v2739 : IVec S16 32) : Prop :=
  (∀ a x, ((![v2058, v2739] : Fin 2 → IVec S16 32) a x).toNat < S256x128.size a)
theorem k0_idx359_inb : ∀ (v2058 : IVec S16 32) (v2739 : IVec S16 32) (k0_hw359 : k0_chk359 v2058 v2739), ∀ a x, ((![v2058, v2739] : Fin 2 → IVec S16 32) a x).toNat < S256x128.size a := fun v2058 v2739 k0_hw359 => k0_hw359

def k0_chk360 (v2058 : IVec S16 32) (v2747 : IVec S16 32) : Prop :=
  (∀ a x, ((![v2058, v2747] : Fin 2 → IVec S16 32) a x).toNat < S256x128.size a)
theorem k0_idx360_inb : ∀ (v2058 : IVec S16 32) (v2747 : IVec S16 32) (k0_hw360 : k0_chk360 v2058 v2747), ∀ a x, ((![v2058, v2747] : Fin 2 → IVec S16 32) a x).toNat < S256x128.size a := fun v2058 v2747 k0_hw360 => k0_hw360

def k0_chk361 (v2058 : IVec S16 32) (v2755 : IVec S16 32) : Prop :=
  (∀ a x, ((![v2058, v2755] : Fin 2 → IVec S16 32) a x).toNat < S256x128.size a)
theorem k0_idx361_inb : ∀ (v2058 : IVec S16 32) (v2755 : IVec S16 32) (k0_hw361 : k0_chk361 v2058 v2755), ∀ a x, ((![v2058, v2755] : Fin 2 → IVec S16 32) a x).toNat < S256x128.size a := fun v2058 v2755 k0_hw361 => k0_hw361

def k0_chk362 (v2058 : IVec S16 32) (v2762 : IVec S16 32) : Prop :=
  (∀ a x, ((![v2058, v2762] : Fin 2 → IVec S16 32) a x).toNat < S256x128.size a)
theorem k0_idx362_inb : ∀ (v2058 : IVec S16 32) (v2762 : IVec S16 32) (k0_hw362 : k0_chk362 v2058 v2762), ∀ a x, ((![v2058, v2762] : Fin 2 → IVec S16 32) a x).toNat < S256x128.size a := fun v2058 v2762 k0_hw362 => k0_hw362

def k0_chk363 (v2058 : IVec S16 32) (v2770 : IVec S16 32) : Prop :=
  (∀ a x, ((![v2058, v2770] : Fin 2 → IVec S16 32) a x).toNat < S256x128.size a)
theorem k0_idx363_inb : ∀ (v2058 : IVec S16 32) (v2770 : IVec S16 32) (k0_hw363 : k0_chk363 v2058 v2770), ∀ a x, ((![v2058, v2770] : Fin 2 → IVec S16 32) a x).toNat < S256x128.size a := fun v2058 v2770 k0_hw363 => k0_hw363

def k0_chk364 (v2058 : IVec S16 32) (v2778 : IVec S16 32) : Prop :=
  (∀ a x, ((![v2058, v2778] : Fin 2 → IVec S16 32) a x).toNat < S256x128.size a)
theorem k0_idx364_inb : ∀ (v2058 : IVec S16 32) (v2778 : IVec S16 32) (k0_hw364 : k0_chk364 v2058 v2778), ∀ a x, ((![v2058, v2778] : Fin 2 → IVec S16 32) a x).toNat < S256x128.size a := fun v2058 v2778 k0_hw364 => k0_hw364

def k0_chk365 (v2058 : IVec S16 32) (v2786 : IVec S16 32) : Prop :=
  (∀ a x, ((![v2058, v2786] : Fin 2 → IVec S16 32) a x).toNat < S256x128.size a)
theorem k0_idx365_inb : ∀ (v2058 : IVec S16 32) (v2786 : IVec S16 32) (k0_hw365 : k0_chk365 v2058 v2786), ∀ a x, ((![v2058, v2786] : Fin 2 → IVec S16 32) a x).toNat < S256x128.size a := fun v2058 v2786 k0_hw365 => k0_hw365

def k0_chk366 (v2058 : IVec S16 32) (v2794 : IVec S16 32) : Prop :=
  (∀ a x, ((![v2058, v2794] : Fin 2 → IVec S16 32) a x).toNat < S256x128.size a)
theorem k0_idx366_inb : ∀ (v2058 : IVec S16 32) (v2794 : IVec S16 32) (k0_hw366 : k0_chk366 v2058 v2794), ∀ a x, ((![v2058, v2794] : Fin 2 → IVec S16 32) a x).toNat < S256x128.size a := fun v2058 v2794 k0_hw366 => k0_hw366

def k0_chk367 (v2058 : IVec S16 32) (v2802 : IVec S16 32) : Prop :=
  (∀ a x, ((![v2058, v2802] : Fin 2 → IVec S16 32) a x).toNat < S256x128.size a)
theorem k0_idx367_inb : ∀ (v2058 : IVec S16 32) (v2802 : IVec S16 32) (k0_hw367 : k0_chk367 v2058 v2802), ∀ a x, ((![v2058, v2802] : Fin 2 → IVec S16 32) a x).toNat < S256x128.size a := fun v2058 v2802 k0_hw367 => k0_hw367

def k0_chk368 (v2058 : IVec S16 32) (v2810 : IVec S16 32) : Prop :=
  (∀ a x, ((![v2058, v2810] : Fin 2 → IVec S16 32) a x).toNat < S256x128.size a)
theorem k0_idx368_inb : ∀ (v2058 : IVec S16 32) (v2810 : IVec S16 32) (k0_hw368 : k0_chk368 v2058 v2810), ∀ a x, ((![v2058, v2810] : Fin 2 → IVec S16 32) a x).toNat < S256x128.size a := fun v2058 v2810 k0_hw368 => k0_hw368

def k0_chk369 (v2820 : IVec S16 32) : Prop :=
  (∀ a x, ((![v2820] : Fin 1 → IVec S16 32) a x).toNat < S48.size a)
theorem k0_idx369_inb : ∀ (v2820 : IVec S16 32) (k0_hw369 : k0_chk369 v2820), ∀ a x, ((![v2820] : Fin 1 → IVec S16 32) a x).toNat < S48.size a := fun v2820 k0_hw369 => k0_hw369

def k0_chk370 (v2058 : IVec S16 32) (v2823 : IVec S16 32) : Prop :=
  (∀ a x, ((![v2058, v2823] : Fin 2 → IVec S16 32) a x).toNat < S256x128.size a)
theorem k0_idx370_inb : ∀ (v2058 : IVec S16 32) (v2823 : IVec S16 32) (k0_hw370 : k0_chk370 v2058 v2823), ∀ a x, ((![v2058, v2823] : Fin 2 → IVec S16 32) a x).toNat < S256x128.size a := fun v2058 v2823 k0_hw370 => k0_hw370

def k0_chk371 (v2832 : IVec S16 32) : Prop :=
  (∀ a x, ((![v2832] : Fin 1 → IVec S16 32) a x).toNat < S48.size a)
theorem k0_idx371_inb : ∀ (v2832 : IVec S16 32) (k0_hw371 : k0_chk371 v2832), ∀ a x, ((![v2832] : Fin 1 → IVec S16 32) a x).toNat < S48.size a := fun v2832 k0_hw371 => k0_hw371

def k0_chk372 (v2058 : IVec S16 32) (v2835 : IVec S16 32) : Prop :=
  (∀ a x, ((![v2058, v2835] : Fin 2 → IVec S16 32) a x).toNat < S256x128.size a)
theorem k0_idx372_inb : ∀ (v2058 : IVec S16 32) (v2835 : IVec S16 32) (k0_hw372 : k0_chk372 v2058 v2835), ∀ a x, ((![v2058, v2835] : Fin 2 → IVec S16 32) a x).toNat < S256x128.size a := fun v2058 v2835 k0_hw372 => k0_hw372

def k0_chk373 (v2844 : IVec S16 32) : Prop :=
  (∀ a x, ((![v2844] : Fin 1 → IVec S16 32) a x).toNat < S48.size a)
theorem k0_idx373_inb : ∀ (v2844 : IVec S16 32) (k0_hw373 : k0_chk373 v2844), ∀ a x, ((![v2844] : Fin 1 → IVec S16 32) a x).toNat < S48.size a := fun v2844 k0_hw373 => k0_hw373

def k0_chk374 (v2058 : IVec S16 32) (v2847 : IVec S16 32) : Prop :=
  (∀ a x, ((![v2058, v2847] : Fin 2 → IVec S16 32) a x).toNat < S256x128.size a)
theorem k0_idx374_inb : ∀ (v2058 : IVec S16 32) (v2847 : IVec S16 32) (k0_hw374 : k0_chk374 v2058 v2847), ∀ a x, ((![v2058, v2847] : Fin 2 → IVec S16 32) a x).toNat < S256x128.size a := fun v2058 v2847 k0_hw374 => k0_hw374

def k0_chk375 (v2856 : IVec S16 32) : Prop :=
  (∀ a x, ((![v2856] : Fin 1 → IVec S16 32) a x).toNat < S48.size a)
theorem k0_idx375_inb : ∀ (v2856 : IVec S16 32) (k0_hw375 : k0_chk375 v2856), ∀ a x, ((![v2856] : Fin 1 → IVec S16 32) a x).toNat < S48.size a := fun v2856 k0_hw375 => k0_hw375

def k0_chk376 (v2058 : IVec S16 32) (v2859 : IVec S16 32) : Prop :=
  (∀ a x, ((![v2058, v2859] : Fin 2 → IVec S16 32) a x).toNat < S256x128.size a)
theorem k0_idx376_inb : ∀ (v2058 : IVec S16 32) (v2859 : IVec S16 32) (k0_hw376 : k0_chk376 v2058 v2859), ∀ a x, ((![v2058, v2859] : Fin 2 → IVec S16 32) a x).toNat < S256x128.size a := fun v2058 v2859 k0_hw376 => k0_hw376

def k0_chk377 (v2868 : IVec S16 32) : Prop :=
  (∀ a x, ((![v2868] : Fin 1 → IVec S16 32) a x).toNat < S48.size a)
theorem k0_idx377_inb : ∀ (v2868 : IVec S16 32) (k0_hw377 : k0_chk377 v2868), ∀ a x, ((![v2868] : Fin 1 → IVec S16 32) a x).toNat < S48.size a := fun v2868 k0_hw377 => k0_hw377

def k0_chk378 (v2058 : IVec S16 32) (v2871 : IVec S16 32) : Prop :=
  (∀ a x, ((![v2058, v2871] : Fin 2 → IVec S16 32) a x).toNat < S256x128.size a)
theorem k0_idx378_inb : ∀ (v2058 : IVec S16 32) (v2871 : IVec S16 32) (k0_hw378 : k0_chk378 v2058 v2871), ∀ a x, ((![v2058, v2871] : Fin 2 → IVec S16 32) a x).toNat < S256x128.size a := fun v2058 v2871 k0_hw378 => k0_hw378

def k0_chk379 (v2880 : IVec S16 32) : Prop :=
  (∀ a x, ((![v2880] : Fin 1 → IVec S16 32) a x).toNat < S48.size a)
theorem k0_idx379_inb : ∀ (v2880 : IVec S16 32) (k0_hw379 : k0_chk379 v2880), ∀ a x, ((![v2880] : Fin 1 → IVec S16 32) a x).toNat < S48.size a := fun v2880 k0_hw379 => k0_hw379

def k0_chk380 (v2058 : IVec S16 32) (v2883 : IVec S16 32) : Prop :=
  (∀ a x, ((![v2058, v2883] : Fin 2 → IVec S16 32) a x).toNat < S256x128.size a)
theorem k0_idx380_inb : ∀ (v2058 : IVec S16 32) (v2883 : IVec S16 32) (k0_hw380 : k0_chk380 v2058 v2883), ∀ a x, ((![v2058, v2883] : Fin 2 → IVec S16 32) a x).toNat < S256x128.size a := fun v2058 v2883 k0_hw380 => k0_hw380

def k0_chk381 (v2892 : IVec S16 32) : Prop :=
  (∀ a x, ((![v2892] : Fin 1 → IVec S16 32) a x).toNat < S48.size a)
theorem k0_idx381_inb : ∀ (v2892 : IVec S16 32) (k0_hw381 : k0_chk381 v2892), ∀ a x, ((![v2892] : Fin 1 → IVec S16 32) a x).toNat < S48.size a := fun v2892 k0_hw381 => k0_hw381

def k0_chk382 (v2058 : IVec S16 32) (v2895 : IVec S16 32) : Prop :=
  (∀ a x, ((![v2058, v2895] : Fin 2 → IVec S16 32) a x).toNat < S256x128.size a)
theorem k0_idx382_inb : ∀ (v2058 : IVec S16 32) (v2895 : IVec S16 32) (k0_hw382 : k0_chk382 v2058 v2895), ∀ a x, ((![v2058, v2895] : Fin 2 → IVec S16 32) a x).toNat < S256x128.size a := fun v2058 v2895 k0_hw382 => k0_hw382

def k0_chk383 (v2904 : IVec S16 32) : Prop :=
  (∀ a x, ((![v2904] : Fin 1 → IVec S16 32) a x).toNat < S48.size a)
theorem k0_idx383_inb : ∀ (v2904 : IVec S16 32) (k0_hw383 : k0_chk383 v2904), ∀ a x, ((![v2904] : Fin 1 → IVec S16 32) a x).toNat < S48.size a := fun v2904 k0_hw383 => k0_hw383

def k0_chk384 (v2058 : IVec S16 32) (v2907 : IVec S16 32) : Prop :=
  (∀ a x, ((![v2058, v2907] : Fin 2 → IVec S16 32) a x).toNat < S256x128.size a)
theorem k0_idx384_inb : ∀ (v2058 : IVec S16 32) (v2907 : IVec S16 32) (k0_hw384 : k0_chk384 v2058 v2907), ∀ a x, ((![v2058, v2907] : Fin 2 → IVec S16 32) a x).toNat < S256x128.size a := fun v2058 v2907 k0_hw384 => k0_hw384

def k0_chk385 (v2916 : IVec S16 32) : Prop :=
  (∀ a x, ((![v2916] : Fin 1 → IVec S16 32) a x).toNat < S48.size a)
theorem k0_idx385_inb : ∀ (v2916 : IVec S16 32) (k0_hw385 : k0_chk385 v2916), ∀ a x, ((![v2916] : Fin 1 → IVec S16 32) a x).toNat < S48.size a := fun v2916 k0_hw385 => k0_hw385

def k0_chk386 (v2058 : IVec S16 32) (v2919 : IVec S16 32) : Prop :=
  (∀ a x, ((![v2058, v2919] : Fin 2 → IVec S16 32) a x).toNat < S256x128.size a)
theorem k0_idx386_inb : ∀ (v2058 : IVec S16 32) (v2919 : IVec S16 32) (k0_hw386 : k0_chk386 v2058 v2919), ∀ a x, ((![v2058, v2919] : Fin 2 → IVec S16 32) a x).toNat < S256x128.size a := fun v2058 v2919 k0_hw386 => k0_hw386

def k0_chk387 (v2928 : IVec S16 32) : Prop :=
  (∀ a x, ((![v2928] : Fin 1 → IVec S16 32) a x).toNat < S48.size a)
theorem k0_idx387_inb : ∀ (v2928 : IVec S16 32) (k0_hw387 : k0_chk387 v2928), ∀ a x, ((![v2928] : Fin 1 → IVec S16 32) a x).toNat < S48.size a := fun v2928 k0_hw387 => k0_hw387

def k0_chk388 (v2058 : IVec S16 32) (v2931 : IVec S16 32) : Prop :=
  (∀ a x, ((![v2058, v2931] : Fin 2 → IVec S16 32) a x).toNat < S256x128.size a)
theorem k0_idx388_inb : ∀ (v2058 : IVec S16 32) (v2931 : IVec S16 32) (k0_hw388 : k0_chk388 v2058 v2931), ∀ a x, ((![v2058, v2931] : Fin 2 → IVec S16 32) a x).toNat < S256x128.size a := fun v2058 v2931 k0_hw388 => k0_hw388

def k0_chk389 (v2940 : IVec S16 32) : Prop :=
  (∀ a x, ((![v2940] : Fin 1 → IVec S16 32) a x).toNat < S48.size a)
theorem k0_idx389_inb : ∀ (v2940 : IVec S16 32) (k0_hw389 : k0_chk389 v2940), ∀ a x, ((![v2940] : Fin 1 → IVec S16 32) a x).toNat < S48.size a := fun v2940 k0_hw389 => k0_hw389

def k0_chk390 (v2058 : IVec S16 32) (v2943 : IVec S16 32) : Prop :=
  (∀ a x, ((![v2058, v2943] : Fin 2 → IVec S16 32) a x).toNat < S256x128.size a)
theorem k0_idx390_inb : ∀ (v2058 : IVec S16 32) (v2943 : IVec S16 32) (k0_hw390 : k0_chk390 v2058 v2943), ∀ a x, ((![v2058, v2943] : Fin 2 → IVec S16 32) a x).toNat < S256x128.size a := fun v2058 v2943 k0_hw390 => k0_hw390

def k0_chk391 (v2952 : IVec S16 32) : Prop :=
  (∀ a x, ((![v2952] : Fin 1 → IVec S16 32) a x).toNat < S48.size a)
theorem k0_idx391_inb : ∀ (v2952 : IVec S16 32) (k0_hw391 : k0_chk391 v2952), ∀ a x, ((![v2952] : Fin 1 → IVec S16 32) a x).toNat < S48.size a := fun v2952 k0_hw391 => k0_hw391

def k0_chk392 (v2058 : IVec S16 32) (v2955 : IVec S16 32) : Prop :=
  (∀ a x, ((![v2058, v2955] : Fin 2 → IVec S16 32) a x).toNat < S256x128.size a)
theorem k0_idx392_inb : ∀ (v2058 : IVec S16 32) (v2955 : IVec S16 32) (k0_hw392 : k0_chk392 v2058 v2955), ∀ a x, ((![v2058, v2955] : Fin 2 → IVec S16 32) a x).toNat < S256x128.size a := fun v2058 v2955 k0_hw392 => k0_hw392

def k0_chk393 (v2964 : IVec S16 32) : Prop :=
  (∀ a x, ((![v2964] : Fin 1 → IVec S16 32) a x).toNat < S48.size a)
theorem k0_idx393_inb : ∀ (v2964 : IVec S16 32) (k0_hw393 : k0_chk393 v2964), ∀ a x, ((![v2964] : Fin 1 → IVec S16 32) a x).toNat < S48.size a := fun v2964 k0_hw393 => k0_hw393

def k0_chk394 (v2058 : IVec S16 32) (v2967 : IVec S16 32) : Prop :=
  (∀ a x, ((![v2058, v2967] : Fin 2 → IVec S16 32) a x).toNat < S256x128.size a)
theorem k0_idx394_inb : ∀ (v2058 : IVec S16 32) (v2967 : IVec S16 32) (k0_hw394 : k0_chk394 v2058 v2967), ∀ a x, ((![v2058, v2967] : Fin 2 → IVec S16 32) a x).toNat < S256x128.size a := fun v2058 v2967 k0_hw394 => k0_hw394

def k0_chk395 (v2976 : IVec S16 32) : Prop :=
  (∀ a x, ((![v2976] : Fin 1 → IVec S16 32) a x).toNat < S48.size a)
theorem k0_idx395_inb : ∀ (v2976 : IVec S16 32) (k0_hw395 : k0_chk395 v2976), ∀ a x, ((![v2976] : Fin 1 → IVec S16 32) a x).toNat < S48.size a := fun v2976 k0_hw395 => k0_hw395

def k0_chk396 (v2058 : IVec S16 32) (v2979 : IVec S16 32) : Prop :=
  (∀ a x, ((![v2058, v2979] : Fin 2 → IVec S16 32) a x).toNat < S256x128.size a)
theorem k0_idx396_inb : ∀ (v2058 : IVec S16 32) (v2979 : IVec S16 32) (k0_hw396 : k0_chk396 v2058 v2979), ∀ a x, ((![v2058, v2979] : Fin 2 → IVec S16 32) a x).toNat < S256x128.size a := fun v2058 v2979 k0_hw396 => k0_hw396

def k0_chk397 (v2988 : IVec S16 32) : Prop :=
  (∀ a x, ((![v2988] : Fin 1 → IVec S16 32) a x).toNat < S48.size a)
theorem k0_idx397_inb : ∀ (v2988 : IVec S16 32) (k0_hw397 : k0_chk397 v2988), ∀ a x, ((![v2988] : Fin 1 → IVec S16 32) a x).toNat < S48.size a := fun v2988 k0_hw397 => k0_hw397

def k0_chk398 (v2058 : IVec S16 32) (v2991 : IVec S16 32) : Prop :=
  (∀ a x, ((![v2058, v2991] : Fin 2 → IVec S16 32) a x).toNat < S256x128.size a)
theorem k0_idx398_inb : ∀ (v2058 : IVec S16 32) (v2991 : IVec S16 32) (k0_hw398 : k0_chk398 v2058 v2991), ∀ a x, ((![v2058, v2991] : Fin 2 → IVec S16 32) a x).toNat < S256x128.size a := fun v2058 v2991 k0_hw398 => k0_hw398

def k0_chk399 (v3000 : IVec S16 32) : Prop :=
  (∀ a x, ((![v3000] : Fin 1 → IVec S16 32) a x).toNat < S48.size a)
theorem k0_idx399_inb : ∀ (v3000 : IVec S16 32) (k0_hw399 : k0_chk399 v3000), ∀ a x, ((![v3000] : Fin 1 → IVec S16 32) a x).toNat < S48.size a := fun v3000 k0_hw399 => k0_hw399

def k0_chk400 (v2058 : IVec S16 32) (v3003 : IVec S16 32) : Prop :=
  (∀ a x, ((![v2058, v3003] : Fin 2 → IVec S16 32) a x).toNat < S256x128.size a)
theorem k0_idx400_inb : ∀ (v2058 : IVec S16 32) (v3003 : IVec S16 32) (k0_hw400 : k0_chk400 v2058 v3003), ∀ a x, ((![v2058, v3003] : Fin 2 → IVec S16 32) a x).toNat < S256x128.size a := fun v2058 v3003 k0_hw400 => k0_hw400

def k0_chk401 (v3012 : IVec S16 32) : Prop :=
  (∀ a x, ((![v3012] : Fin 1 → IVec S16 32) a x).toNat < S48.size a)
theorem k0_idx401_inb : ∀ (v3012 : IVec S16 32) (k0_hw401 : k0_chk401 v3012), ∀ a x, ((![v3012] : Fin 1 → IVec S16 32) a x).toNat < S48.size a := fun v3012 k0_hw401 => k0_hw401

def k0_chk402 (v2058 : IVec S16 32) (v3015 : IVec S16 32) : Prop :=
  (∀ a x, ((![v2058, v3015] : Fin 2 → IVec S16 32) a x).toNat < S256x128.size a)
theorem k0_idx402_inb : ∀ (v2058 : IVec S16 32) (v3015 : IVec S16 32) (k0_hw402 : k0_chk402 v2058 v3015), ∀ a x, ((![v2058, v3015] : Fin 2 → IVec S16 32) a x).toNat < S256x128.size a := fun v2058 v3015 k0_hw402 => k0_hw402

def k0_chk403 (v3024 : IVec S16 32) : Prop :=
  (∀ a x, ((![v3024] : Fin 1 → IVec S16 32) a x).toNat < S48.size a)
theorem k0_idx403_inb : ∀ (v3024 : IVec S16 32) (k0_hw403 : k0_chk403 v3024), ∀ a x, ((![v3024] : Fin 1 → IVec S16 32) a x).toNat < S48.size a := fun v3024 k0_hw403 => k0_hw403

def k0_chk404 (v2058 : IVec S16 32) (v3027 : IVec S16 32) : Prop :=
  (∀ a x, ((![v2058, v3027] : Fin 2 → IVec S16 32) a x).toNat < S256x128.size a)
theorem k0_idx404_inb : ∀ (v2058 : IVec S16 32) (v3027 : IVec S16 32) (k0_hw404 : k0_chk404 v2058 v3027), ∀ a x, ((![v2058, v3027] : Fin 2 → IVec S16 32) a x).toNat < S256x128.size a := fun v2058 v3027 k0_hw404 => k0_hw404

def k0_chk405 (v3036 : IVec S16 32) : Prop :=
  (∀ a x, ((![v3036] : Fin 1 → IVec S16 32) a x).toNat < S48.size a)
theorem k0_idx405_inb : ∀ (v3036 : IVec S16 32) (k0_hw405 : k0_chk405 v3036), ∀ a x, ((![v3036] : Fin 1 → IVec S16 32) a x).toNat < S48.size a := fun v3036 k0_hw405 => k0_hw405

def k0_chk406 (v2058 : IVec S16 32) (v3039 : IVec S16 32) : Prop :=
  (∀ a x, ((![v2058, v3039] : Fin 2 → IVec S16 32) a x).toNat < S256x128.size a)
theorem k0_idx406_inb : ∀ (v2058 : IVec S16 32) (v3039 : IVec S16 32) (k0_hw406 : k0_chk406 v2058 v3039), ∀ a x, ((![v2058, v3039] : Fin 2 → IVec S16 32) a x).toNat < S256x128.size a := fun v2058 v3039 k0_hw406 => k0_hw406

def k0_chk407 (v3048 : IVec S16 32) : Prop :=
  (∀ a x, ((![v3048] : Fin 1 → IVec S16 32) a x).toNat < S48.size a)
theorem k0_idx407_inb : ∀ (v3048 : IVec S16 32) (k0_hw407 : k0_chk407 v3048), ∀ a x, ((![v3048] : Fin 1 → IVec S16 32) a x).toNat < S48.size a := fun v3048 k0_hw407 => k0_hw407

def k0_chk408 (v2058 : IVec S16 32) (v3051 : IVec S16 32) : Prop :=
  (∀ a x, ((![v2058, v3051] : Fin 2 → IVec S16 32) a x).toNat < S256x128.size a)
theorem k0_idx408_inb : ∀ (v2058 : IVec S16 32) (v3051 : IVec S16 32) (k0_hw408 : k0_chk408 v2058 v3051), ∀ a x, ((![v2058, v3051] : Fin 2 → IVec S16 32) a x).toNat < S256x128.size a := fun v2058 v3051 k0_hw408 => k0_hw408
def k0_off4 (k0_t1 : Fin k0_t1_loop.trips) : Fin 1 → Nat :=
  let c4_i32_697 : BitVec 32 := 4#32
  let c0_i32_0 : BitVec 32 := 0#32
  let c1_i32 : BitVec 32 := 1#32
  let arg8 : BitVec 32 := Scf.iv c0_i32_0 c1_i32 k0_t1
  let v2054 : BitVec 32 := Scalar.muli c4_i32_697 arg8
  let c2_i32_698 : BitVec 32 := 2#32
  let v2055 : BitVec 32 := Scalar.addi v2054 c2_i32_698
  let c16_i32_1056 : BitVec 32 := 16#32
  let v3055 : BitVec 32 := Scalar.muli v2055 c16_i32_1056
  let v3056 : Index := Scalar.indexCast v3055
  ![v3056.toNat]

def k0_chk409 (v3062 : IVec S16 32) (v3066 : IVec S16 32) : Prop :=
  (∀ a x, ((![v3062, v3066] : Fin 2 → IVec S16 32) a x).toNat < S256x128.size a)
theorem k0_idx409_inb : ∀ (v3062 : IVec S16 32) (v3066 : IVec S16 32) (k0_hw409 : k0_chk409 v3062 v3066), ∀ a x, ((![v3062, v3066] : Fin 2 → IVec S16 32) a x).toNat < S256x128.size a := fun v3062 v3066 k0_hw409 => k0_hw409

def k0_chk410 (v3062 : IVec S16 32) (v3073 : IVec S16 32) : Prop :=
  (∀ a x, ((![v3062, v3073] : Fin 2 → IVec S16 32) a x).toNat < S256x128.size a)
theorem k0_idx410_inb : ∀ (v3062 : IVec S16 32) (v3073 : IVec S16 32) (k0_hw410 : k0_chk410 v3062 v3073), ∀ a x, ((![v3062, v3073] : Fin 2 → IVec S16 32) a x).toNat < S256x128.size a := fun v3062 v3073 k0_hw410 => k0_hw410

def k0_chk411 (v3062 : IVec S16 32) (v3081 : IVec S16 32) : Prop :=
  (∀ a x, ((![v3062, v3081] : Fin 2 → IVec S16 32) a x).toNat < S256x128.size a)
theorem k0_idx411_inb : ∀ (v3062 : IVec S16 32) (v3081 : IVec S16 32) (k0_hw411 : k0_chk411 v3062 v3081), ∀ a x, ((![v3062, v3081] : Fin 2 → IVec S16 32) a x).toNat < S256x128.size a := fun v3062 v3081 k0_hw411 => k0_hw411

def k0_chk412 (v3062 : IVec S16 32) (v3089 : IVec S16 32) : Prop :=
  (∀ a x, ((![v3062, v3089] : Fin 2 → IVec S16 32) a x).toNat < S256x128.size a)
theorem k0_idx412_inb : ∀ (v3062 : IVec S16 32) (v3089 : IVec S16 32) (k0_hw412 : k0_chk412 v3062 v3089), ∀ a x, ((![v3062, v3089] : Fin 2 → IVec S16 32) a x).toNat < S256x128.size a := fun v3062 v3089 k0_hw412 => k0_hw412

def k0_chk413 (v3062 : IVec S16 32) (v3097 : IVec S16 32) : Prop :=
  (∀ a x, ((![v3062, v3097] : Fin 2 → IVec S16 32) a x).toNat < S256x128.size a)
theorem k0_idx413_inb : ∀ (v3062 : IVec S16 32) (v3097 : IVec S16 32) (k0_hw413 : k0_chk413 v3062 v3097), ∀ a x, ((![v3062, v3097] : Fin 2 → IVec S16 32) a x).toNat < S256x128.size a := fun v3062 v3097 k0_hw413 => k0_hw413

def k0_chk414 (v3062 : IVec S16 32) (v3105 : IVec S16 32) : Prop :=
  (∀ a x, ((![v3062, v3105] : Fin 2 → IVec S16 32) a x).toNat < S256x128.size a)
theorem k0_idx414_inb : ∀ (v3062 : IVec S16 32) (v3105 : IVec S16 32) (k0_hw414 : k0_chk414 v3062 v3105), ∀ a x, ((![v3062, v3105] : Fin 2 → IVec S16 32) a x).toNat < S256x128.size a := fun v3062 v3105 k0_hw414 => k0_hw414

def k0_chk415 (v3062 : IVec S16 32) (v3113 : IVec S16 32) : Prop :=
  (∀ a x, ((![v3062, v3113] : Fin 2 → IVec S16 32) a x).toNat < S256x128.size a)
theorem k0_idx415_inb : ∀ (v3062 : IVec S16 32) (v3113 : IVec S16 32) (k0_hw415 : k0_chk415 v3062 v3113), ∀ a x, ((![v3062, v3113] : Fin 2 → IVec S16 32) a x).toNat < S256x128.size a := fun v3062 v3113 k0_hw415 => k0_hw415

def k0_chk416 (v3062 : IVec S16 32) (v3121 : IVec S16 32) : Prop :=
  (∀ a x, ((![v3062, v3121] : Fin 2 → IVec S16 32) a x).toNat < S256x128.size a)
theorem k0_idx416_inb : ∀ (v3062 : IVec S16 32) (v3121 : IVec S16 32) (k0_hw416 : k0_chk416 v3062 v3121), ∀ a x, ((![v3062, v3121] : Fin 2 → IVec S16 32) a x).toNat < S256x128.size a := fun v3062 v3121 k0_hw416 => k0_hw416

def k0_chk417 (v3062 : IVec S16 32) (v3129 : IVec S16 32) : Prop :=
  (∀ a x, ((![v3062, v3129] : Fin 2 → IVec S16 32) a x).toNat < S256x128.size a)
theorem k0_idx417_inb : ∀ (v3062 : IVec S16 32) (v3129 : IVec S16 32) (k0_hw417 : k0_chk417 v3062 v3129), ∀ a x, ((![v3062, v3129] : Fin 2 → IVec S16 32) a x).toNat < S256x128.size a := fun v3062 v3129 k0_hw417 => k0_hw417

def k0_chk418 (v3062 : IVec S16 32) (v3136 : IVec S16 32) : Prop :=
  (∀ a x, ((![v3062, v3136] : Fin 2 → IVec S16 32) a x).toNat < S256x128.size a)
theorem k0_idx418_inb : ∀ (v3062 : IVec S16 32) (v3136 : IVec S16 32) (k0_hw418 : k0_chk418 v3062 v3136), ∀ a x, ((![v3062, v3136] : Fin 2 → IVec S16 32) a x).toNat < S256x128.size a := fun v3062 v3136 k0_hw418 => k0_hw418

def k0_chk419 (v3062 : IVec S16 32) (v3144 : IVec S16 32) : Prop :=
  (∀ a x, ((![v3062, v3144] : Fin 2 → IVec S16 32) a x).toNat < S256x128.size a)
theorem k0_idx419_inb : ∀ (v3062 : IVec S16 32) (v3144 : IVec S16 32) (k0_hw419 : k0_chk419 v3062 v3144), ∀ a x, ((![v3062, v3144] : Fin 2 → IVec S16 32) a x).toNat < S256x128.size a := fun v3062 v3144 k0_hw419 => k0_hw419

def k0_chk420 (v3062 : IVec S16 32) (v3152 : IVec S16 32) : Prop :=
  (∀ a x, ((![v3062, v3152] : Fin 2 → IVec S16 32) a x).toNat < S256x128.size a)
theorem k0_idx420_inb : ∀ (v3062 : IVec S16 32) (v3152 : IVec S16 32) (k0_hw420 : k0_chk420 v3062 v3152), ∀ a x, ((![v3062, v3152] : Fin 2 → IVec S16 32) a x).toNat < S256x128.size a := fun v3062 v3152 k0_hw420 => k0_hw420

def k0_chk421 (v3062 : IVec S16 32) (v3160 : IVec S16 32) : Prop :=
  (∀ a x, ((![v3062, v3160] : Fin 2 → IVec S16 32) a x).toNat < S256x128.size a)
theorem k0_idx421_inb : ∀ (v3062 : IVec S16 32) (v3160 : IVec S16 32) (k0_hw421 : k0_chk421 v3062 v3160), ∀ a x, ((![v3062, v3160] : Fin 2 → IVec S16 32) a x).toNat < S256x128.size a := fun v3062 v3160 k0_hw421 => k0_hw421

def k0_chk422 (v3062 : IVec S16 32) (v3168 : IVec S16 32) : Prop :=
  (∀ a x, ((![v3062, v3168] : Fin 2 → IVec S16 32) a x).toNat < S256x128.size a)
theorem k0_idx422_inb : ∀ (v3062 : IVec S16 32) (v3168 : IVec S16 32) (k0_hw422 : k0_chk422 v3062 v3168), ∀ a x, ((![v3062, v3168] : Fin 2 → IVec S16 32) a x).toNat < S256x128.size a := fun v3062 v3168 k0_hw422 => k0_hw422

def k0_chk423 (v3062 : IVec S16 32) (v3176 : IVec S16 32) : Prop :=
  (∀ a x, ((![v3062, v3176] : Fin 2 → IVec S16 32) a x).toNat < S256x128.size a)
theorem k0_idx423_inb : ∀ (v3062 : IVec S16 32) (v3176 : IVec S16 32) (k0_hw423 : k0_chk423 v3062 v3176), ∀ a x, ((![v3062, v3176] : Fin 2 → IVec S16 32) a x).toNat < S256x128.size a := fun v3062 v3176 k0_hw423 => k0_hw423

def k0_chk424 (v3062 : IVec S16 32) (v3184 : IVec S16 32) : Prop :=
  (∀ a x, ((![v3062, v3184] : Fin 2 → IVec S16 32) a x).toNat < S256x128.size a)
theorem k0_idx424_inb : ∀ (v3062 : IVec S16 32) (v3184 : IVec S16 32) (k0_hw424 : k0_chk424 v3062 v3184), ∀ a x, ((![v3062, v3184] : Fin 2 → IVec S16 32) a x).toNat < S256x128.size a := fun v3062 v3184 k0_hw424 => k0_hw424

def k0_chk425 (v3062 : IVec S16 32) (v3192 : IVec S16 32) : Prop :=
  (∀ a x, ((![v3062, v3192] : Fin 2 → IVec S16 32) a x).toNat < S256x128.size a)
theorem k0_idx425_inb : ∀ (v3062 : IVec S16 32) (v3192 : IVec S16 32) (k0_hw425 : k0_chk425 v3062 v3192), ∀ a x, ((![v3062, v3192] : Fin 2 → IVec S16 32) a x).toNat < S256x128.size a := fun v3062 v3192 k0_hw425 => k0_hw425

def k0_chk426 (v3062 : IVec S16 32) (v3199 : IVec S16 32) : Prop :=
  (∀ a x, ((![v3062, v3199] : Fin 2 → IVec S16 32) a x).toNat < S256x128.size a)
theorem k0_idx426_inb : ∀ (v3062 : IVec S16 32) (v3199 : IVec S16 32) (k0_hw426 : k0_chk426 v3062 v3199), ∀ a x, ((![v3062, v3199] : Fin 2 → IVec S16 32) a x).toNat < S256x128.size a := fun v3062 v3199 k0_hw426 => k0_hw426

def k0_chk427 (v3062 : IVec S16 32) (v3207 : IVec S16 32) : Prop :=
  (∀ a x, ((![v3062, v3207] : Fin 2 → IVec S16 32) a x).toNat < S256x128.size a)
theorem k0_idx427_inb : ∀ (v3062 : IVec S16 32) (v3207 : IVec S16 32) (k0_hw427 : k0_chk427 v3062 v3207), ∀ a x, ((![v3062, v3207] : Fin 2 → IVec S16 32) a x).toNat < S256x128.size a := fun v3062 v3207 k0_hw427 => k0_hw427

def k0_chk428 (v3062 : IVec S16 32) (v3215 : IVec S16 32) : Prop :=
  (∀ a x, ((![v3062, v3215] : Fin 2 → IVec S16 32) a x).toNat < S256x128.size a)
theorem k0_idx428_inb : ∀ (v3062 : IVec S16 32) (v3215 : IVec S16 32) (k0_hw428 : k0_chk428 v3062 v3215), ∀ a x, ((![v3062, v3215] : Fin 2 → IVec S16 32) a x).toNat < S256x128.size a := fun v3062 v3215 k0_hw428 => k0_hw428

def k0_chk429 (v3062 : IVec S16 32) (v3223 : IVec S16 32) : Prop :=
  (∀ a x, ((![v3062, v3223] : Fin 2 → IVec S16 32) a x).toNat < S256x128.size a)
theorem k0_idx429_inb : ∀ (v3062 : IVec S16 32) (v3223 : IVec S16 32) (k0_hw429 : k0_chk429 v3062 v3223), ∀ a x, ((![v3062, v3223] : Fin 2 → IVec S16 32) a x).toNat < S256x128.size a := fun v3062 v3223 k0_hw429 => k0_hw429

def k0_chk430 (v3062 : IVec S16 32) (v3231 : IVec S16 32) : Prop :=
  (∀ a x, ((![v3062, v3231] : Fin 2 → IVec S16 32) a x).toNat < S256x128.size a)
theorem k0_idx430_inb : ∀ (v3062 : IVec S16 32) (v3231 : IVec S16 32) (k0_hw430 : k0_chk430 v3062 v3231), ∀ a x, ((![v3062, v3231] : Fin 2 → IVec S16 32) a x).toNat < S256x128.size a := fun v3062 v3231 k0_hw430 => k0_hw430

def k0_chk431 (v3062 : IVec S16 32) (v3239 : IVec S16 32) : Prop :=
  (∀ a x, ((![v3062, v3239] : Fin 2 → IVec S16 32) a x).toNat < S256x128.size a)
theorem k0_idx431_inb : ∀ (v3062 : IVec S16 32) (v3239 : IVec S16 32) (k0_hw431 : k0_chk431 v3062 v3239), ∀ a x, ((![v3062, v3239] : Fin 2 → IVec S16 32) a x).toNat < S256x128.size a := fun v3062 v3239 k0_hw431 => k0_hw431

def k0_chk432 (v3062 : IVec S16 32) (v3247 : IVec S16 32) : Prop :=
  (∀ a x, ((![v3062, v3247] : Fin 2 → IVec S16 32) a x).toNat < S256x128.size a)
theorem k0_idx432_inb : ∀ (v3062 : IVec S16 32) (v3247 : IVec S16 32) (k0_hw432 : k0_chk432 v3062 v3247), ∀ a x, ((![v3062, v3247] : Fin 2 → IVec S16 32) a x).toNat < S256x128.size a := fun v3062 v3247 k0_hw432 => k0_hw432

def k0_chk433 (v3062 : IVec S16 32) (v3255 : IVec S16 32) : Prop :=
  (∀ a x, ((![v3062, v3255] : Fin 2 → IVec S16 32) a x).toNat < S256x128.size a)
theorem k0_idx433_inb : ∀ (v3062 : IVec S16 32) (v3255 : IVec S16 32) (k0_hw433 : k0_chk433 v3062 v3255), ∀ a x, ((![v3062, v3255] : Fin 2 → IVec S16 32) a x).toNat < S256x128.size a := fun v3062 v3255 k0_hw433 => k0_hw433

def k0_chk434 (v3062 : IVec S16 32) (v3262 : IVec S16 32) : Prop :=
  (∀ a x, ((![v3062, v3262] : Fin 2 → IVec S16 32) a x).toNat < S256x128.size a)
theorem k0_idx434_inb : ∀ (v3062 : IVec S16 32) (v3262 : IVec S16 32) (k0_hw434 : k0_chk434 v3062 v3262), ∀ a x, ((![v3062, v3262] : Fin 2 → IVec S16 32) a x).toNat < S256x128.size a := fun v3062 v3262 k0_hw434 => k0_hw434

def k0_chk435 (v3062 : IVec S16 32) (v3270 : IVec S16 32) : Prop :=
  (∀ a x, ((![v3062, v3270] : Fin 2 → IVec S16 32) a x).toNat < S256x128.size a)
theorem k0_idx435_inb : ∀ (v3062 : IVec S16 32) (v3270 : IVec S16 32) (k0_hw435 : k0_chk435 v3062 v3270), ∀ a x, ((![v3062, v3270] : Fin 2 → IVec S16 32) a x).toNat < S256x128.size a := fun v3062 v3270 k0_hw435 => k0_hw435

def k0_chk436 (v3062 : IVec S16 32) (v3278 : IVec S16 32) : Prop :=
  (∀ a x, ((![v3062, v3278] : Fin 2 → IVec S16 32) a x).toNat < S256x128.size a)
theorem k0_idx436_inb : ∀ (v3062 : IVec S16 32) (v3278 : IVec S16 32) (k0_hw436 : k0_chk436 v3062 v3278), ∀ a x, ((![v3062, v3278] : Fin 2 → IVec S16 32) a x).toNat < S256x128.size a := fun v3062 v3278 k0_hw436 => k0_hw436

def k0_chk437 (v3062 : IVec S16 32) (v3286 : IVec S16 32) : Prop :=
  (∀ a x, ((![v3062, v3286] : Fin 2 → IVec S16 32) a x).toNat < S256x128.size a)
theorem k0_idx437_inb : ∀ (v3062 : IVec S16 32) (v3286 : IVec S16 32) (k0_hw437 : k0_chk437 v3062 v3286), ∀ a x, ((![v3062, v3286] : Fin 2 → IVec S16 32) a x).toNat < S256x128.size a := fun v3062 v3286 k0_hw437 => k0_hw437

def k0_chk438 (v3062 : IVec S16 32) (v3294 : IVec S16 32) : Prop :=
  (∀ a x, ((![v3062, v3294] : Fin 2 → IVec S16 32) a x).toNat < S256x128.size a)
theorem k0_idx438_inb : ∀ (v3062 : IVec S16 32) (v3294 : IVec S16 32) (k0_hw438 : k0_chk438 v3062 v3294), ∀ a x, ((![v3062, v3294] : Fin 2 → IVec S16 32) a x).toNat < S256x128.size a := fun v3062 v3294 k0_hw438 => k0_hw438

def k0_chk439 (v3062 : IVec S16 32) (v3302 : IVec S16 32) : Prop :=
  (∀ a x, ((![v3062, v3302] : Fin 2 → IVec S16 32) a x).toNat < S256x128.size a)
theorem k0_idx439_inb : ∀ (v3062 : IVec S16 32) (v3302 : IVec S16 32) (k0_hw439 : k0_chk439 v3062 v3302), ∀ a x, ((![v3062, v3302] : Fin 2 → IVec S16 32) a x).toNat < S256x128.size a := fun v3062 v3302 k0_hw439 => k0_hw439

def k0_chk440 (v3062 : IVec S16 32) (v3310 : IVec S16 32) : Prop :=
  (∀ a x, ((![v3062, v3310] : Fin 2 → IVec S16 32) a x).toNat < S256x128.size a)
theorem k0_idx440_inb : ∀ (v3062 : IVec S16 32) (v3310 : IVec S16 32) (k0_hw440 : k0_chk440 v3062 v3310), ∀ a x, ((![v3062, v3310] : Fin 2 → IVec S16 32) a x).toNat < S256x128.size a := fun v3062 v3310 k0_hw440 => k0_hw440

def k0_chk441 (v3062 : IVec S16 32) (v3318 : IVec S16 32) : Prop :=
  (∀ a x, ((![v3062, v3318] : Fin 2 → IVec S16 32) a x).toNat < S256x128.size a)
theorem k0_idx441_inb : ∀ (v3062 : IVec S16 32) (v3318 : IVec S16 32) (k0_hw441 : k0_chk441 v3062 v3318), ∀ a x, ((![v3062, v3318] : Fin 2 → IVec S16 32) a x).toNat < S256x128.size a := fun v3062 v3318 k0_hw441 => k0_hw441

def k0_chk442 (v3062 : IVec S16 32) (v3325 : IVec S16 32) : Prop :=
  (∀ a x, ((![v3062, v3325] : Fin 2 → IVec S16 32) a x).toNat < S256x128.size a)
theorem k0_idx442_inb : ∀ (v3062 : IVec S16 32) (v3325 : IVec S16 32) (k0_hw442 : k0_chk442 v3062 v3325), ∀ a x, ((![v3062, v3325] : Fin 2 → IVec S16 32) a x).toNat < S256x128.size a := fun v3062 v3325 k0_hw442 => k0_hw442

def k0_chk443 (v3062 : IVec S16 32) (v3333 : IVec S16 32) : Prop :=
  (∀ a x, ((![v3062, v3333] : Fin 2 → IVec S16 32) a x).toNat < S256x128.size a)
theorem k0_idx443_inb : ∀ (v3062 : IVec S16 32) (v3333 : IVec S16 32) (k0_hw443 : k0_chk443 v3062 v3333), ∀ a x, ((![v3062, v3333] : Fin 2 → IVec S16 32) a x).toNat < S256x128.size a := fun v3062 v3333 k0_hw443 => k0_hw443

def k0_chk444 (v3062 : IVec S16 32) (v3341 : IVec S16 32) : Prop :=
  (∀ a x, ((![v3062, v3341] : Fin 2 → IVec S16 32) a x).toNat < S256x128.size a)
theorem k0_idx444_inb : ∀ (v3062 : IVec S16 32) (v3341 : IVec S16 32) (k0_hw444 : k0_chk444 v3062 v3341), ∀ a x, ((![v3062, v3341] : Fin 2 → IVec S16 32) a x).toNat < S256x128.size a := fun v3062 v3341 k0_hw444 => k0_hw444

def k0_chk445 (v3062 : IVec S16 32) (v3349 : IVec S16 32) : Prop :=
  (∀ a x, ((![v3062, v3349] : Fin 2 → IVec S16 32) a x).toNat < S256x128.size a)
theorem k0_idx445_inb : ∀ (v3062 : IVec S16 32) (v3349 : IVec S16 32) (k0_hw445 : k0_chk445 v3062 v3349), ∀ a x, ((![v3062, v3349] : Fin 2 → IVec S16 32) a x).toNat < S256x128.size a := fun v3062 v3349 k0_hw445 => k0_hw445

def k0_chk446 (v3062 : IVec S16 32) (v3357 : IVec S16 32) : Prop :=
  (∀ a x, ((![v3062, v3357] : Fin 2 → IVec S16 32) a x).toNat < S256x128.size a)
theorem k0_idx446_inb : ∀ (v3062 : IVec S16 32) (v3357 : IVec S16 32) (k0_hw446 : k0_chk446 v3062 v3357), ∀ a x, ((![v3062, v3357] : Fin 2 → IVec S16 32) a x).toNat < S256x128.size a := fun v3062 v3357 k0_hw446 => k0_hw446

def k0_chk447 (v3062 : IVec S16 32) (v3365 : IVec S16 32) : Prop :=
  (∀ a x, ((![v3062, v3365] : Fin 2 → IVec S16 32) a x).toNat < S256x128.size a)
theorem k0_idx447_inb : ∀ (v3062 : IVec S16 32) (v3365 : IVec S16 32) (k0_hw447 : k0_chk447 v3062 v3365), ∀ a x, ((![v3062, v3365] : Fin 2 → IVec S16 32) a x).toNat < S256x128.size a := fun v3062 v3365 k0_hw447 => k0_hw447

def k0_chk448 (v3062 : IVec S16 32) (v3373 : IVec S16 32) : Prop :=
  (∀ a x, ((![v3062, v3373] : Fin 2 → IVec S16 32) a x).toNat < S256x128.size a)
theorem k0_idx448_inb : ∀ (v3062 : IVec S16 32) (v3373 : IVec S16 32) (k0_hw448 : k0_chk448 v3062 v3373), ∀ a x, ((![v3062, v3373] : Fin 2 → IVec S16 32) a x).toNat < S256x128.size a := fun v3062 v3373 k0_hw448 => k0_hw448

def k0_chk449 (v3062 : IVec S16 32) (v3381 : IVec S16 32) : Prop :=
  (∀ a x, ((![v3062, v3381] : Fin 2 → IVec S16 32) a x).toNat < S256x128.size a)
theorem k0_idx449_inb : ∀ (v3062 : IVec S16 32) (v3381 : IVec S16 32) (k0_hw449 : k0_chk449 v3062 v3381), ∀ a x, ((![v3062, v3381] : Fin 2 → IVec S16 32) a x).toNat < S256x128.size a := fun v3062 v3381 k0_hw449 => k0_hw449

def k0_chk450 (v3062 : IVec S16 32) (v3388 : IVec S16 32) : Prop :=
  (∀ a x, ((![v3062, v3388] : Fin 2 → IVec S16 32) a x).toNat < S256x128.size a)
theorem k0_idx450_inb : ∀ (v3062 : IVec S16 32) (v3388 : IVec S16 32) (k0_hw450 : k0_chk450 v3062 v3388), ∀ a x, ((![v3062, v3388] : Fin 2 → IVec S16 32) a x).toNat < S256x128.size a := fun v3062 v3388 k0_hw450 => k0_hw450

def k0_chk451 (v3062 : IVec S16 32) (v3396 : IVec S16 32) : Prop :=
  (∀ a x, ((![v3062, v3396] : Fin 2 → IVec S16 32) a x).toNat < S256x128.size a)
theorem k0_idx451_inb : ∀ (v3062 : IVec S16 32) (v3396 : IVec S16 32) (k0_hw451 : k0_chk451 v3062 v3396), ∀ a x, ((![v3062, v3396] : Fin 2 → IVec S16 32) a x).toNat < S256x128.size a := fun v3062 v3396 k0_hw451 => k0_hw451

def k0_chk452 (v3062 : IVec S16 32) (v3404 : IVec S16 32) : Prop :=
  (∀ a x, ((![v3062, v3404] : Fin 2 → IVec S16 32) a x).toNat < S256x128.size a)
theorem k0_idx452_inb : ∀ (v3062 : IVec S16 32) (v3404 : IVec S16 32) (k0_hw452 : k0_chk452 v3062 v3404), ∀ a x, ((![v3062, v3404] : Fin 2 → IVec S16 32) a x).toNat < S256x128.size a := fun v3062 v3404 k0_hw452 => k0_hw452

def k0_chk453 (v3062 : IVec S16 32) (v3412 : IVec S16 32) : Prop :=
  (∀ a x, ((![v3062, v3412] : Fin 2 → IVec S16 32) a x).toNat < S256x128.size a)
theorem k0_idx453_inb : ∀ (v3062 : IVec S16 32) (v3412 : IVec S16 32) (k0_hw453 : k0_chk453 v3062 v3412), ∀ a x, ((![v3062, v3412] : Fin 2 → IVec S16 32) a x).toNat < S256x128.size a := fun v3062 v3412 k0_hw453 => k0_hw453

def k0_chk454 (v3062 : IVec S16 32) (v3420 : IVec S16 32) : Prop :=
  (∀ a x, ((![v3062, v3420] : Fin 2 → IVec S16 32) a x).toNat < S256x128.size a)
theorem k0_idx454_inb : ∀ (v3062 : IVec S16 32) (v3420 : IVec S16 32) (k0_hw454 : k0_chk454 v3062 v3420), ∀ a x, ((![v3062, v3420] : Fin 2 → IVec S16 32) a x).toNat < S256x128.size a := fun v3062 v3420 k0_hw454 => k0_hw454

def k0_chk455 (v3062 : IVec S16 32) (v3428 : IVec S16 32) : Prop :=
  (∀ a x, ((![v3062, v3428] : Fin 2 → IVec S16 32) a x).toNat < S256x128.size a)
theorem k0_idx455_inb : ∀ (v3062 : IVec S16 32) (v3428 : IVec S16 32) (k0_hw455 : k0_chk455 v3062 v3428), ∀ a x, ((![v3062, v3428] : Fin 2 → IVec S16 32) a x).toNat < S256x128.size a := fun v3062 v3428 k0_hw455 => k0_hw455

def k0_chk456 (v3062 : IVec S16 32) (v3436 : IVec S16 32) : Prop :=
  (∀ a x, ((![v3062, v3436] : Fin 2 → IVec S16 32) a x).toNat < S256x128.size a)
theorem k0_idx456_inb : ∀ (v3062 : IVec S16 32) (v3436 : IVec S16 32) (k0_hw456 : k0_chk456 v3062 v3436), ∀ a x, ((![v3062, v3436] : Fin 2 → IVec S16 32) a x).toNat < S256x128.size a := fun v3062 v3436 k0_hw456 => k0_hw456

def k0_chk457 (v3062 : IVec S16 32) (v3444 : IVec S16 32) : Prop :=
  (∀ a x, ((![v3062, v3444] : Fin 2 → IVec S16 32) a x).toNat < S256x128.size a)
theorem k0_idx457_inb : ∀ (v3062 : IVec S16 32) (v3444 : IVec S16 32) (k0_hw457 : k0_chk457 v3062 v3444), ∀ a x, ((![v3062, v3444] : Fin 2 → IVec S16 32) a x).toNat < S256x128.size a := fun v3062 v3444 k0_hw457 => k0_hw457

def k0_chk458 (v3062 : IVec S16 32) (v3451 : IVec S16 32) : Prop :=
  (∀ a x, ((![v3062, v3451] : Fin 2 → IVec S16 32) a x).toNat < S256x128.size a)
theorem k0_idx458_inb : ∀ (v3062 : IVec S16 32) (v3451 : IVec S16 32) (k0_hw458 : k0_chk458 v3062 v3451), ∀ a x, ((![v3062, v3451] : Fin 2 → IVec S16 32) a x).toNat < S256x128.size a := fun v3062 v3451 k0_hw458 => k0_hw458

def k0_chk459 (v3062 : IVec S16 32) (v3459 : IVec S16 32) : Prop :=
  (∀ a x, ((![v3062, v3459] : Fin 2 → IVec S16 32) a x).toNat < S256x128.size a)
theorem k0_idx459_inb : ∀ (v3062 : IVec S16 32) (v3459 : IVec S16 32) (k0_hw459 : k0_chk459 v3062 v3459), ∀ a x, ((![v3062, v3459] : Fin 2 → IVec S16 32) a x).toNat < S256x128.size a := fun v3062 v3459 k0_hw459 => k0_hw459

def k0_chk460 (v3062 : IVec S16 32) (v3467 : IVec S16 32) : Prop :=
  (∀ a x, ((![v3062, v3467] : Fin 2 → IVec S16 32) a x).toNat < S256x128.size a)
theorem k0_idx460_inb : ∀ (v3062 : IVec S16 32) (v3467 : IVec S16 32) (k0_hw460 : k0_chk460 v3062 v3467), ∀ a x, ((![v3062, v3467] : Fin 2 → IVec S16 32) a x).toNat < S256x128.size a := fun v3062 v3467 k0_hw460 => k0_hw460

def k0_chk461 (v3062 : IVec S16 32) (v3475 : IVec S16 32) : Prop :=
  (∀ a x, ((![v3062, v3475] : Fin 2 → IVec S16 32) a x).toNat < S256x128.size a)
theorem k0_idx461_inb : ∀ (v3062 : IVec S16 32) (v3475 : IVec S16 32) (k0_hw461 : k0_chk461 v3062 v3475), ∀ a x, ((![v3062, v3475] : Fin 2 → IVec S16 32) a x).toNat < S256x128.size a := fun v3062 v3475 k0_hw461 => k0_hw461

def k0_chk462 (v3062 : IVec S16 32) (v3483 : IVec S16 32) : Prop :=
  (∀ a x, ((![v3062, v3483] : Fin 2 → IVec S16 32) a x).toNat < S256x128.size a)
theorem k0_idx462_inb : ∀ (v3062 : IVec S16 32) (v3483 : IVec S16 32) (k0_hw462 : k0_chk462 v3062 v3483), ∀ a x, ((![v3062, v3483] : Fin 2 → IVec S16 32) a x).toNat < S256x128.size a := fun v3062 v3483 k0_hw462 => k0_hw462

def k0_chk463 (v3062 : IVec S16 32) (v3491 : IVec S16 32) : Prop :=
  (∀ a x, ((![v3062, v3491] : Fin 2 → IVec S16 32) a x).toNat < S256x128.size a)
theorem k0_idx463_inb : ∀ (v3062 : IVec S16 32) (v3491 : IVec S16 32) (k0_hw463 : k0_chk463 v3062 v3491), ∀ a x, ((![v3062, v3491] : Fin 2 → IVec S16 32) a x).toNat < S256x128.size a := fun v3062 v3491 k0_hw463 => k0_hw463

def k0_chk464 (v3062 : IVec S16 32) (v3499 : IVec S16 32) : Prop :=
  (∀ a x, ((![v3062, v3499] : Fin 2 → IVec S16 32) a x).toNat < S256x128.size a)
theorem k0_idx464_inb : ∀ (v3062 : IVec S16 32) (v3499 : IVec S16 32) (k0_hw464 : k0_chk464 v3062 v3499), ∀ a x, ((![v3062, v3499] : Fin 2 → IVec S16 32) a x).toNat < S256x128.size a := fun v3062 v3499 k0_hw464 => k0_hw464

def k0_chk465 (v3062 : IVec S16 32) (v3507 : IVec S16 32) : Prop :=
  (∀ a x, ((![v3062, v3507] : Fin 2 → IVec S16 32) a x).toNat < S256x128.size a)
theorem k0_idx465_inb : ∀ (v3062 : IVec S16 32) (v3507 : IVec S16 32) (k0_hw465 : k0_chk465 v3062 v3507), ∀ a x, ((![v3062, v3507] : Fin 2 → IVec S16 32) a x).toNat < S256x128.size a := fun v3062 v3507 k0_hw465 => k0_hw465

def k0_chk466 (v3062 : IVec S16 32) (v3514 : IVec S16 32) : Prop :=
  (∀ a x, ((![v3062, v3514] : Fin 2 → IVec S16 32) a x).toNat < S256x128.size a)
theorem k0_idx466_inb : ∀ (v3062 : IVec S16 32) (v3514 : IVec S16 32) (k0_hw466 : k0_chk466 v3062 v3514), ∀ a x, ((![v3062, v3514] : Fin 2 → IVec S16 32) a x).toNat < S256x128.size a := fun v3062 v3514 k0_hw466 => k0_hw466

def k0_chk467 (v3062 : IVec S16 32) (v3522 : IVec S16 32) : Prop :=
  (∀ a x, ((![v3062, v3522] : Fin 2 → IVec S16 32) a x).toNat < S256x128.size a)
theorem k0_idx467_inb : ∀ (v3062 : IVec S16 32) (v3522 : IVec S16 32) (k0_hw467 : k0_chk467 v3062 v3522), ∀ a x, ((![v3062, v3522] : Fin 2 → IVec S16 32) a x).toNat < S256x128.size a := fun v3062 v3522 k0_hw467 => k0_hw467

def k0_chk468 (v3062 : IVec S16 32) (v3530 : IVec S16 32) : Prop :=
  (∀ a x, ((![v3062, v3530] : Fin 2 → IVec S16 32) a x).toNat < S256x128.size a)
theorem k0_idx468_inb : ∀ (v3062 : IVec S16 32) (v3530 : IVec S16 32) (k0_hw468 : k0_chk468 v3062 v3530), ∀ a x, ((![v3062, v3530] : Fin 2 → IVec S16 32) a x).toNat < S256x128.size a := fun v3062 v3530 k0_hw468 => k0_hw468

def k0_chk469 (v3062 : IVec S16 32) (v3538 : IVec S16 32) : Prop :=
  (∀ a x, ((![v3062, v3538] : Fin 2 → IVec S16 32) a x).toNat < S256x128.size a)
theorem k0_idx469_inb : ∀ (v3062 : IVec S16 32) (v3538 : IVec S16 32) (k0_hw469 : k0_chk469 v3062 v3538), ∀ a x, ((![v3062, v3538] : Fin 2 → IVec S16 32) a x).toNat < S256x128.size a := fun v3062 v3538 k0_hw469 => k0_hw469

def k0_chk470 (v3062 : IVec S16 32) (v3546 : IVec S16 32) : Prop :=
  (∀ a x, ((![v3062, v3546] : Fin 2 → IVec S16 32) a x).toNat < S256x128.size a)
theorem k0_idx470_inb : ∀ (v3062 : IVec S16 32) (v3546 : IVec S16 32) (k0_hw470 : k0_chk470 v3062 v3546), ∀ a x, ((![v3062, v3546] : Fin 2 → IVec S16 32) a x).toNat < S256x128.size a := fun v3062 v3546 k0_hw470 => k0_hw470

def k0_chk471 (v3062 : IVec S16 32) (v3554 : IVec S16 32) : Prop :=
  (∀ a x, ((![v3062, v3554] : Fin 2 → IVec S16 32) a x).toNat < S256x128.size a)
theorem k0_idx471_inb : ∀ (v3062 : IVec S16 32) (v3554 : IVec S16 32) (k0_hw471 : k0_chk471 v3062 v3554), ∀ a x, ((![v3062, v3554] : Fin 2 → IVec S16 32) a x).toNat < S256x128.size a := fun v3062 v3554 k0_hw471 => k0_hw471

def k0_chk472 (v3062 : IVec S16 32) (v3562 : IVec S16 32) : Prop :=
  (∀ a x, ((![v3062, v3562] : Fin 2 → IVec S16 32) a x).toNat < S256x128.size a)
theorem k0_idx472_inb : ∀ (v3062 : IVec S16 32) (v3562 : IVec S16 32) (k0_hw472 : k0_chk472 v3062 v3562), ∀ a x, ((![v3062, v3562] : Fin 2 → IVec S16 32) a x).toNat < S256x128.size a := fun v3062 v3562 k0_hw472 => k0_hw472

def k0_chk473 (v3062 : IVec S16 32) (v3570 : IVec S16 32) : Prop :=
  (∀ a x, ((![v3062, v3570] : Fin 2 → IVec S16 32) a x).toNat < S256x128.size a)
theorem k0_idx473_inb : ∀ (v3062 : IVec S16 32) (v3570 : IVec S16 32) (k0_hw473 : k0_chk473 v3062 v3570), ∀ a x, ((![v3062, v3570] : Fin 2 → IVec S16 32) a x).toNat < S256x128.size a := fun v3062 v3570 k0_hw473 => k0_hw473

def k0_chk474 (v3062 : IVec S16 32) (v3577 : IVec S16 32) : Prop :=
  (∀ a x, ((![v3062, v3577] : Fin 2 → IVec S16 32) a x).toNat < S256x128.size a)
theorem k0_idx474_inb : ∀ (v3062 : IVec S16 32) (v3577 : IVec S16 32) (k0_hw474 : k0_chk474 v3062 v3577), ∀ a x, ((![v3062, v3577] : Fin 2 → IVec S16 32) a x).toNat < S256x128.size a := fun v3062 v3577 k0_hw474 => k0_hw474

def k0_chk475 (v3062 : IVec S16 32) (v3585 : IVec S16 32) : Prop :=
  (∀ a x, ((![v3062, v3585] : Fin 2 → IVec S16 32) a x).toNat < S256x128.size a)
theorem k0_idx475_inb : ∀ (v3062 : IVec S16 32) (v3585 : IVec S16 32) (k0_hw475 : k0_chk475 v3062 v3585), ∀ a x, ((![v3062, v3585] : Fin 2 → IVec S16 32) a x).toNat < S256x128.size a := fun v3062 v3585 k0_hw475 => k0_hw475

def k0_chk476 (v3062 : IVec S16 32) (v3593 : IVec S16 32) : Prop :=
  (∀ a x, ((![v3062, v3593] : Fin 2 → IVec S16 32) a x).toNat < S256x128.size a)
theorem k0_idx476_inb : ∀ (v3062 : IVec S16 32) (v3593 : IVec S16 32) (k0_hw476 : k0_chk476 v3062 v3593), ∀ a x, ((![v3062, v3593] : Fin 2 → IVec S16 32) a x).toNat < S256x128.size a := fun v3062 v3593 k0_hw476 => k0_hw476

def k0_chk477 (v3062 : IVec S16 32) (v3601 : IVec S16 32) : Prop :=
  (∀ a x, ((![v3062, v3601] : Fin 2 → IVec S16 32) a x).toNat < S256x128.size a)
theorem k0_idx477_inb : ∀ (v3062 : IVec S16 32) (v3601 : IVec S16 32) (k0_hw477 : k0_chk477 v3062 v3601), ∀ a x, ((![v3062, v3601] : Fin 2 → IVec S16 32) a x).toNat < S256x128.size a := fun v3062 v3601 k0_hw477 => k0_hw477

def k0_chk478 (v3062 : IVec S16 32) (v3609 : IVec S16 32) : Prop :=
  (∀ a x, ((![v3062, v3609] : Fin 2 → IVec S16 32) a x).toNat < S256x128.size a)
theorem k0_idx478_inb : ∀ (v3062 : IVec S16 32) (v3609 : IVec S16 32) (k0_hw478 : k0_chk478 v3062 v3609), ∀ a x, ((![v3062, v3609] : Fin 2 → IVec S16 32) a x).toNat < S256x128.size a := fun v3062 v3609 k0_hw478 => k0_hw478

def k0_chk479 (v3062 : IVec S16 32) (v3617 : IVec S16 32) : Prop :=
  (∀ a x, ((![v3062, v3617] : Fin 2 → IVec S16 32) a x).toNat < S256x128.size a)
theorem k0_idx479_inb : ∀ (v3062 : IVec S16 32) (v3617 : IVec S16 32) (k0_hw479 : k0_chk479 v3062 v3617), ∀ a x, ((![v3062, v3617] : Fin 2 → IVec S16 32) a x).toNat < S256x128.size a := fun v3062 v3617 k0_hw479 => k0_hw479

def k0_chk480 (v3062 : IVec S16 32) (v3625 : IVec S16 32) : Prop :=
  (∀ a x, ((![v3062, v3625] : Fin 2 → IVec S16 32) a x).toNat < S256x128.size a)
theorem k0_idx480_inb : ∀ (v3062 : IVec S16 32) (v3625 : IVec S16 32) (k0_hw480 : k0_chk480 v3062 v3625), ∀ a x, ((![v3062, v3625] : Fin 2 → IVec S16 32) a x).toNat < S256x128.size a := fun v3062 v3625 k0_hw480 => k0_hw480

def k0_chk481 (v3062 : IVec S16 32) (v3633 : IVec S16 32) : Prop :=
  (∀ a x, ((![v3062, v3633] : Fin 2 → IVec S16 32) a x).toNat < S256x128.size a)
theorem k0_idx481_inb : ∀ (v3062 : IVec S16 32) (v3633 : IVec S16 32) (k0_hw481 : k0_chk481 v3062 v3633), ∀ a x, ((![v3062, v3633] : Fin 2 → IVec S16 32) a x).toNat < S256x128.size a := fun v3062 v3633 k0_hw481 => k0_hw481

def k0_chk482 (v3062 : IVec S16 32) (v3640 : IVec S16 32) : Prop :=
  (∀ a x, ((![v3062, v3640] : Fin 2 → IVec S16 32) a x).toNat < S256x128.size a)
theorem k0_idx482_inb : ∀ (v3062 : IVec S16 32) (v3640 : IVec S16 32) (k0_hw482 : k0_chk482 v3062 v3640), ∀ a x, ((![v3062, v3640] : Fin 2 → IVec S16 32) a x).toNat < S256x128.size a := fun v3062 v3640 k0_hw482 => k0_hw482

def k0_chk483 (v3062 : IVec S16 32) (v3648 : IVec S16 32) : Prop :=
  (∀ a x, ((![v3062, v3648] : Fin 2 → IVec S16 32) a x).toNat < S256x128.size a)
theorem k0_idx483_inb : ∀ (v3062 : IVec S16 32) (v3648 : IVec S16 32) (k0_hw483 : k0_chk483 v3062 v3648), ∀ a x, ((![v3062, v3648] : Fin 2 → IVec S16 32) a x).toNat < S256x128.size a := fun v3062 v3648 k0_hw483 => k0_hw483

def k0_chk484 (v3062 : IVec S16 32) (v3656 : IVec S16 32) : Prop :=
  (∀ a x, ((![v3062, v3656] : Fin 2 → IVec S16 32) a x).toNat < S256x128.size a)
theorem k0_idx484_inb : ∀ (v3062 : IVec S16 32) (v3656 : IVec S16 32) (k0_hw484 : k0_chk484 v3062 v3656), ∀ a x, ((![v3062, v3656] : Fin 2 → IVec S16 32) a x).toNat < S256x128.size a := fun v3062 v3656 k0_hw484 => k0_hw484

def k0_chk485 (v3062 : IVec S16 32) (v3664 : IVec S16 32) : Prop :=
  (∀ a x, ((![v3062, v3664] : Fin 2 → IVec S16 32) a x).toNat < S256x128.size a)
theorem k0_idx485_inb : ∀ (v3062 : IVec S16 32) (v3664 : IVec S16 32) (k0_hw485 : k0_chk485 v3062 v3664), ∀ a x, ((![v3062, v3664] : Fin 2 → IVec S16 32) a x).toNat < S256x128.size a := fun v3062 v3664 k0_hw485 => k0_hw485

def k0_chk486 (v3062 : IVec S16 32) (v3672 : IVec S16 32) : Prop :=
  (∀ a x, ((![v3062, v3672] : Fin 2 → IVec S16 32) a x).toNat < S256x128.size a)
theorem k0_idx486_inb : ∀ (v3062 : IVec S16 32) (v3672 : IVec S16 32) (k0_hw486 : k0_chk486 v3062 v3672), ∀ a x, ((![v3062, v3672] : Fin 2 → IVec S16 32) a x).toNat < S256x128.size a := fun v3062 v3672 k0_hw486 => k0_hw486

def k0_chk487 (v3062 : IVec S16 32) (v3680 : IVec S16 32) : Prop :=
  (∀ a x, ((![v3062, v3680] : Fin 2 → IVec S16 32) a x).toNat < S256x128.size a)
theorem k0_idx487_inb : ∀ (v3062 : IVec S16 32) (v3680 : IVec S16 32) (k0_hw487 : k0_chk487 v3062 v3680), ∀ a x, ((![v3062, v3680] : Fin 2 → IVec S16 32) a x).toNat < S256x128.size a := fun v3062 v3680 k0_hw487 => k0_hw487

def k0_chk488 (v3062 : IVec S16 32) (v3688 : IVec S16 32) : Prop :=
  (∀ a x, ((![v3062, v3688] : Fin 2 → IVec S16 32) a x).toNat < S256x128.size a)
theorem k0_idx488_inb : ∀ (v3062 : IVec S16 32) (v3688 : IVec S16 32) (k0_hw488 : k0_chk488 v3062 v3688), ∀ a x, ((![v3062, v3688] : Fin 2 → IVec S16 32) a x).toNat < S256x128.size a := fun v3062 v3688 k0_hw488 => k0_hw488

def k0_chk489 (v3062 : IVec S16 32) (v3696 : IVec S16 32) : Prop :=
  (∀ a x, ((![v3062, v3696] : Fin 2 → IVec S16 32) a x).toNat < S256x128.size a)
theorem k0_idx489_inb : ∀ (v3062 : IVec S16 32) (v3696 : IVec S16 32) (k0_hw489 : k0_chk489 v3062 v3696), ∀ a x, ((![v3062, v3696] : Fin 2 → IVec S16 32) a x).toNat < S256x128.size a := fun v3062 v3696 k0_hw489 => k0_hw489

def k0_chk490 (v3062 : IVec S16 32) (v3703 : IVec S16 32) : Prop :=
  (∀ a x, ((![v3062, v3703] : Fin 2 → IVec S16 32) a x).toNat < S256x128.size a)
theorem k0_idx490_inb : ∀ (v3062 : IVec S16 32) (v3703 : IVec S16 32) (k0_hw490 : k0_chk490 v3062 v3703), ∀ a x, ((![v3062, v3703] : Fin 2 → IVec S16 32) a x).toNat < S256x128.size a := fun v3062 v3703 k0_hw490 => k0_hw490

def k0_chk491 (v3062 : IVec S16 32) (v3711 : IVec S16 32) : Prop :=
  (∀ a x, ((![v3062, v3711] : Fin 2 → IVec S16 32) a x).toNat < S256x128.size a)
theorem k0_idx491_inb : ∀ (v3062 : IVec S16 32) (v3711 : IVec S16 32) (k0_hw491 : k0_chk491 v3062 v3711), ∀ a x, ((![v3062, v3711] : Fin 2 → IVec S16 32) a x).toNat < S256x128.size a := fun v3062 v3711 k0_hw491 => k0_hw491

def k0_chk492 (v3062 : IVec S16 32) (v3719 : IVec S16 32) : Prop :=
  (∀ a x, ((![v3062, v3719] : Fin 2 → IVec S16 32) a x).toNat < S256x128.size a)
theorem k0_idx492_inb : ∀ (v3062 : IVec S16 32) (v3719 : IVec S16 32) (k0_hw492 : k0_chk492 v3062 v3719), ∀ a x, ((![v3062, v3719] : Fin 2 → IVec S16 32) a x).toNat < S256x128.size a := fun v3062 v3719 k0_hw492 => k0_hw492

def k0_chk493 (v3062 : IVec S16 32) (v3727 : IVec S16 32) : Prop :=
  (∀ a x, ((![v3062, v3727] : Fin 2 → IVec S16 32) a x).toNat < S256x128.size a)
theorem k0_idx493_inb : ∀ (v3062 : IVec S16 32) (v3727 : IVec S16 32) (k0_hw493 : k0_chk493 v3062 v3727), ∀ a x, ((![v3062, v3727] : Fin 2 → IVec S16 32) a x).toNat < S256x128.size a := fun v3062 v3727 k0_hw493 => k0_hw493

def k0_chk494 (v3062 : IVec S16 32) (v3735 : IVec S16 32) : Prop :=
  (∀ a x, ((![v3062, v3735] : Fin 2 → IVec S16 32) a x).toNat < S256x128.size a)
theorem k0_idx494_inb : ∀ (v3062 : IVec S16 32) (v3735 : IVec S16 32) (k0_hw494 : k0_chk494 v3062 v3735), ∀ a x, ((![v3062, v3735] : Fin 2 → IVec S16 32) a x).toNat < S256x128.size a := fun v3062 v3735 k0_hw494 => k0_hw494

def k0_chk495 (v3062 : IVec S16 32) (v3743 : IVec S16 32) : Prop :=
  (∀ a x, ((![v3062, v3743] : Fin 2 → IVec S16 32) a x).toNat < S256x128.size a)
theorem k0_idx495_inb : ∀ (v3062 : IVec S16 32) (v3743 : IVec S16 32) (k0_hw495 : k0_chk495 v3062 v3743), ∀ a x, ((![v3062, v3743] : Fin 2 → IVec S16 32) a x).toNat < S256x128.size a := fun v3062 v3743 k0_hw495 => k0_hw495

def k0_chk496 (v3062 : IVec S16 32) (v3751 : IVec S16 32) : Prop :=
  (∀ a x, ((![v3062, v3751] : Fin 2 → IVec S16 32) a x).toNat < S256x128.size a)
theorem k0_idx496_inb : ∀ (v3062 : IVec S16 32) (v3751 : IVec S16 32) (k0_hw496 : k0_chk496 v3062 v3751), ∀ a x, ((![v3062, v3751] : Fin 2 → IVec S16 32) a x).toNat < S256x128.size a := fun v3062 v3751 k0_hw496 => k0_hw496

def k0_chk497 (v3062 : IVec S16 32) (v3759 : IVec S16 32) : Prop :=
  (∀ a x, ((![v3062, v3759] : Fin 2 → IVec S16 32) a x).toNat < S256x128.size a)
theorem k0_idx497_inb : ∀ (v3062 : IVec S16 32) (v3759 : IVec S16 32) (k0_hw497 : k0_chk497 v3062 v3759), ∀ a x, ((![v3062, v3759] : Fin 2 → IVec S16 32) a x).toNat < S256x128.size a := fun v3062 v3759 k0_hw497 => k0_hw497

def k0_chk498 (v3062 : IVec S16 32) (v3766 : IVec S16 32) : Prop :=
  (∀ a x, ((![v3062, v3766] : Fin 2 → IVec S16 32) a x).toNat < S256x128.size a)
theorem k0_idx498_inb : ∀ (v3062 : IVec S16 32) (v3766 : IVec S16 32) (k0_hw498 : k0_chk498 v3062 v3766), ∀ a x, ((![v3062, v3766] : Fin 2 → IVec S16 32) a x).toNat < S256x128.size a := fun v3062 v3766 k0_hw498 => k0_hw498

def k0_chk499 (v3062 : IVec S16 32) (v3774 : IVec S16 32) : Prop :=
  (∀ a x, ((![v3062, v3774] : Fin 2 → IVec S16 32) a x).toNat < S256x128.size a)
theorem k0_idx499_inb : ∀ (v3062 : IVec S16 32) (v3774 : IVec S16 32) (k0_hw499 : k0_chk499 v3062 v3774), ∀ a x, ((![v3062, v3774] : Fin 2 → IVec S16 32) a x).toNat < S256x128.size a := fun v3062 v3774 k0_hw499 => k0_hw499

def k0_chk500 (v3062 : IVec S16 32) (v3782 : IVec S16 32) : Prop :=
  (∀ a x, ((![v3062, v3782] : Fin 2 → IVec S16 32) a x).toNat < S256x128.size a)
theorem k0_idx500_inb : ∀ (v3062 : IVec S16 32) (v3782 : IVec S16 32) (k0_hw500 : k0_chk500 v3062 v3782), ∀ a x, ((![v3062, v3782] : Fin 2 → IVec S16 32) a x).toNat < S256x128.size a := fun v3062 v3782 k0_hw500 => k0_hw500

def k0_chk501 (v3062 : IVec S16 32) (v3790 : IVec S16 32) : Prop :=
  (∀ a x, ((![v3062, v3790] : Fin 2 → IVec S16 32) a x).toNat < S256x128.size a)
theorem k0_idx501_inb : ∀ (v3062 : IVec S16 32) (v3790 : IVec S16 32) (k0_hw501 : k0_chk501 v3062 v3790), ∀ a x, ((![v3062, v3790] : Fin 2 → IVec S16 32) a x).toNat < S256x128.size a := fun v3062 v3790 k0_hw501 => k0_hw501

def k0_chk502 (v3062 : IVec S16 32) (v3798 : IVec S16 32) : Prop :=
  (∀ a x, ((![v3062, v3798] : Fin 2 → IVec S16 32) a x).toNat < S256x128.size a)
theorem k0_idx502_inb : ∀ (v3062 : IVec S16 32) (v3798 : IVec S16 32) (k0_hw502 : k0_chk502 v3062 v3798), ∀ a x, ((![v3062, v3798] : Fin 2 → IVec S16 32) a x).toNat < S256x128.size a := fun v3062 v3798 k0_hw502 => k0_hw502

def k0_chk503 (v3062 : IVec S16 32) (v3806 : IVec S16 32) : Prop :=
  (∀ a x, ((![v3062, v3806] : Fin 2 → IVec S16 32) a x).toNat < S256x128.size a)
theorem k0_idx503_inb : ∀ (v3062 : IVec S16 32) (v3806 : IVec S16 32) (k0_hw503 : k0_chk503 v3062 v3806), ∀ a x, ((![v3062, v3806] : Fin 2 → IVec S16 32) a x).toNat < S256x128.size a := fun v3062 v3806 k0_hw503 => k0_hw503

def k0_chk504 (v3062 : IVec S16 32) (v3814 : IVec S16 32) : Prop :=
  (∀ a x, ((![v3062, v3814] : Fin 2 → IVec S16 32) a x).toNat < S256x128.size a)
theorem k0_idx504_inb : ∀ (v3062 : IVec S16 32) (v3814 : IVec S16 32) (k0_hw504 : k0_chk504 v3062 v3814), ∀ a x, ((![v3062, v3814] : Fin 2 → IVec S16 32) a x).toNat < S256x128.size a := fun v3062 v3814 k0_hw504 => k0_hw504

def k0_chk505 (v3824 : IVec S16 32) : Prop :=
  (∀ a x, ((![v3824] : Fin 1 → IVec S16 32) a x).toNat < S48.size a)
theorem k0_idx505_inb : ∀ (v3824 : IVec S16 32) (k0_hw505 : k0_chk505 v3824), ∀ a x, ((![v3824] : Fin 1 → IVec S16 32) a x).toNat < S48.size a := fun v3824 k0_hw505 => k0_hw505

def k0_chk506 (v3062 : IVec S16 32) (v3827 : IVec S16 32) : Prop :=
  (∀ a x, ((![v3062, v3827] : Fin 2 → IVec S16 32) a x).toNat < S256x128.size a)
theorem k0_idx506_inb : ∀ (v3062 : IVec S16 32) (v3827 : IVec S16 32) (k0_hw506 : k0_chk506 v3062 v3827), ∀ a x, ((![v3062, v3827] : Fin 2 → IVec S16 32) a x).toNat < S256x128.size a := fun v3062 v3827 k0_hw506 => k0_hw506

def k0_chk507 (v3836 : IVec S16 32) : Prop :=
  (∀ a x, ((![v3836] : Fin 1 → IVec S16 32) a x).toNat < S48.size a)
theorem k0_idx507_inb : ∀ (v3836 : IVec S16 32) (k0_hw507 : k0_chk507 v3836), ∀ a x, ((![v3836] : Fin 1 → IVec S16 32) a x).toNat < S48.size a := fun v3836 k0_hw507 => k0_hw507

def k0_chk508 (v3062 : IVec S16 32) (v3839 : IVec S16 32) : Prop :=
  (∀ a x, ((![v3062, v3839] : Fin 2 → IVec S16 32) a x).toNat < S256x128.size a)
theorem k0_idx508_inb : ∀ (v3062 : IVec S16 32) (v3839 : IVec S16 32) (k0_hw508 : k0_chk508 v3062 v3839), ∀ a x, ((![v3062, v3839] : Fin 2 → IVec S16 32) a x).toNat < S256x128.size a := fun v3062 v3839 k0_hw508 => k0_hw508

def k0_chk509 (v3848 : IVec S16 32) : Prop :=
  (∀ a x, ((![v3848] : Fin 1 → IVec S16 32) a x).toNat < S48.size a)
theorem k0_idx509_inb : ∀ (v3848 : IVec S16 32) (k0_hw509 : k0_chk509 v3848), ∀ a x, ((![v3848] : Fin 1 → IVec S16 32) a x).toNat < S48.size a := fun v3848 k0_hw509 => k0_hw509

def k0_chk510 (v3062 : IVec S16 32) (v3851 : IVec S16 32) : Prop :=
  (∀ a x, ((![v3062, v3851] : Fin 2 → IVec S16 32) a x).toNat < S256x128.size a)
theorem k0_idx510_inb : ∀ (v3062 : IVec S16 32) (v3851 : IVec S16 32) (k0_hw510 : k0_chk510 v3062 v3851), ∀ a x, ((![v3062, v3851] : Fin 2 → IVec S16 32) a x).toNat < S256x128.size a := fun v3062 v3851 k0_hw510 => k0_hw510

def k0_chk511 (v3860 : IVec S16 32) : Prop :=
  (∀ a x, ((![v3860] : Fin 1 → IVec S16 32) a x).toNat < S48.size a)
theorem k0_idx511_inb : ∀ (v3860 : IVec S16 32) (k0_hw511 : k0_chk511 v3860), ∀ a x, ((![v3860] : Fin 1 → IVec S16 32) a x).toNat < S48.size a := fun v3860 k0_hw511 => k0_hw511

def k0_chk512 (v3062 : IVec S16 32) (v3863 : IVec S16 32) : Prop :=
  (∀ a x, ((![v3062, v3863] : Fin 2 → IVec S16 32) a x).toNat < S256x128.size a)
theorem k0_idx512_inb : ∀ (v3062 : IVec S16 32) (v3863 : IVec S16 32) (k0_hw512 : k0_chk512 v3062 v3863), ∀ a x, ((![v3062, v3863] : Fin 2 → IVec S16 32) a x).toNat < S256x128.size a := fun v3062 v3863 k0_hw512 => k0_hw512

def k0_chk513 (v3872 : IVec S16 32) : Prop :=
  (∀ a x, ((![v3872] : Fin 1 → IVec S16 32) a x).toNat < S48.size a)
theorem k0_idx513_inb : ∀ (v3872 : IVec S16 32) (k0_hw513 : k0_chk513 v3872), ∀ a x, ((![v3872] : Fin 1 → IVec S16 32) a x).toNat < S48.size a := fun v3872 k0_hw513 => k0_hw513

def k0_chk514 (v3062 : IVec S16 32) (v3875 : IVec S16 32) : Prop :=
  (∀ a x, ((![v3062, v3875] : Fin 2 → IVec S16 32) a x).toNat < S256x128.size a)
theorem k0_idx514_inb : ∀ (v3062 : IVec S16 32) (v3875 : IVec S16 32) (k0_hw514 : k0_chk514 v3062 v3875), ∀ a x, ((![v3062, v3875] : Fin 2 → IVec S16 32) a x).toNat < S256x128.size a := fun v3062 v3875 k0_hw514 => k0_hw514

def k0_chk515 (v3884 : IVec S16 32) : Prop :=
  (∀ a x, ((![v3884] : Fin 1 → IVec S16 32) a x).toNat < S48.size a)
theorem k0_idx515_inb : ∀ (v3884 : IVec S16 32) (k0_hw515 : k0_chk515 v3884), ∀ a x, ((![v3884] : Fin 1 → IVec S16 32) a x).toNat < S48.size a := fun v3884 k0_hw515 => k0_hw515

def k0_chk516 (v3062 : IVec S16 32) (v3887 : IVec S16 32) : Prop :=
  (∀ a x, ((![v3062, v3887] : Fin 2 → IVec S16 32) a x).toNat < S256x128.size a)
theorem k0_idx516_inb : ∀ (v3062 : IVec S16 32) (v3887 : IVec S16 32) (k0_hw516 : k0_chk516 v3062 v3887), ∀ a x, ((![v3062, v3887] : Fin 2 → IVec S16 32) a x).toNat < S256x128.size a := fun v3062 v3887 k0_hw516 => k0_hw516

def k0_chk517 (v3896 : IVec S16 32) : Prop :=
  (∀ a x, ((![v3896] : Fin 1 → IVec S16 32) a x).toNat < S48.size a)
theorem k0_idx517_inb : ∀ (v3896 : IVec S16 32) (k0_hw517 : k0_chk517 v3896), ∀ a x, ((![v3896] : Fin 1 → IVec S16 32) a x).toNat < S48.size a := fun v3896 k0_hw517 => k0_hw517

def k0_chk518 (v3062 : IVec S16 32) (v3899 : IVec S16 32) : Prop :=
  (∀ a x, ((![v3062, v3899] : Fin 2 → IVec S16 32) a x).toNat < S256x128.size a)
theorem k0_idx518_inb : ∀ (v3062 : IVec S16 32) (v3899 : IVec S16 32) (k0_hw518 : k0_chk518 v3062 v3899), ∀ a x, ((![v3062, v3899] : Fin 2 → IVec S16 32) a x).toNat < S256x128.size a := fun v3062 v3899 k0_hw518 => k0_hw518

def k0_chk519 (v3908 : IVec S16 32) : Prop :=
  (∀ a x, ((![v3908] : Fin 1 → IVec S16 32) a x).toNat < S48.size a)
theorem k0_idx519_inb : ∀ (v3908 : IVec S16 32) (k0_hw519 : k0_chk519 v3908), ∀ a x, ((![v3908] : Fin 1 → IVec S16 32) a x).toNat < S48.size a := fun v3908 k0_hw519 => k0_hw519

def k0_chk520 (v3062 : IVec S16 32) (v3911 : IVec S16 32) : Prop :=
  (∀ a x, ((![v3062, v3911] : Fin 2 → IVec S16 32) a x).toNat < S256x128.size a)
theorem k0_idx520_inb : ∀ (v3062 : IVec S16 32) (v3911 : IVec S16 32) (k0_hw520 : k0_chk520 v3062 v3911), ∀ a x, ((![v3062, v3911] : Fin 2 → IVec S16 32) a x).toNat < S256x128.size a := fun v3062 v3911 k0_hw520 => k0_hw520

def k0_chk521 (v3920 : IVec S16 32) : Prop :=
  (∀ a x, ((![v3920] : Fin 1 → IVec S16 32) a x).toNat < S48.size a)
theorem k0_idx521_inb : ∀ (v3920 : IVec S16 32) (k0_hw521 : k0_chk521 v3920), ∀ a x, ((![v3920] : Fin 1 → IVec S16 32) a x).toNat < S48.size a := fun v3920 k0_hw521 => k0_hw521

def k0_chk522 (v3062 : IVec S16 32) (v3923 : IVec S16 32) : Prop :=
  (∀ a x, ((![v3062, v3923] : Fin 2 → IVec S16 32) a x).toNat < S256x128.size a)
theorem k0_idx522_inb : ∀ (v3062 : IVec S16 32) (v3923 : IVec S16 32) (k0_hw522 : k0_chk522 v3062 v3923), ∀ a x, ((![v3062, v3923] : Fin 2 → IVec S16 32) a x).toNat < S256x128.size a := fun v3062 v3923 k0_hw522 => k0_hw522

def k0_chk523 (v3932 : IVec S16 32) : Prop :=
  (∀ a x, ((![v3932] : Fin 1 → IVec S16 32) a x).toNat < S48.size a)
theorem k0_idx523_inb : ∀ (v3932 : IVec S16 32) (k0_hw523 : k0_chk523 v3932), ∀ a x, ((![v3932] : Fin 1 → IVec S16 32) a x).toNat < S48.size a := fun v3932 k0_hw523 => k0_hw523

def k0_chk524 (v3062 : IVec S16 32) (v3935 : IVec S16 32) : Prop :=
  (∀ a x, ((![v3062, v3935] : Fin 2 → IVec S16 32) a x).toNat < S256x128.size a)
theorem k0_idx524_inb : ∀ (v3062 : IVec S16 32) (v3935 : IVec S16 32) (k0_hw524 : k0_chk524 v3062 v3935), ∀ a x, ((![v3062, v3935] : Fin 2 → IVec S16 32) a x).toNat < S256x128.size a := fun v3062 v3935 k0_hw524 => k0_hw524

def k0_chk525 (v3944 : IVec S16 32) : Prop :=
  (∀ a x, ((![v3944] : Fin 1 → IVec S16 32) a x).toNat < S48.size a)
theorem k0_idx525_inb : ∀ (v3944 : IVec S16 32) (k0_hw525 : k0_chk525 v3944), ∀ a x, ((![v3944] : Fin 1 → IVec S16 32) a x).toNat < S48.size a := fun v3944 k0_hw525 => k0_hw525

def k0_chk526 (v3062 : IVec S16 32) (v3947 : IVec S16 32) : Prop :=
  (∀ a x, ((![v3062, v3947] : Fin 2 → IVec S16 32) a x).toNat < S256x128.size a)
theorem k0_idx526_inb : ∀ (v3062 : IVec S16 32) (v3947 : IVec S16 32) (k0_hw526 : k0_chk526 v3062 v3947), ∀ a x, ((![v3062, v3947] : Fin 2 → IVec S16 32) a x).toNat < S256x128.size a := fun v3062 v3947 k0_hw526 => k0_hw526

def k0_chk527 (v3956 : IVec S16 32) : Prop :=
  (∀ a x, ((![v3956] : Fin 1 → IVec S16 32) a x).toNat < S48.size a)
theorem k0_idx527_inb : ∀ (v3956 : IVec S16 32) (k0_hw527 : k0_chk527 v3956), ∀ a x, ((![v3956] : Fin 1 → IVec S16 32) a x).toNat < S48.size a := fun v3956 k0_hw527 => k0_hw527

def k0_chk528 (v3062 : IVec S16 32) (v3959 : IVec S16 32) : Prop :=
  (∀ a x, ((![v3062, v3959] : Fin 2 → IVec S16 32) a x).toNat < S256x128.size a)
theorem k0_idx528_inb : ∀ (v3062 : IVec S16 32) (v3959 : IVec S16 32) (k0_hw528 : k0_chk528 v3062 v3959), ∀ a x, ((![v3062, v3959] : Fin 2 → IVec S16 32) a x).toNat < S256x128.size a := fun v3062 v3959 k0_hw528 => k0_hw528

def k0_chk529 (v3968 : IVec S16 32) : Prop :=
  (∀ a x, ((![v3968] : Fin 1 → IVec S16 32) a x).toNat < S48.size a)
theorem k0_idx529_inb : ∀ (v3968 : IVec S16 32) (k0_hw529 : k0_chk529 v3968), ∀ a x, ((![v3968] : Fin 1 → IVec S16 32) a x).toNat < S48.size a := fun v3968 k0_hw529 => k0_hw529

def k0_chk530 (v3062 : IVec S16 32) (v3971 : IVec S16 32) : Prop :=
  (∀ a x, ((![v3062, v3971] : Fin 2 → IVec S16 32) a x).toNat < S256x128.size a)
theorem k0_idx530_inb : ∀ (v3062 : IVec S16 32) (v3971 : IVec S16 32) (k0_hw530 : k0_chk530 v3062 v3971), ∀ a x, ((![v3062, v3971] : Fin 2 → IVec S16 32) a x).toNat < S256x128.size a := fun v3062 v3971 k0_hw530 => k0_hw530

def k0_chk531 (v3980 : IVec S16 32) : Prop :=
  (∀ a x, ((![v3980] : Fin 1 → IVec S16 32) a x).toNat < S48.size a)
theorem k0_idx531_inb : ∀ (v3980 : IVec S16 32) (k0_hw531 : k0_chk531 v3980), ∀ a x, ((![v3980] : Fin 1 → IVec S16 32) a x).toNat < S48.size a := fun v3980 k0_hw531 => k0_hw531

def k0_chk532 (v3062 : IVec S16 32) (v3983 : IVec S16 32) : Prop :=
  (∀ a x, ((![v3062, v3983] : Fin 2 → IVec S16 32) a x).toNat < S256x128.size a)
theorem k0_idx532_inb : ∀ (v3062 : IVec S16 32) (v3983 : IVec S16 32) (k0_hw532 : k0_chk532 v3062 v3983), ∀ a x, ((![v3062, v3983] : Fin 2 → IVec S16 32) a x).toNat < S256x128.size a := fun v3062 v3983 k0_hw532 => k0_hw532

def k0_chk533 (v3992 : IVec S16 32) : Prop :=
  (∀ a x, ((![v3992] : Fin 1 → IVec S16 32) a x).toNat < S48.size a)
theorem k0_idx533_inb : ∀ (v3992 : IVec S16 32) (k0_hw533 : k0_chk533 v3992), ∀ a x, ((![v3992] : Fin 1 → IVec S16 32) a x).toNat < S48.size a := fun v3992 k0_hw533 => k0_hw533

def k0_chk534 (v3062 : IVec S16 32) (v3995 : IVec S16 32) : Prop :=
  (∀ a x, ((![v3062, v3995] : Fin 2 → IVec S16 32) a x).toNat < S256x128.size a)
theorem k0_idx534_inb : ∀ (v3062 : IVec S16 32) (v3995 : IVec S16 32) (k0_hw534 : k0_chk534 v3062 v3995), ∀ a x, ((![v3062, v3995] : Fin 2 → IVec S16 32) a x).toNat < S256x128.size a := fun v3062 v3995 k0_hw534 => k0_hw534

def k0_chk535 (v4004 : IVec S16 32) : Prop :=
  (∀ a x, ((![v4004] : Fin 1 → IVec S16 32) a x).toNat < S48.size a)
theorem k0_idx535_inb : ∀ (v4004 : IVec S16 32) (k0_hw535 : k0_chk535 v4004), ∀ a x, ((![v4004] : Fin 1 → IVec S16 32) a x).toNat < S48.size a := fun v4004 k0_hw535 => k0_hw535

def k0_chk536 (v3062 : IVec S16 32) (v4007 : IVec S16 32) : Prop :=
  (∀ a x, ((![v3062, v4007] : Fin 2 → IVec S16 32) a x).toNat < S256x128.size a)
theorem k0_idx536_inb : ∀ (v3062 : IVec S16 32) (v4007 : IVec S16 32) (k0_hw536 : k0_chk536 v3062 v4007), ∀ a x, ((![v3062, v4007] : Fin 2 → IVec S16 32) a x).toNat < S256x128.size a := fun v3062 v4007 k0_hw536 => k0_hw536

def k0_chk537 (v4016 : IVec S16 32) : Prop :=
  (∀ a x, ((![v4016] : Fin 1 → IVec S16 32) a x).toNat < S48.size a)
theorem k0_idx537_inb : ∀ (v4016 : IVec S16 32) (k0_hw537 : k0_chk537 v4016), ∀ a x, ((![v4016] : Fin 1 → IVec S16 32) a x).toNat < S48.size a := fun v4016 k0_hw537 => k0_hw537

def k0_chk538 (v3062 : IVec S16 32) (v4019 : IVec S16 32) : Prop :=
  (∀ a x, ((![v3062, v4019] : Fin 2 → IVec S16 32) a x).toNat < S256x128.size a)
theorem k0_idx538_inb : ∀ (v3062 : IVec S16 32) (v4019 : IVec S16 32) (k0_hw538 : k0_chk538 v3062 v4019), ∀ a x, ((![v3062, v4019] : Fin 2 → IVec S16 32) a x).toNat < S256x128.size a := fun v3062 v4019 k0_hw538 => k0_hw538

def k0_chk539 (v4028 : IVec S16 32) : Prop :=
  (∀ a x, ((![v4028] : Fin 1 → IVec S16 32) a x).toNat < S48.size a)
theorem k0_idx539_inb : ∀ (v4028 : IVec S16 32) (k0_hw539 : k0_chk539 v4028), ∀ a x, ((![v4028] : Fin 1 → IVec S16 32) a x).toNat < S48.size a := fun v4028 k0_hw539 => k0_hw539

def k0_chk540 (v3062 : IVec S16 32) (v4031 : IVec S16 32) : Prop :=
  (∀ a x, ((![v3062, v4031] : Fin 2 → IVec S16 32) a x).toNat < S256x128.size a)
theorem k0_idx540_inb : ∀ (v3062 : IVec S16 32) (v4031 : IVec S16 32) (k0_hw540 : k0_chk540 v3062 v4031), ∀ a x, ((![v3062, v4031] : Fin 2 → IVec S16 32) a x).toNat < S256x128.size a := fun v3062 v4031 k0_hw540 => k0_hw540

def k0_chk541 (v4040 : IVec S16 32) : Prop :=
  (∀ a x, ((![v4040] : Fin 1 → IVec S16 32) a x).toNat < S48.size a)
theorem k0_idx541_inb : ∀ (v4040 : IVec S16 32) (k0_hw541 : k0_chk541 v4040), ∀ a x, ((![v4040] : Fin 1 → IVec S16 32) a x).toNat < S48.size a := fun v4040 k0_hw541 => k0_hw541

def k0_chk542 (v3062 : IVec S16 32) (v4043 : IVec S16 32) : Prop :=
  (∀ a x, ((![v3062, v4043] : Fin 2 → IVec S16 32) a x).toNat < S256x128.size a)
theorem k0_idx542_inb : ∀ (v3062 : IVec S16 32) (v4043 : IVec S16 32) (k0_hw542 : k0_chk542 v3062 v4043), ∀ a x, ((![v3062, v4043] : Fin 2 → IVec S16 32) a x).toNat < S256x128.size a := fun v3062 v4043 k0_hw542 => k0_hw542

def k0_chk543 (v4052 : IVec S16 32) : Prop :=
  (∀ a x, ((![v4052] : Fin 1 → IVec S16 32) a x).toNat < S48.size a)
theorem k0_idx543_inb : ∀ (v4052 : IVec S16 32) (k0_hw543 : k0_chk543 v4052), ∀ a x, ((![v4052] : Fin 1 → IVec S16 32) a x).toNat < S48.size a := fun v4052 k0_hw543 => k0_hw543

def k0_chk544 (v3062 : IVec S16 32) (v4055 : IVec S16 32) : Prop :=
  (∀ a x, ((![v3062, v4055] : Fin 2 → IVec S16 32) a x).toNat < S256x128.size a)
theorem k0_idx544_inb : ∀ (v3062 : IVec S16 32) (v4055 : IVec S16 32) (k0_hw544 : k0_chk544 v3062 v4055), ∀ a x, ((![v3062, v4055] : Fin 2 → IVec S16 32) a x).toNat < S256x128.size a := fun v3062 v4055 k0_hw544 => k0_hw544
def k0_off5 (k0_t1 : Fin k0_t1_loop.trips) : Fin 1 → Nat :=
  let c4_i32_1057 : BitVec 32 := 4#32
  let c0_i32_0 : BitVec 32 := 0#32
  let c1_i32 : BitVec 32 := 1#32
  let arg8 : BitVec 32 := Scf.iv c0_i32_0 c1_i32 k0_t1
  let v3058 : BitVec 32 := Scalar.muli c4_i32_1057 arg8
  let c3_i32_1058 : BitVec 32 := 3#32
  let v3059 : BitVec 32 := Scalar.addi v3058 c3_i32_1058
  let c16_i32_1416 : BitVec 32 := 16#32
  let v4059 : BitVec 32 := Scalar.muli v3059 c16_i32_1416
  let v4060 : Index := Scalar.indexCast v4059
  ![v4060.toNat]
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S32x1 : Shape := ⟨2, ![32, 1]⟩
abbrev S1 : Shape := ⟨1, ![1]⟩
abbrev S8 : Shape := ⟨1, ![8]⟩
abbrev S20 : Shape := ⟨1, ![20]⟩
abbrev S_ : Shape := ⟨0, ![]⟩
abbrev S8x1 : Shape := ⟨2, ![8, 1]⟩
abbrev S1x1 : Shape := ⟨2, ![1, 1]⟩
abbrev S8192x8 : Shape := ⟨2, ![8192, 8]⟩
abbrev S8192 : Shape := ⟨1, ![8192]⟩
abbrev S8192x1 : Shape := ⟨2, ![8192, 1]⟩
abbrev S20x1 : Shape := ⟨2, ![20, 1]⟩
abbrev S8192x20 : Shape := ⟨2, ![8192, 20]⟩
abbrev S8192x32 : Shape := ⟨2, ![8192, 32]⟩

abbrev nBuf : Space → Nat
  | .hbm => 356
  | .vmem => 0
  | .smem => 0
  | _ => 0

abbrev hbmTy0_0 (i : Nat) : BufTy := match i % 128 with
  | 0 => ⟨S8192x4096, .f32⟩
  | 1 => ⟨S32x1, .f32⟩
  | 2 => ⟨S1, .f32⟩
  | 3 => ⟨S8, .i32⟩
  | 4 => ⟨S8, .i32⟩
  | 5 => ⟨S8, .i32⟩
  | 6 => ⟨S8, .i32⟩
  | 7 => ⟨S8, .i32⟩
  | 8 => ⟨S8, .i32⟩
  | 9 => ⟨S8, .i32⟩
  | 10 => ⟨S8, .i32⟩
  | 11 => ⟨S8, .i32⟩
  | 12 => ⟨S8, .i32⟩
  | 13 => ⟨S8, .i32⟩
  | 14 => ⟨S8, .i32⟩
  | 15 => ⟨S20, .i32⟩
  | 16 => ⟨S_, .i32⟩
  | 17 => ⟨S8, .i32⟩
  | 18 => ⟨S8, .i1⟩
  | 19 => ⟨S_, .i32⟩
  | 20 => ⟨S8, .i32⟩
  | 21 => ⟨S8, .i32⟩
  | 22 => ⟨S8, .i32⟩
  | 23 => ⟨S8x1, .i32⟩
  | 24 => ⟨S1, .i32⟩
  | 25 => ⟨S_, .i32⟩
  | 26 => ⟨S8x1, .i32⟩
  | 27 => ⟨S8x1, .i1⟩
  | 28 => ⟨S1x1, .i32⟩
  | 29 => ⟨S8x1, .i32⟩
  | 30 => ⟨S8x1, .i1⟩
  | 31 => ⟨S8x1, .i1⟩
  | 32 => ⟨S_, .i1⟩
  | 33 => ⟨S8, .i1⟩
  | 34 => ⟨S8192x8, .f32⟩
  | 35 => ⟨S8192x8, .i1⟩
  | 36 => ⟨S_, .f32⟩
  | 37 => ⟨S8192x8, .f32⟩
  | 38 => ⟨S8192x8, .f32⟩
  | 39 => ⟨S_, .f32⟩
  | 40 => ⟨S8192, .f32⟩
  | 41 => ⟨S8192x1, .f32⟩
  | 42 => ⟨S_, .i32⟩
  | 43 => ⟨S8, .i32⟩
  | 44 => ⟨S8, .i1⟩
  | 45 => ⟨S_, .i32⟩
  | 46 => ⟨S8, .i32⟩
  | 47 => ⟨S8, .i32⟩
  | 48 => ⟨S8, .i32⟩
  | 49 => ⟨S8x1, .i32⟩
  | 50 => ⟨S1, .i32⟩
  | 51 => ⟨S_, .i32⟩
  | 52 => ⟨S8x1, .i32⟩
  | 53 => ⟨S8x1, .i1⟩
  | 54 => ⟨S1x1, .i32⟩
  | 55 => ⟨S8x1, .i32⟩
  | 56 => ⟨S8x1, .i1⟩
  | 57 => ⟨S8x1, .i1⟩
  | 58 => ⟨S_, .i1⟩
  | 59 => ⟨S8, .i1⟩
  | 60 => ⟨S8192x8, .f32⟩
  | 61 => ⟨S8192x8, .i1⟩
  | 62 => ⟨S_, .f32⟩
  | 63 => ⟨S8192x8, .f32⟩
  | 64 => ⟨S8192x8, .f32⟩
  | 65 => ⟨S_, .f32⟩
  | 66 => ⟨S8192, .f32⟩
  | 67 => ⟨S8192x1, .f32⟩
  | 68 => ⟨S_, .i32⟩
  | 69 => ⟨S8, .i32⟩
  | 70 => ⟨S8, .i1⟩
  | 71 => ⟨S_, .i32⟩
  | 72 => ⟨S8, .i32⟩
  | 73 => ⟨S8, .i32⟩
  | 74 => ⟨S8, .i32⟩
  | 75 => ⟨S8x1, .i32⟩
  | 76 => ⟨S1, .i32⟩
  | 77 => ⟨S_, .i32⟩
  | 78 => ⟨S8x1, .i32⟩
  | 79 => ⟨S8x1, .i1⟩
  | 80 => ⟨S1x1, .i32⟩
  | 81 => ⟨S8x1, .i32⟩
  | 82 => ⟨S8x1, .i1⟩
  | 83 => ⟨S8x1, .i1⟩
  | 84 => ⟨S_, .i1⟩
  | 85 => ⟨S8, .i1⟩
  | 86 => ⟨S8192x8, .f32⟩
  | 87 => ⟨S8192x8, .i1⟩
  | 88 => ⟨S_, .f32⟩
  | 89 => ⟨S8192x8, .f32⟩
  | 90 => ⟨S8192x8, .f32⟩
  | 91 => ⟨S_, .f32⟩
  | 92 => ⟨S8192, .f32⟩
  | 93 => ⟨S8192x1, .f32⟩
  | 94 => ⟨S_, .i32⟩
  | 95 => ⟨S8, .i32⟩
  | 96 => ⟨S8, .i1⟩
  | 97 => ⟨S_, .i32⟩
  | 98 => ⟨S8, .i32⟩
  | 99 => ⟨S8, .i32⟩
  | 100 => ⟨S8, .i32⟩
  | 101 => ⟨S8x1, .i32⟩
  | 102 => ⟨S1, .i32⟩
  | 103 => ⟨S_, .i32⟩
  | 104 => ⟨S8x1, .i32⟩
  | 105 => ⟨S8x1, .i1⟩
  | 106 => ⟨S1x1, .i32⟩
  | 107 => ⟨S8x1, .i32⟩
  | 108 => ⟨S8x1, .i1⟩
  | 109 => ⟨S8x1, .i1⟩
  | 110 => ⟨S_, .i1⟩
  | 111 => ⟨S8, .i1⟩
  | 112 => ⟨S8192x8, .f32⟩
  | 113 => ⟨S8192x8, .i1⟩
  | 114 => ⟨S_, .f32⟩
  | 115 => ⟨S8192x8, .f32⟩
  | 116 => ⟨S8192x8, .f32⟩
  | 117 => ⟨S_, .f32⟩
  | 118 => ⟨S8192, .f32⟩
  | 119 => ⟨S8192x1, .f32⟩
  | 120 => ⟨S_, .i32⟩
  | 121 => ⟨S8, .i32⟩
  | 122 => ⟨S8, .i1⟩
  | 123 => ⟨S_, .i32⟩
  | 124 => ⟨S8, .i32⟩
  | 125 => ⟨S8, .i32⟩
  | 126 => ⟨S8, .i32⟩
  | 127 => ⟨S8x1, .i32⟩
  | _ => ⟨S8192x4096, .f32⟩

abbrev hbmTy0_1 (i : Nat) : BufTy := match i % 128 with
  | 0 => ⟨S1, .i32⟩
  | 1 => ⟨S_, .i32⟩
  | 2 => ⟨S8x1, .i32⟩
  | 3 => ⟨S8x1, .i1⟩
  | 4 => ⟨S1x1, .i32⟩
  | 5 => ⟨S8x1, .i32⟩
  | 6 => ⟨S8x1, .i1⟩
  | 7 => ⟨S8x1, .i1⟩
  | 8 => ⟨S_, .i1⟩
  | 9 => ⟨S8, .i1⟩
  | 10 => ⟨S8192x8, .f32⟩
  | 11 => ⟨S8192x8, .i1⟩
  | 12 => ⟨S_, .f32⟩
  | 13 => ⟨S8192x8, .f32⟩
  | 14 => ⟨S8192x8, .f32⟩
  | 15 => ⟨S_, .f32⟩
  | 16 => ⟨S8192, .f32⟩
  | 17 => ⟨S8192x1, .f32⟩
  | 18 => ⟨S_, .i32⟩
  | 19 => ⟨S8, .i32⟩
  | 20 => ⟨S8, .i1⟩
  | 21 => ⟨S_, .i32⟩
  | 22 => ⟨S8, .i32⟩
  | 23 => ⟨S8, .i32⟩
  | 24 => ⟨S8, .i32⟩
  | 25 => ⟨S8x1, .i32⟩
  | 26 => ⟨S1, .i32⟩
  | 27 => ⟨S_, .i32⟩
  | 28 => ⟨S8x1, .i32⟩
  | 29 => ⟨S8x1, .i1⟩
  | 30 => ⟨S1x1, .i32⟩
  | 31 => ⟨S8x1, .i32⟩
  | 32 => ⟨S8x1, .i1⟩
  | 33 => ⟨S8x1, .i1⟩
  | 34 => ⟨S_, .i1⟩
  | 35 => ⟨S8, .i1⟩
  | 36 => ⟨S8192x8, .f32⟩
  | 37 => ⟨S8192x8, .i1⟩
  | 38 => ⟨S_, .f32⟩
  | 39 => ⟨S8192x8, .f32⟩
  | 40 => ⟨S8192x8, .f32⟩
  | 41 => ⟨S_, .f32⟩
  | 42 => ⟨S8192, .f32⟩
  | 43 => ⟨S8192x1, .f32⟩
  | 44 => ⟨S_, .i32⟩
  | 45 => ⟨S8, .i32⟩
  | 46 => ⟨S8, .i1⟩
  | 47 => ⟨S_, .i32⟩
  | 48 => ⟨S8, .i32⟩
  | 49 => ⟨S8, .i32⟩
  | 50 => ⟨S8, .i32⟩
  | 51 => ⟨S8x1, .i32⟩
  | 52 => ⟨S1, .i32⟩
  | 53 => ⟨S_, .i32⟩
  | 54 => ⟨S8x1, .i32⟩
  | 55 => ⟨S8x1, .i1⟩
  | 56 => ⟨S1x1, .i32⟩
  | 57 => ⟨S8x1, .i32⟩
  | 58 => ⟨S8x1, .i1⟩
  | 59 => ⟨S8x1, .i1⟩
  | 60 => ⟨S_, .i1⟩
  | 61 => ⟨S8, .i1⟩
  | 62 => ⟨S8192x8, .f32⟩
  | 63 => ⟨S8192x8, .i1⟩
  | 64 => ⟨S_, .f32⟩
  | 65 => ⟨S8192x8, .f32⟩
  | 66 => ⟨S8192x8, .f32⟩
  | 67 => ⟨S_, .f32⟩
  | 68 => ⟨S8192, .f32⟩
  | 69 => ⟨S8192x1, .f32⟩
  | 70 => ⟨S_, .i32⟩
  | 71 => ⟨S8, .i32⟩
  | 72 => ⟨S8, .i1⟩
  | 73 => ⟨S_, .i32⟩
  | 74 => ⟨S8, .i32⟩
  | 75 => ⟨S8, .i32⟩
  | 76 => ⟨S8, .i32⟩
  | 77 => ⟨S8x1, .i32⟩
  | 78 => ⟨S1, .i32⟩
  | 79 => ⟨S_, .i32⟩
  | 80 => ⟨S8x1, .i32⟩
  | 81 => ⟨S8x1, .i1⟩
  | 82 => ⟨S1x1, .i32⟩
  | 83 => ⟨S8x1, .i32⟩
  | 84 => ⟨S8x1, .i1⟩
  | 85 => ⟨S8x1, .i1⟩
  | 86 => ⟨S_, .i1⟩
  | 87 => ⟨S8, .i1⟩
  | 88 => ⟨S8192x8, .f32⟩
  | 89 => ⟨S8192x8, .i1⟩
  | 90 => ⟨S_, .f32⟩
  | 91 => ⟨S8192x8, .f32⟩
  | 92 => ⟨S8192x8, .f32⟩
  | 93 => ⟨S_, .f32⟩
  | 94 => ⟨S8192, .f32⟩
  | 95 => ⟨S8192x1, .f32⟩
  | 96 => ⟨S_, .i32⟩
  | 97 => ⟨S8, .i32⟩
  | 98 => ⟨S8, .i1⟩
  | 99 => ⟨S_, .i32⟩
  | 100 => ⟨S8, .i32⟩
  | 101 => ⟨S8, .i32⟩
  | 102 => ⟨S8, .i32⟩
  | 103 => ⟨S8x1, .i32⟩
  | 104 => ⟨S1, .i32⟩
  | 105 => ⟨S_, .i32⟩
  | 106 => ⟨S8x1, .i32⟩
  | 107 => ⟨S8x1, .i1⟩
  | 108 => ⟨S1x1, .i32⟩
  | 109 => ⟨S8x1, .i32⟩
  | 110 => ⟨S8x1, .i1⟩
  | 111 => ⟨S8x1, .i1⟩
  | 112 => ⟨S_, .i1⟩
  | 113 => ⟨S8, .i1⟩
  | 114 => ⟨S8192x8, .f32⟩
  | 115 => ⟨S8192x8, .i1⟩
  | 116 => ⟨S_, .f32⟩
  | 117 => ⟨S8192x8, .f32⟩
  | 118 => ⟨S8192x8, .f32⟩
  | 119 => ⟨S_, .f32⟩
  | 120 => ⟨S8192, .f32⟩
  | 121 => ⟨S8192x1, .f32⟩
  | 122 => ⟨S_, .i32⟩
  | 123 => ⟨S8, .i32⟩
  | 124 => ⟨S8, .i1⟩
  | 125 => ⟨S_, .i32⟩
  | 126 => ⟨S8, .i32⟩
  | 127 => ⟨S8, .i32⟩
  | _ => ⟨S8192x4096, .f32⟩

abbrev hbmTy0_2 (i : Nat) : BufTy := match i % 128 with
  | 0 => ⟨S8, .i32⟩
  | 1 => ⟨S8x1, .i32⟩
  | 2 => ⟨S1, .i32⟩
  | 3 => ⟨S_, .i32⟩
  | 4 => ⟨S8x1, .i32⟩
  | 5 => ⟨S8x1, .i1⟩
  | 6 => ⟨S1x1, .i32⟩
  | 7 => ⟨S8x1, .i32⟩
  | 8 => ⟨S8x1, .i1⟩
  | 9 => ⟨S8x1, .i1⟩
  | 10 => ⟨S_, .i1⟩
  | 11 => ⟨S8, .i1⟩
  | 12 => ⟨S8192x8, .f32⟩
  | 13 => ⟨S8192x8, .i1⟩
  | 14 => ⟨S_, .f32⟩
  | 15 => ⟨S8192x8, .f32⟩
  | 16 => ⟨S8192x8, .f32⟩
  | 17 => ⟨S_, .f32⟩
  | 18 => ⟨S8192, .f32⟩
  | 19 => ⟨S8192x1, .f32⟩
  | 20 => ⟨S_, .i32⟩
  | 21 => ⟨S8, .i32⟩
  | 22 => ⟨S8, .i1⟩
  | 23 => ⟨S_, .i32⟩
  | 24 => ⟨S8, .i32⟩
  | 25 => ⟨S8, .i32⟩
  | 26 => ⟨S8, .i32⟩
  | 27 => ⟨S8x1, .i32⟩
  | 28 => ⟨S1, .i32⟩
  | 29 => ⟨S_, .i32⟩
  | 30 => ⟨S8x1, .i32⟩
  | 31 => ⟨S8x1, .i1⟩
  | 32 => ⟨S1x1, .i32⟩
  | 33 => ⟨S8x1, .i32⟩
  | 34 => ⟨S8x1, .i1⟩
  | 35 => ⟨S8x1, .i1⟩
  | 36 => ⟨S_, .i1⟩
  | 37 => ⟨S8, .i1⟩
  | 38 => ⟨S8192x8, .f32⟩
  | 39 => ⟨S8192x8, .i1⟩
  | 40 => ⟨S_, .f32⟩
  | 41 => ⟨S8192x8, .f32⟩
  | 42 => ⟨S8192x8, .f32⟩
  | 43 => ⟨S_, .f32⟩
  | 44 => ⟨S8192, .f32⟩
  | 45 => ⟨S8192x1, .f32⟩
  | 46 => ⟨S_, .i32⟩
  | 47 => ⟨S8, .i32⟩
  | 48 => ⟨S8, .i1⟩
  | 49 => ⟨S_, .i32⟩
  | 50 => ⟨S8, .i32⟩
  | 51 => ⟨S8, .i32⟩
  | 52 => ⟨S8, .i32⟩
  | 53 => ⟨S8x1, .i32⟩
  | 54 => ⟨S1, .i32⟩
  | 55 => ⟨S_, .i32⟩
  | 56 => ⟨S8x1, .i32⟩
  | 57 => ⟨S8x1, .i1⟩
  | 58 => ⟨S1x1, .i32⟩
  | 59 => ⟨S8x1, .i32⟩
  | 60 => ⟨S8x1, .i1⟩
  | 61 => ⟨S8x1, .i1⟩
  | 62 => ⟨S_, .i1⟩
  | 63 => ⟨S8, .i1⟩
  | 64 => ⟨S8192x8, .f32⟩
  | 65 => ⟨S8192x8, .i1⟩
  | 66 => ⟨S_, .f32⟩
  | 67 => ⟨S8192x8, .f32⟩
  | 68 => ⟨S8192x8, .f32⟩
  | 69 => ⟨S_, .f32⟩
  | 70 => ⟨S8192, .f32⟩
  | 71 => ⟨S8192x1, .f32⟩
  | 72 => ⟨S_, .i32⟩
  | 73 => ⟨S20, .i32⟩
  | 74 => ⟨S20, .i1⟩
  | 75 => ⟨S_, .i32⟩
  | 76 => ⟨S20, .i32⟩
  | 77 => ⟨S20, .i32⟩
  | 78 => ⟨S20, .i32⟩
  | 79 => ⟨S20x1, .i32⟩
  | 80 => ⟨S1, .i32⟩
  | 81 => ⟨S_, .i32⟩
  | 82 => ⟨S20x1, .i32⟩
  | 83 => ⟨S20x1, .i1⟩
  | 84 => ⟨S1x1, .i32⟩
  | 85 => ⟨S20x1, .i32⟩
  | 86 => ⟨S20x1, .i1⟩
  | 87 => ⟨S20x1, .i1⟩
  | 88 => ⟨S_, .i1⟩
  | 89 => ⟨S20, .i1⟩
  | 90 => ⟨S8192x20, .f32⟩
  | 91 => ⟨S8192x20, .i1⟩
  | 92 => ⟨S_, .f32⟩
  | 93 => ⟨S8192x20, .f32⟩
  | 94 => ⟨S8192x20, .f32⟩
  | 95 => ⟨S8192x32, .f32⟩
  | 96 => ⟨S8192x1, .f32⟩
  | 97 => ⟨S1x1, .f32⟩
  | 98 => ⟨S8192x1, .f32⟩
  | 99 => ⟨S8192x1, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_c_11 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_cst : Ref sig .tc := ⟨.hbm, 39, rfl⟩
abbrev main_v1 : Ref sig .tc := ⟨.hbm, 40, rfl⟩
abbrev main_v2 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v3 : Ref sig .tc := ⟨.hbm, 64, rfl⟩
abbrev main_cst_12 : Ref sig .tc := ⟨.hbm, 65, rfl⟩
abbrev main_v4 : Ref sig .tc := ⟨.hbm, 66, rfl⟩
abbrev main_v5 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v6 : Ref sig .tc := ⟨.hbm, 90, rfl⟩
abbrev main_cst_13 : Ref sig .tc := ⟨.hbm, 91, rfl⟩
abbrev main_v7 : Ref sig .tc := ⟨.hbm, 92, rfl⟩
abbrev main_v8 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v9 : Ref sig .tc := ⟨.hbm, 116, rfl⟩
abbrev main_cst_14 : Ref sig .tc := ⟨.hbm, 117, rfl⟩
abbrev main_v10 : Ref sig .tc := ⟨.hbm, 118, rfl⟩
abbrev main_v11 : Ref sig .tc := ⟨.hbm, 119, rfl⟩
abbrev main_call4_c : Ref sig .tc := ⟨.hbm, 120, rfl⟩
abbrev main_call4_v0 : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_c_1 : Ref sig .tc := ⟨.hbm, 128, rfl⟩
abbrev main_call4_c_2 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_c_3 : Ref sig .tc := ⟨.hbm, 136, rfl⟩
abbrev main_call4_v12 : Ref sig .tc := ⟨.hbm, 137, rfl⟩
abbrev main_call4_v13 : Ref sig .tc := ⟨.hbm, 138, rfl⟩
abbrev main_call4_v14 : Ref sig .tc := ⟨.hbm, 139, rfl⟩
abbrev main_call4_cst : Ref sig .tc := ⟨.hbm, 140, rfl⟩
abbrev main_call4_v15 : Ref sig .tc := ⟨.hbm, 141, rfl⟩
abbrev main_v12 : Ref sig .tc := ⟨.hbm, 142, rfl⟩
abbrev main_cst_15 : Ref sig .tc := ⟨.hbm, 143, rfl⟩
abbrev main_v13 : Ref sig .tc := ⟨.hbm, 144, rfl⟩
abbrev main_v14 : Ref sig .tc := ⟨.hbm, 145, rfl⟩
abbrev main_call5_c : Ref sig .tc := ⟨.hbm, 146, rfl⟩
abbrev main_call5_v0 : Ref sig .tc := ⟨.hbm, 147, rfl⟩
abbrev main_call5_v1 : Ref sig .tc := ⟨.hbm, 148, rfl⟩
abbrev main_call5_c_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_c_1 : Ref sig .tc := ⟨.hbm, 154, rfl⟩
abbrev main_call5_c_2 : Ref sig .tc := ⟨.hbm, 155, rfl⟩
abbrev main_call5_v6 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_3 : Ref sig .tc := ⟨.hbm, 162, rfl⟩
abbrev main_call5_v12 : Ref sig .tc := ⟨.hbm, 163, rfl⟩
abbrev main_call5_v13 : Ref sig .tc := ⟨.hbm, 164, rfl⟩
abbrev main_call5_v14 : Ref sig .tc := ⟨.hbm, 165, rfl⟩
abbrev main_call5_cst : Ref sig .tc := ⟨.hbm, 166, rfl⟩
abbrev main_call5_v15 : Ref sig .tc := ⟨.hbm, 167, rfl⟩
abbrev main_v15 : Ref sig .tc := ⟨.hbm, 168, rfl⟩
abbrev main_cst_16 : Ref sig .tc := ⟨.hbm, 169, rfl⟩
abbrev main_v16 : Ref sig .tc := ⟨.hbm, 170, rfl⟩
abbrev main_v17 : Ref sig .tc := ⟨.hbm, 171, rfl⟩
abbrev main_call6_c : Ref sig .tc := ⟨.hbm, 172, rfl⟩
abbrev main_call6_v0 : Ref sig .tc := ⟨.hbm, 173, rfl⟩
abbrev main_call6_v1 : Ref sig .tc := ⟨.hbm, 174, rfl⟩
abbrev main_call6_c_0 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_call6_v5 : Ref sig .tc := ⟨.hbm, 179, rfl⟩
abbrev main_call6_c_1 : Ref sig .tc := ⟨.hbm, 180, rfl⟩
abbrev main_call6_c_2 : Ref sig .tc := ⟨.hbm, 181, rfl⟩
abbrev main_call6_v6 : Ref sig .tc := ⟨.hbm, 182, rfl⟩
abbrev main_call6_v7 : Ref sig .tc := ⟨.hbm, 183, rfl⟩
abbrev main_call6_v8 : Ref sig .tc := ⟨.hbm, 184, rfl⟩
abbrev main_call6_v9 : Ref sig .tc := ⟨.hbm, 185, rfl⟩
abbrev main_call6_v10 : Ref sig .tc := ⟨.hbm, 186, rfl⟩
abbrev main_call6_v11 : Ref sig .tc := ⟨.hbm, 187, rfl⟩
abbrev main_call6_c_3 : Ref sig .tc := ⟨.hbm, 188, rfl⟩
abbrev main_call6_v12 : Ref sig .tc := ⟨.hbm, 189, rfl⟩
abbrev main_call6_v13 : Ref sig .tc := ⟨.hbm, 190, rfl⟩
abbrev main_call6_v14 : Ref sig .tc := ⟨.hbm, 191, rfl⟩
abbrev main_call6_cst : Ref sig .tc := ⟨.hbm, 192, rfl⟩
abbrev main_call6_v15 : Ref sig .tc := ⟨.hbm, 193, rfl⟩
abbrev main_v18 : Ref sig .tc := ⟨.hbm, 194, rfl⟩
abbrev main_cst_17 : Ref sig .tc := ⟨.hbm, 195, rfl⟩
abbrev main_v19 : Ref sig .tc := ⟨.hbm, 196, rfl⟩
abbrev main_v20 : Ref sig .tc := ⟨.hbm, 197, rfl⟩
abbrev main_call7_c : Ref sig .tc := ⟨.hbm, 198, rfl⟩
abbrev main_call7_v0 : Ref sig .tc := ⟨.hbm, 199, rfl⟩
abbrev main_call7_v1 : Ref sig .tc := ⟨.hbm, 200, rfl⟩
abbrev main_call7_c_0 : Ref sig .tc := ⟨.hbm, 201, rfl⟩
abbrev main_call7_v2 : Ref sig .tc := ⟨.hbm, 202, rfl⟩
abbrev main_call7_v3 : Ref sig .tc := ⟨.hbm, 203, rfl⟩
abbrev main_call7_v4 : Ref sig .tc := ⟨.hbm, 204, rfl⟩
abbrev main_call7_v5 : Ref sig .tc := ⟨.hbm, 205, rfl⟩
abbrev main_call7_c_1 : Ref sig .tc := ⟨.hbm, 206, rfl⟩
abbrev main_call7_c_2 : Ref sig .tc := ⟨.hbm, 207, rfl⟩
abbrev main_call7_v6 : Ref sig .tc := ⟨.hbm, 208, rfl⟩
abbrev main_call7_v7 : Ref sig .tc := ⟨.hbm, 209, rfl⟩
abbrev main_call7_v8 : Ref sig .tc := ⟨.hbm, 210, rfl⟩
abbrev main_call7_v9 : Ref sig .tc := ⟨.hbm, 211, rfl⟩
abbrev main_call7_v10 : Ref sig .tc := ⟨.hbm, 212, rfl⟩
abbrev main_call7_v11 : Ref sig .tc := ⟨.hbm, 213, rfl⟩
abbrev main_call7_c_3 : Ref sig .tc := ⟨.hbm, 214, rfl⟩
abbrev main_call7_v12 : Ref sig .tc := ⟨.hbm, 215, rfl⟩
abbrev main_call7_v13 : Ref sig .tc := ⟨.hbm, 216, rfl⟩
abbrev main_call7_v14 : Ref sig .tc := ⟨.hbm, 217, rfl⟩
abbrev main_call7_cst : Ref sig .tc := ⟨.hbm, 218, rfl⟩
abbrev main_call7_v15 : Ref sig .tc := ⟨.hbm, 219, rfl⟩
abbrev main_v21 : Ref sig .tc := ⟨.hbm, 220, rfl⟩
abbrev main_cst_18 : Ref sig .tc := ⟨.hbm, 221, rfl⟩
abbrev main_v22 : Ref sig .tc := ⟨.hbm, 222, rfl⟩
abbrev main_v23 : Ref sig .tc := ⟨.hbm, 223, rfl⟩
abbrev main_call8_c : Ref sig .tc := ⟨.hbm, 224, rfl⟩
abbrev main_call8_v0 : Ref sig .tc := ⟨.hbm, 225, rfl⟩
abbrev main_call8_v1 : Ref sig .tc := ⟨.hbm, 226, rfl⟩
abbrev main_call8_c_0 : Ref sig .tc := ⟨.hbm, 227, rfl⟩
abbrev main_call8_v2 : Ref sig .tc := ⟨.hbm, 228, rfl⟩
abbrev main_call8_v3 : Ref sig .tc := ⟨.hbm, 229, rfl⟩
abbrev main_call8_v4 : Ref sig .tc := ⟨.hbm, 230, rfl⟩
abbrev main_call8_v5 : Ref sig .tc := ⟨.hbm, 231, rfl⟩
abbrev main_call8_c_1 : Ref sig .tc := ⟨.hbm, 232, rfl⟩
abbrev main_call8_c_2 : Ref sig .tc := ⟨.hbm, 233, rfl⟩
abbrev main_call8_v6 : Ref sig .tc := ⟨.hbm, 234, rfl⟩
abbrev main_call8_v7 : Ref sig .tc := ⟨.hbm, 235, rfl⟩
abbrev main_call8_v8 : Ref sig .tc := ⟨.hbm, 236, rfl⟩
abbrev main_call8_v9 : Ref sig .tc := ⟨.hbm, 237, rfl⟩
abbrev main_call8_v10 : Ref sig .tc := ⟨.hbm, 238, rfl⟩
abbrev main_call8_v11 : Ref sig .tc := ⟨.hbm, 239, rfl⟩
abbrev main_call8_c_3 : Ref sig .tc := ⟨.hbm, 240, rfl⟩
abbrev main_call8_v12 : Ref sig .tc := ⟨.hbm, 241, rfl⟩
abbrev main_call8_v13 : Ref sig .tc := ⟨.hbm, 242, rfl⟩
abbrev main_call8_v14 : Ref sig .tc := ⟨.hbm, 243, rfl⟩
abbrev main_call8_cst : Ref sig .tc := ⟨.hbm, 244, rfl⟩
abbrev main_call8_v15 : Ref sig .tc := ⟨.hbm, 245, rfl⟩
abbrev main_v24 : Ref sig .tc := ⟨.hbm, 246, rfl⟩
abbrev main_cst_19 : Ref sig .tc := ⟨.hbm, 247, rfl⟩
abbrev main_v25 : Ref sig .tc := ⟨.hbm, 248, rfl⟩
abbrev main_v26 : Ref sig .tc := ⟨.hbm, 249, rfl⟩
abbrev main_call9_c : Ref sig .tc := ⟨.hbm, 250, rfl⟩
abbrev main_call9_v0 : Ref sig .tc := ⟨.hbm, 251, rfl⟩
abbrev main_call9_v1 : Ref sig .tc := ⟨.hbm, 252, rfl⟩
abbrev main_call9_c_0 : Ref sig .tc := ⟨.hbm, 253, rfl⟩
abbrev main_call9_v2 : Ref sig .tc := ⟨.hbm, 254, rfl⟩
abbrev main_call9_v3 : Ref sig .tc := ⟨.hbm, 255, rfl⟩
abbrev main_call9_v4 : Ref sig .tc := ⟨.hbm, 256, rfl⟩
abbrev main_call9_v5 : Ref sig .tc := ⟨.hbm, 257, rfl⟩
abbrev main_call9_c_1 : Ref sig .tc := ⟨.hbm, 258, rfl⟩
abbrev main_call9_c_2 : Ref sig .tc := ⟨.hbm, 259, rfl⟩
abbrev main_call9_v6 : Ref sig .tc := ⟨.hbm, 260, rfl⟩
abbrev main_call9_v7 : Ref sig .tc := ⟨.hbm, 261, rfl⟩
abbrev main_call9_v8 : Ref sig .tc := ⟨.hbm, 262, rfl⟩
abbrev main_call9_v9 : Ref sig .tc := ⟨.hbm, 263, rfl⟩
abbrev main_call9_v10 : Ref sig .tc := ⟨.hbm, 264, rfl⟩
abbrev main_call9_v11 : Ref sig .tc := ⟨.hbm, 265, rfl⟩
abbrev main_call9_c_3 : Ref sig .tc := ⟨.hbm, 266, rfl⟩
abbrev main_call9_v12 : Ref sig .tc := ⟨.hbm, 267, rfl⟩
abbrev main_call9_v13 : Ref sig .tc := ⟨.hbm, 268, rfl⟩
abbrev main_call9_v14 : Ref sig .tc := ⟨.hbm, 269, rfl⟩
abbrev main_call9_cst : Ref sig .tc := ⟨.hbm, 270, rfl⟩
abbrev main_call9_v15 : Ref sig .tc := ⟨.hbm, 271, rfl⟩
abbrev main_v27 : Ref sig .tc := ⟨.hbm, 272, rfl⟩
abbrev main_cst_20 : Ref sig .tc := ⟨.hbm, 273, rfl⟩
abbrev main_v28 : Ref sig .tc := ⟨.hbm, 274, rfl⟩
abbrev main_v29 : Ref sig .tc := ⟨.hbm, 275, rfl⟩
abbrev main_call10_c : Ref sig .tc := ⟨.hbm, 276, rfl⟩
abbrev main_call10_v0 : Ref sig .tc := ⟨.hbm, 277, rfl⟩
abbrev main_call10_v1 : Ref sig .tc := ⟨.hbm, 278, rfl⟩
abbrev main_call10_c_0 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_call10_v5 : Ref sig .tc := ⟨.hbm, 283, rfl⟩
abbrev main_call10_c_1 : Ref sig .tc := ⟨.hbm, 284, rfl⟩
abbrev main_call10_c_2 : Ref sig .tc := ⟨.hbm, 285, rfl⟩
abbrev main_call10_v6 : Ref sig .tc := ⟨.hbm, 286, rfl⟩
abbrev main_call10_v7 : Ref sig .tc := ⟨.hbm, 287, rfl⟩
abbrev main_call10_v8 : Ref sig .tc := ⟨.hbm, 288, rfl⟩
abbrev main_call10_v9 : Ref sig .tc := ⟨.hbm, 289, rfl⟩
abbrev main_call10_v10 : Ref sig .tc := ⟨.hbm, 290, rfl⟩
abbrev main_call10_v11 : Ref sig .tc := ⟨.hbm, 291, rfl⟩
abbrev main_call10_c_3 : Ref sig .tc := ⟨.hbm, 292, rfl⟩
abbrev main_call10_v12 : Ref sig .tc := ⟨.hbm, 293, rfl⟩
abbrev main_call10_v13 : Ref sig .tc := ⟨.hbm, 294, rfl⟩
abbrev main_call10_v14 : Ref sig .tc := ⟨.hbm, 295, rfl⟩
abbrev main_call10_cst : Ref sig .tc := ⟨.hbm, 296, rfl⟩
abbrev main_call10_v15 : Ref sig .tc := ⟨.hbm, 297, rfl⟩
abbrev main_v30 : Ref sig .tc := ⟨.hbm, 298, rfl⟩
abbrev main_cst_21 : Ref sig .tc := ⟨.hbm, 299, rfl⟩
abbrev main_v31 : Ref sig .tc := ⟨.hbm, 300, rfl⟩
abbrev main_v32 : Ref sig .tc := ⟨.hbm, 301, rfl⟩
abbrev main_call11_c : Ref sig .tc := ⟨.hbm, 302, rfl⟩
abbrev main_call11_v0 : Ref sig .tc := ⟨.hbm, 303, rfl⟩
abbrev main_call11_v1 : Ref sig .tc := ⟨.hbm, 304, rfl⟩
abbrev main_call11_c_0 : Ref sig .tc := ⟨.hbm, 305, rfl⟩
abbrev main_call11_v2 : Ref sig .tc := ⟨.hbm, 306, rfl⟩
abbrev main_call11_v3 : Ref sig .tc := ⟨.hbm, 307, rfl⟩
abbrev main_call11_v4 : Ref sig .tc := ⟨.hbm, 308, rfl⟩
abbrev main_call11_v5 : Ref sig .tc := ⟨.hbm, 309, rfl⟩
abbrev main_call11_c_1 : Ref sig .tc := ⟨.hbm, 310, rfl⟩
abbrev main_call11_c_2 : Ref sig .tc := ⟨.hbm, 311, rfl⟩
abbrev main_call11_v6 : Ref sig .tc := ⟨.hbm, 312, rfl⟩
abbrev main_call11_v7 : Ref sig .tc := ⟨.hbm, 313, rfl⟩
abbrev main_call11_v8 : Ref sig .tc := ⟨.hbm, 314, rfl⟩
abbrev main_call11_v9 : Ref sig .tc := ⟨.hbm, 315, rfl⟩
abbrev main_call11_v10 : Ref sig .tc := ⟨.hbm, 316, rfl⟩
abbrev main_call11_v11 : Ref sig .tc := ⟨.hbm, 317, rfl⟩
abbrev main_call11_c_3 : Ref sig .tc := ⟨.hbm, 318, rfl⟩
abbrev main_call11_v12 : Ref sig .tc := ⟨.hbm, 319, rfl⟩
abbrev main_call11_v13 : Ref sig .tc := ⟨.hbm, 320, rfl⟩
abbrev main_call11_v14 : Ref sig .tc := ⟨.hbm, 321, rfl⟩
abbrev main_call11_cst : Ref sig .tc := ⟨.hbm, 322, rfl⟩
abbrev main_call11_v15 : Ref sig .tc := ⟨.hbm, 323, rfl⟩
abbrev main_v33 : Ref sig .tc := ⟨.hbm, 324, rfl⟩
abbrev main_cst_22 : Ref sig .tc := ⟨.hbm, 325, rfl⟩
abbrev main_v34 : Ref sig .tc := ⟨.hbm, 326, rfl⟩
abbrev main_v35 : Ref sig .tc := ⟨.hbm, 327, rfl⟩
abbrev main_call12_c : Ref sig .tc := ⟨.hbm, 328, rfl⟩
abbrev main_call12_v0 : Ref sig .tc := ⟨.hbm, 329, rfl⟩
abbrev main_call12_v1 : Ref sig .tc := ⟨.hbm, 330, rfl⟩
abbrev main_call12_c_0 : Ref sig .tc := ⟨.hbm, 331, rfl⟩
abbrev main_call12_v2 : Ref sig .tc := ⟨.hbm, 332, rfl⟩
abbrev main_call12_v3 : Ref sig .tc := ⟨.hbm, 333, rfl⟩
abbrev main_call12_v4 : Ref sig .tc := ⟨.hbm, 334, rfl⟩
abbrev main_call12_v5 : Ref sig .tc := ⟨.hbm, 335, rfl⟩
abbrev main_call12_c_1 : Ref sig .tc := ⟨.hbm, 336, rfl⟩
abbrev main_call12_c_2 : Ref sig .tc := ⟨.hbm, 337, rfl⟩
abbrev main_call12_v6 : Ref sig .tc := ⟨.hbm, 338, rfl⟩
abbrev main_call12_v7 : Ref sig .tc := ⟨.hbm, 339, rfl⟩
abbrev main_call12_v8 : Ref sig .tc := ⟨.hbm, 340, rfl⟩
abbrev main_call12_v9 : Ref sig .tc := ⟨.hbm, 341, rfl⟩
abbrev main_call12_v10 : Ref sig .tc := ⟨.hbm, 342, rfl⟩
abbrev main_call12_v11 : Ref sig .tc := ⟨.hbm, 343, rfl⟩
abbrev main_call12_c_3 : Ref sig .tc := ⟨.hbm, 344, rfl⟩
abbrev main_call12_v12 : Ref sig .tc := ⟨.hbm, 345, rfl⟩
abbrev main_call12_v13 : Ref sig .tc := ⟨.hbm, 346, rfl⟩
abbrev main_call12_v14 : Ref sig .tc := ⟨.hbm, 347, rfl⟩
abbrev main_call12_cst : Ref sig .tc := ⟨.hbm, 348, rfl⟩
abbrev main_call12_v15 : Ref sig .tc := ⟨.hbm, 349, rfl⟩
abbrev main_v36 : Ref sig .tc := ⟨.hbm, 350, rfl⟩
abbrev main_v37 : Ref sig .tc := ⟨.hbm, 351, rfl⟩
abbrev main_v38 : Ref sig .tc := ⟨.hbm, 352, rfl⟩
abbrev main_v39 : Ref sig .tc := ⟨.hbm, 353, rfl⟩
abbrev main_v40 : Ref sig .tc := ⟨.hbm, 354, rfl⟩
abbrev main_v41 : Ref sig .tc := ⟨.hbm, 355, rfl⟩

abbrev nD : Nat := 1
abbrev τ : Topo := Topo.v7x

variable {F : FTy → Type} [FloatOps F]
-- ==== Proof.Setup.lean ====
/-
  The kernel's program as the launch theorem sees it, the algebra its proof runs over, and names for the
  buffers one subcore works on.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Grouped

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the launch's rounds and the copies' counters -/

abbrev UH : Type := URounds (GSem nD τ sig) ℕ
abbrev UU : Type := UH × Counters

/-- The separation-logic model every statement about the program is made in. -/
abbrev Mod (F : FTy → Type) : Type := MT nD τ sig (HIx 1) (Elt F) ℕ UU ℕ

abbrev EH : Emb UH (Mod F) := embL

/-! ## One subcore's thread and its memrefs -/

abbrev cV (L : grid0.Coords) : Fin τ.nSC := (L 0).castLE hcore0
abbrev jV (L : grid0.Coords) : Fin τ.nSub := (L 1).castLE hsub0
/-- The thread of the subcore at grid point `L` of device `d`. -/
abbrev thr (d : Dev nD) (L : grid0.Coords) : Thread nD τ := V d (cV L) (jV L)

/-- The whole input array, the whole array of weights, the whole output array, as a subcore names them. -/
abbrev xA : Memref sig .scVector .hbm S8192x4096 .f32 := Memref.whole main_arg0_scv
abbrev wA : Memref sig .scVector .hbm S48 .f32 := Memref.whole main_v2_scv
abbrev oA : Memref sig .scVector .hbm S8192 .f32 := Memref.whole main_v3_scv
/-- The subcore's own three buffers: its rows of the input, its copy of the weights, its results. -/
abbrev xB : Memref sig .scVector .vmem S256x128 .f32 := Memref.whole cc0_scratch0
abbrev wB : Memref sig .scVector .vmem S48 .f32 := Memref.whole cc0_scratch1
abbrev oB : Memref sig .scVector .vmem S256 .f32 := Memref.whole cc0_scratch2

end Cert.Proof.Grouped

end
-- ==== Proof.Step.lean ====
/-
  What it means that a stretch of one subcore's program, started with given contents in the subcore's three
  buffers, ends with a given value and given contents of the result buffer: a judgement with one rule for each
  kind of step the loop takes.
-/
module

public import proofs.«01_k».proof.Proof.Setup

@[expose] public section

noncomputable section

namespace Cert.Proof.Grouped

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The three buffers of a subcore, held with these contents. -/
def held (d : Dev nD) (L : grid0.Coords) (X : Vec F S256x128 .f32) (W : Vec F S48 .f32) (O : Vec F S256 .f32) : sProp (Mod F) :=
  iprop(((thr d L).loc cc0_scratch0 ↦{fullShare} X) ∗ ((thr d L).loc cc0_scratch1 ↦{fullShare} W) ∗ (thr d L).loc cc0_scratch2 ↦{fullShare} O)

/-- A stretch of the subcore's program. -/
abbrev TProg (F : FTy → Type) (L : grid0.Coords) (α : Type) : Type 1 := Prog (TpuEff nD τ sig (Elt F) Λ₀ (.scVector (cV L) (jV L))) α

/-- The stretch `p`, from rows `X`, weights `W` and results `O`, runs to the value `r`, leaving rows and weights as they
    are and the results at `O'`. -/
def Does (d : Dev nD) (L : grid0.Coords) (X : Vec F S256x128 .f32) (W : Vec F S48 .f32) {α : Type}
    (O : Vec F S256 .f32) (p : TProg F L α) (r : α) (O' : Vec F S256 .f32) : Prop :=
  ∀ Q : α → sProp (Mod F), iprop(held d L X W O ∗ (held d L X W O' -∗ Q r))
    ⊢ wp frame (wpE (defs₀ (F := F)) 𝒱₀ (thr d L) none) Set.univ p Q

variable {d : Dev nD} {L : grid0.Coords} {X : Vec F S256x128 .f32} {W : Vec F S48 .f32} {α β : Type}
variable {O O₁ O₂ : Vec F S256 .f32}

/-- Returning a value. -/
theorem Does.ret (a : α) : Does d L X W O (pure a : TProg F L α) a O := by
  intro Q
  rw [wp_pure]
  iintro ⟨H, Hk⟩
  iapply Hk $$ H

/-- The results' contents may be spelt otherwise. -/
theorem Does.to {p : TProg F L α} {r : α} (h : Does d L X W O p r O₁) (e : O₁ = O₂) : Does d L X W O p r O₂ := e ▸ h

/-- One stretch and then another. -/
theorem Does.bind {p : TProg F L α} {k : α → TProg F L β} {r : α} {s : β}
    (h₁ : Does d L X W O p r O₁) (h₂ : Does d L X W O₁ (k r) s O₂) : Does d L X W O (p >>= k) s O₂ := by
  intro Q
  rw [wp_bind]
  refine BIBase.Entails.trans ?_ (h₁ _)
  iintro ⟨H, Hk⟩
  isplitl [H]; · iexact H
  iintro H
  iapply (h₂ Q)
  isplitl [H]; · iexact H
  iexact Hk

/-- Assuming a side condition that holds. -/
theorem Does.check {P : Prop} {dP : Decidable P} (h : P) : Does d L X W O (Prog.lift (TpuEff.assume P dP) : TProg F L (PLift P)) ⟨h⟩ O := by
  intro Q
  refine BIBase.Entails.trans ?_ (wp_assume 𝒱₀ (thr d L) none Set.univ h)
  exact Does.ret (F := F) (⟨h⟩ : PLift P) Q

/-- Gathering from the rows. -/
theorem Does.gatherX {t : Shape} {idxs : Fin S256x128.rank → IVec t 32} {h : ∀ a x, (idxs a x).toNat < S256x128.size a} {hl : (xB).view.Loads} :
    Does d L X W O (SparseCore.vectorLoadIdx xB idxs h hl : TProg F L (Vec F t .f32)) (loadIdx X idxs h) O := by
  intro Q
  unfold held
  iintro ⟨⟨HX, HW, HO⟩, Hk⟩
  iapply (SparseCore.wp_vectorLoadIdx 𝒱₀ (thr d L) none Set.univ (base := xB) (S := Finset.univ) (q := fullShare) (hl := hl) (h := h) (k := fun v => .ret v)
    (Finset.subset_univ _)) $$ HX
  iintro HX
  rw [show ((xB).access (Rect.whole S256x128)).read (Elt F) X = X from Memref.read_access_whole (Elt F) cc0_scratch0 X]
  iapply (Does.ret (F := F) (d := d) (L := L) (X := X) (W := W) (O := O) (loadIdx X idxs h) Q)
  unfold held
  isplitl [HX HW HO]
  · isplitl [HX]; · iexact HX
    isplitl [HW]; · iexact HW
    iexact HO
  iexact Hk

/-- Gathering from the weights. -/
theorem Does.gatherW {t : Shape} {idxs : Fin S48.rank → IVec t 32} {h : ∀ a x, (idxs a x).toNat < S48.size a} {hl : (wB).view.Loads} :
    Does d L X W O (SparseCore.vectorLoadIdx wB idxs h hl : TProg F L (Vec F t .f32)) (loadIdx W idxs h) O := by
  intro Q
  unfold held
  iintro ⟨⟨HX, HW, HO⟩, Hk⟩
  iapply (SparseCore.wp_vectorLoadIdx 𝒱₀ (thr d L) none Set.univ (base := wB) (S := Finset.univ) (q := fullShare) (hl := hl) (h := h) (k := fun v => .ret v)
    (Finset.subset_univ _)) $$ HW
  iintro HW
  rw [show ((wB).access (Rect.whole S48)).read (Elt F) W = W from Memref.read_access_whole (Elt F) cc0_scratch1 W]
  iapply (Does.ret (F := F) (d := d) (L := L) (X := X) (W := W) (O := O) (loadIdx W idxs h) Q)
  unfold held
  isplitl [HX HW HO]
  · isplitl [HX]; · iexact HX
    isplitl [HW]; · iexact HW
    iexact HO
  iexact Hk

/-- Loading results. -/
theorem Does.load {r : LoadRect S256} {hl : (oB).view.LoadsAt r} :
    Does d L X W O (Prog.lift (.load oB r hl) : TProg F L (r.shape.Idx → Elt F .f32)) ((oB).view.readAt (Elt F) r O) O := by
  intro Q
  unfold held
  iintro ⟨⟨HX, HW, HO⟩, Hk⟩
  iapply (wp_load 𝒱₀ (thr d L) none Set.univ (m := oB) (S := Finset.univ) (q := fullShare) (Finset.subset_univ _)) $$ HO
  iintro HO
  iapply (Does.ret (F := F) (d := d) (L := L) (X := X) (W := W) (O := O) ((oB).view.readAt (Elt F) r O) Q)
  unfold held
  isplitl [HX HW HO]
  · isplitl [HX]; · iexact HX
    isplitl [HW]; · iexact HW
    iexact HO
  iexact Hk

/-- The results after sixteen of them, from `off` on, are overwritten by `w`. -/
abbrev put (O : Vec F S256 .f32) (off : Fin 1 → Nat) (inb : ∀ a, off a + S16.size a ≤ S256.size a) (w : Vec F S16 .f32) : Vec F S256 .f32 :=
  ((oB).access (Rect.unit (s := S256) off S16.size inb)).write (Elt F) O w Finset.univ

/-- Storing sixteen results. -/
theorem Does.store {off : Fin 1 → Nat} {inb : ∀ a, off a + S16.size a ≤ S256.size a} {w : Vec F S16 .f32}
    {hx : ((oB).access (Rect.unit (s := S256) off S16.size inb)).Stores Finset.univ}
    {hm : (Finset.univ : Finset (Rect.unit (s := S256) off S16.size inb).shape.Idx) = Finset.univ ∨ ∀ a, (Rect.unit (s := S256) off S16.size inb).stride a = 1} :
    Does d L X W O (Prog.lift (.store oB (Rect.unit (s := S256) off S16.size inb) w Finset.univ hx hm) : TProg F L PUnit) ⟨⟩ (put O off inb w) := by
  intro Q
  unfold held
  iintro ⟨⟨HX, HW, HO⟩, Hk⟩
  iapply (wp_store 𝒱₀ (thr d L) none Set.univ (m := oB) (r := Rect.unit (s := S256) off S16.size inb)
    (S := Finset.univ) (f := O) (Finset.subset_univ _)) $$ HO
  iintro HO
  iapply (Does.ret (F := F) (d := d) (L := L) (X := X) (W := W) (O := put O off inb w) (⟨⟩ : PUnit) Q)
  unfold held
  isplitl [HX HW HO]
  · isplitl [HX]; · iexact HX
    isplitl [HW]; · iexact HW
    iexact HO
  iexact Hk

end Cert.Proof.Grouped

end
-- ==== Proof.Chunk.lean ====
/-
  What the subcore computes for sixteen of its rows at once: for each row the maxima of twelve groups of eight
  columns and twenty single columns, weighted and added up. Lane `l` walks every group of columns from a start of
  its own: it meets the columns rotated by `l`.
-/
module

public import proofs.«01_k».proof.Proof.Setup

@[expose] public section

noncomputable section

namespace Cert.Proof.Grouped

open Cert.KernelIdeal Cert.KernelIdeal.Gen

open Idealize.ShloMosaic
open Idealize.SL.Sem

variable {F : FTy → Type} [FloatOps F]

/-- Lane `l` holds `l`. -/
abbrev lane : IVec S16 32 := iota .scVector S16 32 [0] iota_S16_d0_w32_scVector

theorem lane_apply (x : S16.Idx) : lane x = BitVec.ofNat 32 (x 0).val := by
  show BitVec.ofNat 32 (0 * S16.size 0 + (x 0).val) = _
  rw [Nat.zero_mul, Nat.zero_add]

/-- The columns met at step `v`: `v` reduced to a group's width (`m` is the width less one), counted from `c`. -/
abbrev cols (c m : BitVec 32) (v : IVec S16 32) : IVec S16 32 := addi (broadcast S16 c) (andi v (broadcast S16 m))

/-- Lane `l`'s step `j`: `j + l`. -/
abbrev spin (j : BitVec 32) : IVec S16 32 := addi (broadcast S16 j) lane

/-- The rows of chunk `q` of trip `t`: `16 (4 t + q) + l` in lane `l`. -/
abbrev rowsAt (t : Fin k0_t1_loop.trips) (q : BitVec 32) : IVec S16 32 :=
  addi (broadcast S16 (Scalar.muli (Scalar.addi (Scalar.muli 4#32 (Scf.iv 0#32 1#32 t)) q) 16#32)) lane

theorem cols_lt (c m : BitVec 32) (v : IVec S16 32) (n : ℕ) (h : c.toNat + m.toNat < n) (x : S16.Idx) :
    (cols c m v x).toNat < n := by
  show (c + (v x &&& m)).toNat < n
  have h1 : (v x &&& m).toNat ≤ m.toNat := by rw [BitVec.toNat_and]; exact Nat.and_le_right
  rw [BitVec.toNat_add]
  exact lt_of_le_of_lt (Nat.mod_le _ _) (by omega)

theorem trips_eq : k0_t1_loop.trips = 4 := by decide

theorem iv_toNat : ∀ t : Fin k0_t1_loop.trips, (Scf.iv (0#32) 1#32 t).toNat = t.val := by decide

theorem rowsAt_toNat (t : Fin k0_t1_loop.trips) (q : BitVec 32) (hq : q.toNat < 4) (x : S16.Idx) :
    (rowsAt t q x).toNat = 64 * t.val + 16 * q.toNat + (x 0).val := by
  have ht : t.val < 4 := trips_eq ▸ t.isLt
  have hx : (x 0).val < 16 := (x 0).isLt
  show ((4#32 * Scf.iv 0#32 1#32 t + q) * 16#32 + lane x).toNat = _
  rw [lane_apply, BitVec.toNat_add, BitVec.toNat_mul, BitVec.toNat_add, BitVec.toNat_mul, iv_toNat, BitVec.toNat_ofNat]
  simp only [BitVec.toNat_ofNat]
  omega

theorem rowsAt_lt (t : Fin k0_t1_loop.trips) (q : BitVec 32) (hq : q.toNat < 4) (x : S16.Idx) : (rowsAt t q x).toNat < 256 := by
  have ht : t.val < 4 := trips_eq ▸ t.isLt
  have hx : (x 0).val < 16 := (x 0).isLt
  rw [rowsAt_toNat t q hq]
  omega

/-- Rows and columns in range are indices of the rows' buffer; -/
theorem inX {rows cols : IVec S16 32} (hr : ∀ x, (rows x).toNat < 256) (hc : ∀ x, (cols x).toNat < 128) :
    ∀ a x, ((![rows, cols] : Fin 2 → IVec S16 32) a x).toNat < S256x128.size a
  | 0, x => hr x
  | 1, x => hc x

/-- places in range are indices of the weights' buffer. -/
theorem inW {cols : IVec S16 32} (hc : ∀ x, (cols x).toNat < 48) :
    ∀ a x, ((![cols] : Fin 1 → IVec S16 32) a x).toNat < S48.size a
  | 0, x => hc x

section Values

variable (X : Vec F S256x128 .f32) (W : Vec F S48 .f32) (t : Fin k0_t1_loop.trips) (q : BitVec 32) (hq : q.toNat < 4)

/-- The rows' elements in the columns met at step `v`. -/
abbrev pickX (c m : BitVec 32) (h : c.toNat + m.toNat < 128) (v : IVec S16 32) : Vec F S16 .f32 :=
  loadIdx X ![rowsAt t q, cols c m v] (inX (rowsAt_lt t q hq) (cols_lt c m v 128 h))

/-- The weights met at step `v`. -/
abbrev pickW (c m : BitVec 32) (h : c.toNat + m.toNat < 48) (v : IVec S16 32) : Vec F S16 .f32 :=
  loadIdx W ![cols c m v] (inW (cols_lt c m v 48 h))

/-- The maximum over the eight columns from `c` on. -/
def groupMax (c : BitVec 32) (h : c.toNat + (7#32).toNat < 128) : FVec F S16 .f32 :=
  [1#32, 2#32, 3#32, 4#32, 5#32, 6#32, 7#32].foldl (fun m j => maximumf m (pickX X t q hq c 7#32 h (spin j))) (pickX X t q hq c 7#32 h lane)

/-- The twelve weighted maxima added to `hb`, one after another. -/
def groupSum (hb : FVec F S16 .f32) (w : Fin 12 → FVec F S16 .f32) : FVec F S16 .f32 :=
  ([0, 1, 2, 3, 4, 5, 6, 7, 8, 9, 10, 11] : List (Fin 12)).foldl
    (fun a g => addf a (mulf (w g) (groupMax X t q hq (BitVec.ofNat 32 (8 * g.val)) (by revert g; decide)))) hb

/-- Sixteen single columns, then four, weighted and added to what the groups gave. -/
def chunk (hb : FVec F S16 .f32) (w : Fin 12 → FVec F S16 .f32) : FVec F S16 .f32 :=
  [0#32, 1#32, 2#32, 3#32].foldl
    (fun a j => addf a (mulf (pickW W 28#32 3#32 (by decide) (spin j)) (pickX X t q hq 112#32 3#32 (by decide) (spin j))))
    ([0#32, 1#32, 2#32, 3#32, 4#32, 5#32, 6#32, 7#32, 8#32, 9#32, 10#32, 11#32, 12#32, 13#32, 14#32, 15#32].foldl
      (fun a j => addf a (mulf (pickW W 12#32 15#32 (by decide) (spin j)) (pickX X t q hq 96#32 15#32 (by decide) (spin j))))
      (groupSum X t q hq hb w))

end Values

end Cert.Proof.Grouped

end
-- ==== Proof.Trip.lean ====
/-
  One trip of the subcore's loop: four chunks of sixteen rows each, the results of each stored after the last one's.
-/
module

public import proofs.«01_k».proof.Proof.Step
public import proofs.«01_k».proof.Proof.Chunk

@[expose] public section

noncomputable section

namespace Cert.Proof.Grouped

open Cert.KernelIdeal Cert.KernelIdeal.Gen

open Idealize.ShloMosaic
open Idealize.SL.Sem

variable {F : FTy → Type} [FloatOps F]

/-- The results after one trip: the four chunks' written at their places. -/
def afterTrip (X : Vec F S256x128 .f32) (W : Vec F S48 .f32) (hb : FVec F S16 .f32) (w : Fin 12 → FVec F S16 .f32)
    (t : Fin k0_t1_loop.trips) (O : Vec F S256 .f32) : Vec F S256 .f32 :=
  put (put (put (put O (k0_off2 t) (k0_off2_inb t) (chunk X W t 0#32 (by decide) hb w))
    (k0_off3 t) (k0_off3_inb t) (chunk X W t 1#32 (by decide) hb w))
    (k0_off4 t) (k0_off4_inb t) (chunk X W t 2#32 (by decide) hb w))
    (k0_off5 t) (k0_off5_inb t) (chunk X W t 3#32 (by decide) hb w)

variable {d : Dev nD} {L : grid0.Coords} {X : Vec F S256x128 .f32} {W : Vec F S48 .f32} {O : Vec F S256 .f32}

set_option maxHeartbeats 0 in
set_option maxRecDepth 100000 in
/-- One trip leaves the results at `afterTrip`: every check it makes holds, every gather reads the buffers as they are,
    and each of its four stores writes one chunk. -/
theorem trip (v5 : Vec F S16 .f32) (w : Fin 12 → FVec F S16 .f32) (t : Fin k0_t1_loop.trips) :
    Does d L X W O (k0_t1_body L xA (Memref.isWhole_whole _) wA (Memref.isWhole_whole _) oA (Memref.isWhole_whole _)
      xB (Memref.isWhole_whole _) wB (Memref.isWhole_whole _) oB (Memref.isWhole_whole _) cc0_scoped0 cc0_scoped1 cc0_scoped2
      lane v5 (w 0) (w 1) (w 2) (w 3) (w 4) (w 5) (w 6) (w 7) (w 8) (w 9) (w 10) (w 11) t ()) ()
      (afterTrip X W (k0_pay1 v5) w t O) := by
  apply Does.to
  · unfold k0_t1_body
    repeat first
      | with_reducible apply Does.bind
      | (with_reducible apply Does.check); first
          | exact inX (rowsAt_lt t _ (by decide)) (cols_lt _ _ _ 128 (by decide))
          | exact inW (cols_lt _ _ _ 48 (by decide))
      | with_reducible exact Does.gatherX
      | with_reducible exact Does.gatherW
      | with_reducible exact Does.load
      | with_reducible exact Does.store
      | with_reducible exact Does.ret _
      | apply Does.bind
    done
  · rfl

end Cert.Proof.Grouped

end
-- ==== Proof.Rows.lean ====
/-
  What the subcore's four trips leave in its buffer of results: entry `p` is lane `p mod 16` of the chunk that holds row `p`.
-/
module

public import Idealize.ShloMosaic.Lib.Pipeline.Value
public import proofs.«01_k».proof.Proof.Trip

@[expose] public section

noncomputable section

namespace Cert.Proof.Grouped

open Cert.KernelIdeal Cert.KernelIdeal.Gen

open Idealize.ShloMosaic
open Idealize.SL.Sem

variable {F : FTy → Type} [FloatOps F]

/-- Lane `l` as an index. -/
def laneIx (l : Fin 16) : S16.Idx
  | 0 => l

theorem eq_laneIx (x : S16.Idx) (l : Fin 16) (h : (x 0).val = l.val) : x = laneIx l :=
  funext fun a => match a with | 0 => Fin.ext h

/-- The trip that computes row `p`, -/
def tripOf (p : Fin 256) : Fin k0_t1_loop.trips := ⟨p.val / 64, by rw [trips_eq]; omega⟩
/-- and its chunk in that trip. -/
def chunkOf (p : Fin 256) : BitVec 32 := BitVec.ofNat 32 (p.val % 64 / 16)

theorem chunkOf_toNat (p : Fin 256) : (chunkOf p).toNat = p.val % 64 / 16 := by
  unfold chunkOf
  rw [BitVec.toNat_ofNat]
  omega

theorem chunkOf_lt (p : Fin 256) : (chunkOf p).toNat < 4 := by rw [chunkOf_toNat]; omega

/-- The results of all rows. -/
def rowResults (X : Vec F S256x128 .f32) (W : Vec F S48 .f32) (hb : FVec F S16 .f32) (w : Fin 12 → FVec F S16 .f32) : Vec F S256 .f32 :=
  fun p => chunk X W (tripOf (p 0)) (chunkOf (p 0)) (chunkOf_lt _) hb w (laneIx ⟨(p 0).val % 16, Nat.mod_lt _ (by decide)⟩)

/-- A stored chunk is met at the sixteen entries from its offset on, -/
theorem put_of_mem (O : Vec F S256 .f32) (off : Fin 1 → ℕ) (inb : ∀ a, off a + S16.size a ≤ S256.size a) (v : Vec F S16 .f32)
    (p : S256.Idx) (l : Fin 16) (h : (p 0).val = off 0 + l.val) : put O off inb v p = v (laneIx l) := by
  unfold put
  have hp : p = ((oB).access (Rect.unit (s := S256) off S16.size inb)).emb (laneIx l) := by
    funext a
    match a with
    | 0 => exact Fin.ext (h.trans (by show _ = off 0 + 1 * l.val; rw [one_mul]))
  rw [hp]
  exact View.write_emb_of_mem _ _ (Finset.mem_univ _)

/-- and every other entry keeps what it held. -/
theorem put_of_not_mem (O : Vec F S256 .f32) (off : Fin 1 → ℕ) (inb : ∀ a, off a + S16.size a ≤ S256.size a) (v : Vec F S16 .f32)
    (p : S256.Idx) (h : (p 0).val < off 0 ∨ off 0 + 16 ≤ (p 0).val) : put O off inb v p = O p := by
  have e : put O off inb v = updateSlice O v off ⟨rfl, inb⟩ := View.write_whole_slice_unit cc0_scratch2 off S16.size inb O v
  rw [e]
  unfold updateSlice
  rw [dif_neg]
  intro hin
  obtain ⟨h1, h2⟩ : off 0 ≤ (p 0).val ∧ (p 0).val < off 0 + 16 := hin 0
  omega

variable (X : Vec F S256x128 .f32) (W : Vec F S48 .f32) (hb : FVec F S16 .f32) (w : Fin 12 → FVec F S16 .f32)

/-- Row `p`'s result, with its trip, chunk and lane named otherwise. -/
theorem rowResults_eq (p : S256.Idx) (t : Fin k0_t1_loop.trips) (q : BitVec 32) (hq : q.toNat < 4) (l : Fin 16)
    (h : (p 0).val = 64 * t.val + 16 * q.toNat + l.val) : rowResults X W hb w p = chunk X W t q hq hb w (laneIx l) := by
  have ht : tripOf (p 0) = t := Fin.ext (by show (p 0).val / 64 = t.val; omega)
  have hqe : chunkOf (p 0) = q := BitVec.eq_of_toNat_eq ((chunkOf_toNat (p 0)).trans (by omega))
  have hl : (⟨(p 0).val % 16, Nat.mod_lt _ (by decide)⟩ : Fin 16) = l := Fin.ext (by show (p 0).val % 16 = l.val; omega)
  subst ht hqe hl
  rfl

/-- A trip computes its sixty-four rows -/
theorem afterTrip_of_mem (t : Fin k0_t1_loop.trips) (O : Vec F S256 .f32) (p : S256.Idx) (h1 : 64 * t.val ≤ (p 0).val)
    (h2 : (p 0).val < 64 * t.val + 64) : afterTrip X W hb w t O p = rowResults X W hb w p := by
  have o2 : k0_off2 t 0 = 64 * t.val := congrFun (k0_off2_eq t) 0
  have o3 : k0_off3 t 0 = 64 * t.val + 16 := congrFun (k0_off3_eq t) 0
  have o4 : k0_off4 t 0 = 64 * t.val + 32 := congrFun (k0_off4_eq t) 0
  have o5 : k0_off5 t 0 = 64 * t.val + 48 := congrFun (k0_off5_eq t) 0
  let l : Fin 16 := ⟨(p 0).val % 16, Nat.mod_lt _ (by decide)⟩
  have hl : l.val = (p 0).val % 16 := rfl
  unfold afterTrip
  rcases (show (p 0).val < 64 * t.val + 16 ∨ (64 * t.val + 16 ≤ (p 0).val ∧ (p 0).val < 64 * t.val + 32)
    ∨ (64 * t.val + 32 ≤ (p 0).val ∧ (p 0).val < 64 * t.val + 48) ∨ 64 * t.val + 48 ≤ (p 0).val by omega) with h | h | h | h
  · rw [put_of_not_mem _ _ _ _ p (by omega), put_of_not_mem _ _ _ _ p (by omega), put_of_not_mem _ _ _ _ p (by omega),
      put_of_mem _ _ _ _ p l (by omega)]
    exact (rowResults_eq X W hb w p t _ _ l (by show _ = _ + 16 * 0 + _; omega)).symm
  · rw [put_of_not_mem _ _ _ _ p (by omega), put_of_not_mem _ _ _ _ p (by omega), put_of_mem _ _ _ _ p l (by omega)]
    exact (rowResults_eq X W hb w p t _ _ l (by show _ = _ + 16 * 1 + _; omega)).symm
  · rw [put_of_not_mem _ _ _ _ p (by omega), put_of_mem _ _ _ _ p l (by omega)]
    exact (rowResults_eq X W hb w p t _ _ l (by show _ = _ + 16 * 2 + _; omega)).symm
  · rw [put_of_mem _ _ _ _ p l (by omega)]
    exact (rowResults_eq X W hb w p t _ _ l (by show _ = _ + 16 * 3 + _; omega)).symm

/-- and leaves the rows of the trips before it. -/
theorem afterTrip_of_lt (t : Fin k0_t1_loop.trips) (O : Vec F S256 .f32) (p : S256.Idx) (h : (p 0).val < 64 * t.val) :
    afterTrip X W hb w t O p = O p := by
  have o2 : k0_off2 t 0 = 64 * t.val := congrFun (k0_off2_eq t) 0
  have o3 : k0_off3 t 0 = 64 * t.val + 16 := congrFun (k0_off3_eq t) 0
  have o4 : k0_off4 t 0 = 64 * t.val + 32 := congrFun (k0_off4_eq t) 0
  have o5 : k0_off5 t 0 = 64 * t.val + 48 := congrFun (k0_off5_eq t) 0
  unfold afterTrip
  rw [put_of_not_mem _ _ _ _ p (by omega), put_of_not_mem _ _ _ _ p (by omega), put_of_not_mem _ _ _ _ p (by omega),
    put_of_not_mem _ _ _ _ p (by omega)]

/-- The rows of the first `k` trips are computed. -/
def Done (k : ℕ) (O : Vec F S256 .f32) : Prop := ∀ p : S256.Idx, (p 0).val < 64 * k → O p = rowResults X W hb w p

theorem Done.zero (O : Vec F S256 .f32) : Done X W hb w 0 O := fun p h => absurd h (by omega)

theorem Done.step {t : Fin k0_t1_loop.trips} {O : Vec F S256 .f32} (h : Done X W hb w t.val O) :
    Done X W hb w (t.val + 1) (afterTrip X W hb w t O) := fun p hp => by
  by_cases h64 : (p 0).val < 64 * t.val
  · rw [afterTrip_of_lt X W hb w t O p h64]
    exact h p h64
  · exact afterTrip_of_mem X W hb w t O p (by omega) (by omega)

theorem Done.all {O : Vec F S256 .f32} (h : Done X W hb w k0_t1_loop.trips O) : O = rowResults X W hb w :=
  funext fun p => h p (by have : (p 0).val < 256 := (p 0).isLt; rw [trips_eq]; omega)

end Cert.Proof.Grouped

end
-- ==== Proof.Block.lean ====
/-
  The kernel's result array as a function of the input array and of the array of weights: row `r` is entry `r mod 256` of
  what the subcore that takes block `r / 256` of the rows computes.
-/
module

public import proofs.«01_k».proof.Proof.Rows

@[expose] public section

noncomputable section

namespace Cert.Proof.Grouped

open Cert.KernelIdeal Cert.KernelIdeal.Gen

open Idealize.ShloMosaic
open Idealize.SL.Sem

variable {F : FTy → Type} [FloatOps F]

/-- The first 128 columns of block `b` of 256 rows. -/
def blockX (x : Vec F S8192x4096 .f32) (b : Fin 32) : Vec F S256x128 .f32 := fun p => x fun
  | 0 => ⟨256 * b.val + (p 0).val, by have : (p 0).val < 256 := (p 0).isLt; show _ < 8192; omega⟩
  | 1 => ⟨(p 1).val, by have : (p 1).val < 128 := (p 1).isLt; show _ < 4096; omega⟩

/-- The weights' sixteen entries from the first on, and from entry 32 on. -/
abbrev headW (W : Vec F S48 .f32) : Vec F S16 .f32 :=
  ((wB).access (Rect.unit (s := S48) ![0] S16.size inb_S48_S16_0)).read (Elt F) W
abbrev tailW (W : Vec F S48 .f32) : Vec F S16 .f32 :=
  ((wB).access (Rect.unit (s := S48) ![32] S16.size inb_S48_S16_32)).read (Elt F) W

/-- The weights of the twelve groups, each in every lane. -/
def groupW (v : Vec F S16 .f32) : Fin 12 → FVec F S16 .f32 :=
  ![k0_pay803 v, k0_pay804 v, k0_pay805 v, k0_pay806 v, k0_pay807 v, k0_pay808 v, k0_pay809 v, k0_pay810 v, k0_pay811 v,
    k0_pay812 v, k0_pay813 v, k0_pay814 v]

/-- What the subcore that takes block `b` computes. -/
def blockOut (x : Vec F S8192x4096 .f32) (W : Vec F S48 .f32) (b : Fin 32) : Vec F S256 .f32 :=
  rowResults (blockX x b) W (k0_pay1 (tailW W)) (groupW (headW W))

/-- The result array. -/
def out (x : Vec F S8192x4096 .f32) (W : Vec F S48 .f32) : Vec F S8192 .f32 := fun r =>
  blockOut x W ⟨(r 0).val / 256, by have : (r 0).val < 8192 := (r 0).isLt; omega⟩ fun
    | 0 => ⟨(r 0).val % 256, Nat.mod_lt _ (by decide)⟩

/-- The result array on a block is what that block's subcore computes. -/
theorem out_eq (x : Vec F S8192x4096 .f32) (W : Vec F S48 .f32) (b : Fin 32) (r : S8192.Idx) (p : S256.Idx)
    (h : (r 0).val = 256 * b.val + (p 0).val) : out x W r = blockOut x W b p := by
  have hp : (p 0).val < 256 := (p 0).isLt
  unfold out
  congr 1
  · exact Fin.ext (by show (r 0).val / 256 = b.val; omega)
  · funext a
    match a with
    | 0 => exact Fin.ext (by show (r 0).val % 256 = (p 0).val; omega)

end Cert.Proof.Grouped

end
-- ==== Proof.Tile.lean ====
/-
  One subcore's task: it fetches its 256 rows of the input and the weights, computes the rows' results in four trips,
  and writes them to its block of the result array.
-/
module

public import proofs.«01_k».proof.Proof.Block

@[expose] public section

noncomputable section

namespace Cert.Proof.Grouped

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The input, the weights and the result array of device `d`. -/
abbrev xLoc (d : Dev nD) : Loc nD τ sig := (SparseCore.T d).loc main_arg0
abbrev wLoc (d : Dev nD) : Loc nD τ sig := (SparseCore.T d).loc main_v2
abbrev oLoc (d : Dev nD) : Loc nD τ sig := (SparseCore.T d).loc main_v3

variable (d : Dev nD) (L : grid0.Coords)

/-- The block of rows a subcore takes. -/
def blockNo (L : grid0.Coords) : Fin 32 :=
  ⟨2 * (L 1).val + (L 0).val, by
    have h0 : (L 0).val < 2 := (L 0).isLt
    have h1 : (L 1).val < 16 := (L 1).isLt
    omega⟩

theorem hdiv : 32 ∣ S8192.size 0 := ⟨256, rfl⟩
/-- Block `b` of the result array, -/
abbrev block (b : Fin 32) : Rect S8192 := Rect.part (s := S8192) (a₀ := 0) hdiv b
/-- the indices it has there, -/
abbrev blockSet (b : Fin 32) : Finset S8192.Idx := ((oA).view.slice (block b)).set
/-- and the same block as the subcore names it. -/
abbrev oRect (L : grid0.Coords) : Rect S8192 := Rect.unit (s := S8192) (k0_off6 L) S256.size (k0_off6_inb L)
abbrev oBlk (L : grid0.Coords) : Memref sig .scVector .hbm S256 .f32 := (oA).slice (oRect L) (fun _ => rfl)

theorem oRect_eq : oRect L = block (blockNo L) := by
  unfold oRect block Rect.part Rect.block
  congr 1 <;> funext a
  · rw [k0_off6_eq]
    match a with
    | 0 =>
      show 512 * (L 1).val + 256 * (L 0).val = (2 * (L 1).val + (L 0).val) * (8192 / 32)
      omega
  · match a with
    | 0 => rfl

theorem set_oBlk : (oBlk L).view.set = blockSet (blockNo L) := by
  show ((oA).view.slice (oRect L)).set = ((oA).view.slice (block (blockNo L))).set
  rw [oRect_eq]

theorem pts_oBlk (f : Buf (Elt F) (oLoc d)) :
    ((oBlk L).view.loc (thr d L) ↦[(oBlk L).view.set]{fullShare} f : sProp 𝕄) = oLoc d ↦[blockSet (blockNo L)]{fullShare} f := by
  rw [set_oBlk]

/-- The semaphores of the subcore's three copies. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)

/-- The subcore's counters are those three and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩)]

/-- The subcore's own buffers are its three scratch buffers and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- A share of the input, a share of the weights, and a block of the result array outright. -/
abbrev xPts (q : PosShare TreeShare) (x : Vec F S8192x4096 .f32) : sProp (Mod F) := xLoc d ↦{q} x
abbrev wPts (q : PosShare TreeShare) (w : Vec F S48 .f32) : sProp (Mod F) := wLoc d ↦{q} w
abbrev oPts (b : Fin 32) (o : Vec F S8192 .f32) : sProp (Mod F) := oLoc d ↦[blockSet b]{fullShare} o

/-- The rows a subcore fetches are its block's first 128 columns, -/
theorem fetch_x (x : Vec F S8192x4096 .f32) (f : Vec F S256x128 .f32) :
    (xB).view.write (Elt F) f (((xA).slice (Rect.unit (s := S8192x4096) (k0_off1 L) S256x128.size (k0_off1_inb L)) (fun _ => rfl)).view.read (Elt F) x)
      Finset.univ = blockX x (blockNo L) := by
  refine (View.write_whole_univ cc0_scratch0 f _).trans (funext fun p => ?_)
  refine congrArg x (funext fun a => ?_)
  match a with
  | 0 =>
    have e : k0_off1 L 0 = 512 * (L 1).val + 256 * (L 0).val := congrFun (k0_off1_eq L) 0
    refine Fin.ext ?_
    show k0_off1 L 0 + 1 * (p 0).val = 256 * (2 * (L 1).val + (L 0).val) + (p 0).val
    omega
  | 1 =>
    have e : k0_off1 L 1 = 0 := congrFun (k0_off1_eq L) 1
    refine Fin.ext ?_
    show k0_off1 L 1 + 1 * (p 1).val = (p 1).val
    omega

/-- and the weights it fetches are the weights. -/
theorem fetch_w (w f : Vec F S48 .f32) : (wB).view.write (Elt F) f ((wA).view.read (Elt F) w) Finset.univ = w :=
  View.write_whole_univ cc0_scratch1 f _

/-- Results written to its block are met at their places there; -/
theorem write_blk (o : Vec F S8192 .f32) (f : Vec F S256 .f32) (p : S256.Idx) :
    (oBlk L).view.writes (Elt F) o [⟨Rect.whole S256, (oB).view.read (Elt F) f⟩] ((oBlk L).view.emb p) = f p := by
  have e : (oBlk L).view.emb p = ((oBlk L).view.slice (Rect.whole S256)).emb p := by
    show _ = (oBlk L).view.emb ((Rect.whole S256).emb p)
    congr 1
    exact (Rect.emb_whole_apply S256 p).symm
  rw [e]
  exact View.write_emb_of_mem (Val := Elt F) (v := (oBlk L).view.slice (Rect.whole S256)) o _ (Finset.mem_univ p)

/-- so the block then holds the result array. -/
theorem store_out [FloatOps F] (x : Vec F S8192x4096 .f32) (w : Vec F S48 .f32) (o : Vec F S8192 .f32) (r : S8192.Idx)
    (hr : r ∈ blockSet (blockNo L)) :
    (oBlk L).view.writes (Elt F) o [⟨Rect.whole S256, (oB).view.read (Elt F) (blockOut x w (blockNo L))⟩] r = out x w r := by
  rw [← set_oBlk] at hr
  obtain ⟨p, -, hp⟩ := Finset.mem_map.mp hr
  have e : k0_off6 L 0 = 512 * (L 1).val + 256 * (L 0).val := congrFun (k0_off6_eq L) 0
  have h0 : (r 0).val = k0_off6 L 0 + 1 * (p 0).val := by rw [← hp]; rfl
  have hb : (r 0).val = 256 * (2 * (L 1).val + (L 0).val) + (p 0).val := by omega
  refine Eq.trans ?_ (out_eq x w (blockNo L) r p hb).symm
  generalize blockOut x w (blockNo L) = f
  rw [← hp]
  exact write_blk L o f p

variable [FloatOps F]

/-- The four trips, and what follows them: from any results to those of all rows. -/
theorem trips_run (X : Vec F S256x128 .f32) (W : Vec F S48 .f32) (O : Vec F S256 .f32) (v4 v5 : Vec F S16 .f32)
    {α : Type} (k : PUnit → TProg F L α) (Q : α → sProp (Mod F)) :
    iprop(held d L X W O ∗ (held d L X W (rowResults X W (k0_pay1 v5) (groupW v4)) -∗ wp frame (wpE (defs₀ (F := F)) 𝒱₀ (thr d L) none) Set.univ (k ⟨⟩) Q))
      ⊢ wp frame (wpE (defs₀ (F := F)) 𝒱₀ (thr d L) none) Set.univ
          (Scf.Loop.for k0_t1_loop k0_t1_ok ⟨⟩ (k0_t1_body L xA (Memref.isWhole_whole _) wA (Memref.isWhole_whole _) oA (Memref.isWhole_whole _)
            xB (Memref.isWhole_whole _) wB (Memref.isWhole_whole _) oB (Memref.isWhole_whole _) cc0_scoped0 cc0_scoped1 cc0_scoped2
            lane v5 (groupW v4 0) (groupW v4 1) (groupW v4 2) (groupW v4 3) (groupW v4 4) (groupW v4 5) (groupW v4 6) (groupW v4 7)
            (groupW v4 8) (groupW v4 9) (groupW v4 10) (groupW v4 11)) >>= k) Q := by
  iintro ⟨H, Hk⟩
  iapply (Scf.wp_for_bind frame (wpE (defs₀ (F := F)) 𝒱₀ (thr d L) none) Set.univ k0_t1_loop.lb k0_t1_loop.ub k0_t1_loop.st k0_t1_ok _ _
    (fun n _ => iprop(∃ O', ⌜Done X W (k0_pay1 v5) (groupW v4) n O'⌝ ∗ held d L X W O')) ?hbody) $$ [H]
  case hbody =>
    intro t acc
    iintro ⟨%O', %hO, H⟩
    iapply (trip (d := d) (L := L) (X := X) (W := W) (O := O') v5 (groupW v4) t _)
    isplitl [H]
    · iexact H
    iintro H
    iexists _
    isplitr
    · ipureintro; exact hO.step X W _ _
    iexact H
  · iexists O
    isplitr
    · ipureintro; exact Done.zero X W _ _ O
    iexact H
  iintro %acc ⟨%O', %hO, H⟩
  rw [hO.all X W _ _]
  iapply Hk $$ H

set_option maxHeartbeats 4000000 in
/-- The task of the subcore at `L`: from a share of the input and of the weights and its block of the result array outright,
    to the same with the block written. -/
theorem tile_body (x : Vec F S8192x4096 .f32) (w : Vec F S48 .f32) (o : Vec F S8192 .f32) (qx qw : PosShare TreeShare)
    (hF : (K (F := F)).Facts) (O : CellTallies nD τ sig (HIx 1)) (W : Waits sig (HIx 1)) (hO : ∀ g, O g none = 0) :
    iprop(levAts (K (F := F)).L (K (F := F)).lev ∗ emp
        ∗ (xPts d qx x ∗ wPts d qw w ∗ oPts d (blockNo L) o)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L xA (Memref.isWhole_whole _) wA (Memref.isWhole_whole _) oA (Memref.isWhole_whole _)
            xB (Memref.isWhole_whole _) wB (Memref.isWhole_whole _) oB (Memref.isWhole_whole _) cc0_scoped0 cc0_scoped1 cc0_scoped2)
          fun _ => iprop((xPts d qx x ∗ wPts d qw w ∗ oPts d (blockNo L) (out x w))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Hw, Ho⟩, ⟨⟨%f0, H0⟩, ⟨%f1, H1⟩, ⟨%f2, H2⟩, Hbufs⟩, ⟨Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (xLoc d ↦{qx} x : sProp 𝕄) = (xA).view.loc (thr d L) ↦{qx} x from rfl)) $$ Hx
  ihave Hw' := (Entails.of_eq (show (wLoc d ↦{qw} w : sProp 𝕄) = (wA).view.loc (thr d L) ↦{qw} w from rfl)) $$ Hw
  ihave Ho' := (Entails.of_eq (pts_oBlk (F := F) d L _).symm) $$ Ho
  ihave H0' := (Entails.of_eq (show ((V d (cV L) (jV L)).loc cc0_scratch0 ↦{fullShare} f0 : sProp 𝕄) = (xB).view.loc (thr d L) ↦{fullShare} f0 from rfl)) $$ H0
  ihave H1' := (Entails.of_eq (show ((V d (cV L) (jV L)).loc cc0_scratch1 ↦{fullShare} f1 : sProp 𝕄) = (wB).view.loc (thr d L) ↦{fullShare} f1 from rfl)) $$ H1
  ihave H2' := (Entails.of_eq (show ((V d (cV L) (jV L)).loc cc0_scratch2 ↦{fullShare} f2 : sProp 𝕄) = (oB).view.loc (thr d L) ↦{fullShare} f2 from rfl)) $$ H2
  rw [cc0_sc_kernel_eq_skeleton]
  unfold cc0_sc_kernel_skel
  rw [k0_part102_eq_skeleton]
  unfold k0_part102_skel
  sl_exec
  rw [show View.write (Elt F) (xB).view f0 (tile_body.sl.dma0 L x) Finset.univ = blockX x (blockNo L) from fetch_x L x f0,
    show View.write (Elt F) (wB).view f1 (tile_body.sl.dma0_1 w) Finset.univ = w from fetch_w w f1]
  iapply (trips_run d L (blockX x (blockNo L)) w f2 (headW w) (tailW w) _ _)
  isplitl [H0' H1' H2']
  · unfold held
    isplitl [H0']; · iexact H0'
    isplitl [H1']; · iexact H1'
    iexact H2'
  iintro H
  unfold held
  icases H with ⟨H0, H1, H2⟩
  ihave H2' := (Entails.of_eq (show ((thr d L).loc cc0_scratch2 ↦{fullShare} rowResults (blockX x (blockNo L)) w (k0_pay1 (tailW w)) (groupW (headW w)) : sProp 𝕄)
    = (oB).view.loc (thr d L) ↦{fullShare} blockOut x w (blockNo L) from rfl)) $$ H2
  sl_exec
  rw [show tile_body.sl.dma0_2 L x w = (oB).view.read (Elt F) (blockOut x w (blockNo L)) from rfl]
  ihave Ho := (Entails.of_eq ((congrArg (fun S => (oLoc d ↦[S]{fullShare} _ : sProp 𝕄)) (set_oBlk L)).trans
    (pointsTo_congr (store_out L x w o)))) $$ Ho'
  sl_step
  isplitl [Hx' Hw' Ho]
  · isplitl [Hx']; · iexact Hx'
    isplitl [Hw']; · iexact Hw'
    iexact Ho
  isplitl [H0 H1 H2' Hbufs]
  · isplitl [H0]; · iexists _; iexact H0
    isplitl [H1]; · iexists _; iexact H1
    isplitl [H2']; · iexists _; iexact H2'
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p _
  rcases p.2 with _ | q
  · exact .inr (.inl rfl)
  · exact .inr (.inr (congrArg some (Subsingleton.elim q 0)))

end Cert.Proof.Grouped

end
-- ==== Proof.Host.lean ====
/-
  What the host does around the kernel: it lays the 32 weights, the bias and fifteen zeros out in one array of 48 before the
  kernel starts, and gives the kernel's result array the shape of a column afterwards.
-/
module

public import proofs.«01_k».proof.Proof.Tile

@[expose] public section

noncomputable section

namespace Cert.Proof.Grouped

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The array of weights: the 32 weights, the bias, and fifteen zeros. -/
def weights (W : Vec F S32x1 .f32) (b : Vec F S1 .f32) : Vec F S48 .f32 :=
  concatenate S48 0 [⟨S32, shapeCast S32 W shapeCasts_S32x1_S32⟩, ⟨S1, b⟩,
    ⟨S15, (broadcastInDim S15 ![] bcast_S_S15 (constant S_ .f32 0x00000000#32 : Vec F S_ .f32) : Vec F S15 .f32)⟩] concatenates_S32_S1_S15_S48_d0

/-- The program's result. -/
def result (x : Vec F S8192x4096 .f32) (W : Vec F S32x1 .f32) (b : Vec F S1 .f32) : Vec F S8192x1 .f32 :=
  shapeCast S8192x1 (out x (weights W b)) shapeCasts_S8192_S8192x1

/-! ## The host's arrays and operations -/

abbrev bX : DevRef τ sig := Proc.devRef .tc (main_arg0 : Ref sig .tc)
abbrev bA : DevRef τ sig := Proc.devRef .tc (main_arg1 : Ref sig .tc)
abbrev bB : DevRef τ sig := Proc.devRef .tc (main_arg2 : Ref sig .tc)
abbrev b0 : DevRef τ sig := Proc.devRef .tc (main_v0 : Ref sig .tc)
abbrev bC : DevRef τ sig := Proc.devRef .tc (main_cst : Ref sig .tc)
abbrev b1 : DevRef τ sig := Proc.devRef .tc (main_v1 : Ref sig .tc)
abbrev bW : DevRef τ sig := Proc.devRef .tc (main_v2 : Ref sig .tc)
abbrev bO : DevRef τ sig := Proc.devRef .tc (main_v3 : Ref sig .tc)
abbrev bR : DevRef τ sig := Proc.devRef .tc (main_v4 : Ref sig .tc)

abbrev opFlat : HloOp τ sig (Elt F) := StableHlo.reshape main_arg1 main_v0 (rfl : (.f32 : EltTy) = .f32) shapeCasts_S32x1_S32
abbrev opZero : HloOp τ sig (Elt F) := StableHlo.nullary main_cst (constant S_ .f32 0x00000000#32)
abbrev opZeros : HloOp τ sig (Elt F) := StableHlo.unary main_cst main_v1 (broadcastInDim S15 ![] bcast_S_S15 : (⟨S_, .f32⟩ : BufTy).Contents (Elt F) → (⟨S15, .f32⟩ : BufTy).Contents (Elt F))
abbrev opJoin : HloOp τ sig (Elt F) := StableHlo.nary ![main_v0, main_arg2, main_v1] main_v2 (fun u => (concatenate S48 0 [⟨S32, (u 0 : (⟨S32, .f32⟩ : BufTy).Contents (Elt F))⟩, ⟨S1, (u 1 : (⟨S1, .f32⟩ : BufTy).Contents (Elt F))⟩, ⟨S15, (u 2 : (⟨S15, .f32⟩ : BufTy).Contents (Elt F))⟩] concatenates_S32_S1_S15_S48_d0 : (⟨S48, .f32⟩ : BufTy).Contents (Elt F)))
abbrev opCol : HloOp τ sig (Elt F) := StableHlo.reshape main_v3 main_v4 (rfl : (.f32 : EltTy) = .f32) shapeCasts_S8192_S8192x1

/-- The host's nine arrays. -/
abbrev arrays : Finset (DevRef τ sig) := {bX, bA, bB, b0, bC, b1, bW, bO, bR}

theorem hFlat : (opFlat (F := F)).bufs ⊆ arrays := show ({bA, b0} : Finset (DevRef τ sig)) ⊆ arrays by decide
theorem hZero : (opZero (F := F)).bufs ⊆ arrays := show ({bC} : Finset (DevRef τ sig)) ⊆ arrays by decide
theorem hZeros : (opZeros (F := F)).bufs ⊆ arrays := show ({bC, b1} : Finset (DevRef τ sig)) ⊆ arrays by decide
theorem hJoin : (opJoin (F := F)).bufs ⊆ arrays :=
  show insert bW (Finset.univ.image fun k => Proc.devRef .tc ((![main_v0, main_arg2, main_v1] : Fin 3 → Ref sig .tc) k)) ⊆ arrays by decide
theorem hCol : (opCol (F := F)).bufs ⊆ arrays := show ({bO, bR} : Finset (DevRef τ sig)) ⊆ arrays by decide

abbrev tcAt (d : Dev nD) (b : Ref sig .tc) : Loc nD τ sig := (SparseCore.T d).loc b

/-- The nine arrays held at given contents, one by one. -/
theorem held_arrays (d : Dev nD) (U : Valuation τ sig (Elt F)) :
    (StableHlo.held (SparseCore.T d) arrays U : sProp 𝕄)
      = iprop((xLoc d ↦{fullShare} U bX) ∗ (tcAt d main_arg1 ↦{fullShare} U bA) ∗ (tcAt d main_arg2 ↦{fullShare} U bB)
          ∗ (tcAt d main_v0 ↦{fullShare} U b0) ∗ (tcAt d main_cst ↦{fullShare} U bC) ∗ (tcAt d main_v1 ↦{fullShare} U b1)
          ∗ (wLoc d ↦{fullShare} U bW) ∗ (oLoc d ↦{fullShare} U bO) ∗ tcAt d main_v4 ↦{fullShare} U bR) := by
  unfold StableHlo.held arrays
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- They are all the arrays the host has. -/
theorem unscoped_arrays (d : Dev nD) (m : (ℓ : Loc nD τ sig) → Buf (Elt F) ℓ) :
    (unscopedBufs d (fun b => m ((SparseCore.T d).loc b)) : sProp 𝕄) = StableHlo.held (SparseCore.T d) arrays (fun b => m (d, b)) := by
  rw [held_arrays]
  unfold unscopedBufs
  rw [show (Finset.univ.filter fun b : Ref sig .tc => ¬ b.isScoped)
      = {main_arg0, main_arg1, main_arg2, main_v0, main_cst, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The arrays' contents before and after the kernel -/

/-- Before the kernel. -/
def laid (U : Valuation τ sig (Elt F)) : Valuation τ sig (Elt F) :=
  (opJoin (F := F)).result ((opZeros (F := F)).result ((opZero (F := F)).result ((opFlat (F := F)).result U)))

/-- An array the host's first four operations leave alone. -/
theorem laid_of_ne (U : Valuation τ sig (Elt F)) {r : Ref sig .tc} (h0 : r ≠ main_v0) (hc : r ≠ main_cst) (h1 : r ≠ main_v1) (h2 : r ≠ main_v2) :
    laid U (Proc.devRef .tc r) = U (Proc.devRef .tc r) := by
  exact (StableHlo.nary_result_ne _ _ _ _ _ _ h2).trans ((StableHlo.unary_result_ne _ _ _ _ _ _ h1).trans
    ((StableHlo.nullary_result_ne _ _ _ _ hc).trans (StableHlo.reshape_result_ne _ _ _ _ _ _ _ h0)))

/-- The array of weights. -/
theorem laid_weights (U : Valuation τ sig (Elt F)) : laid U bW = weights (U bA) (U bB) := by
  refine (StableHlo.nary_result _ _ _ _ _ _).trans ?_
  have e0 : (opZeros (F := F)).result ((opZero (F := F)).result ((opFlat (F := F)).result U)) b0 = shapeCast S32 (U bA) shapeCasts_S32x1_S32 :=
    (StableHlo.unary_result_ne _ _ _ _ _ _ (by decide)).trans ((StableHlo.nullary_result_ne _ _ _ _ (by decide)).trans
      (StableHlo.reshape_result _ _ _ _ _ _ _))
  have e1 : (opZeros (F := F)).result ((opZero (F := F)).result ((opFlat (F := F)).result U)) bB = U bB :=
    (StableHlo.unary_result_ne _ _ _ _ _ _ (by decide)).trans ((StableHlo.nullary_result_ne _ _ _ _ (by decide)).trans
      (StableHlo.reshape_result_ne _ _ _ _ _ _ _ (by decide)))
  have e2 : (opZeros (F := F)).result ((opZero (F := F)).result ((opFlat (F := F)).result U)) b1
      = (broadcastInDim S15 ![] bcast_S_S15 (constant S_ .f32 0x00000000#32 : Vec F S_ .f32) : Vec F S15 .f32) :=
    (StableHlo.unary_result _ _ _ _ _ _).trans (congrArg _ (StableHlo.nullary_result _ _ _ _))
  show concatenate S48 0 [⟨S32, (opZeros (F := F)).result ((opZero (F := F)).result ((opFlat (F := F)).result U)) b0⟩,
    ⟨S1, (opZeros (F := F)).result ((opZero (F := F)).result ((opFlat (F := F)).result U)) bB⟩,
    ⟨S15, (opZeros (F := F)).result ((opZero (F := F)).result ((opFlat (F := F)).result U)) b1⟩] concatenates_S32_S1_S15_S48_d0 = _
  rw [e0, e1, e2]
  rfl

/-- The host's last operation gives its array's elements the shape of a column. -/
theorem col_result (U : Valuation τ sig (Elt F)) : (opCol (F := F)).result U bR = shapeCast S8192x1 (U bO) shapeCasts_S8192_S8192x1 :=
  StableHlo.reshape_result _ _ _ _ _ _ _

/-- It leaves every other array alone. -/
theorem col_of_ne (U : Valuation τ sig (Elt F)) {r : Ref sig .tc} (h : r ≠ main_v4) :
    (opCol (F := F)).result U (Proc.devRef .tc r) = U (Proc.devRef .tc r) := StableHlo.reshape_result_ne _ _ _ _ _ _ _ h

end Cert.Proof.Grouped

end
-- ==== Proof.Launch.lean ====
/-
  The kernel's launch: how the input, the weights and the result array are dealt out to the two cores and the sixteen subcores
  of each, and what comes back.
-/
module

public import Idealize.ShloMosaic.Lib.SparseCore.Stream
public import proofs.«01_k».proof.Proof.Host

@[expose] public section

noncomputable section

namespace Cert.Proof.Grouped

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem nSub_zero : (K (F := F)).nSub 0 = 16 := rfl
theorem nCore_zero : (K (F := F)).nCore 0 = 2 := rfl

/-- The share of the read arrays a core gets, and a subcore of it. -/
abbrev coreShare (c : Fin 2) : PosShare TreeShare := pieceOf fullShare 2 (by decide) c
abbrev subShare (c : Fin 2) (i : Fin 16) : PosShare TreeShare := pieceOf (coreShare c) 16 (by decide) i

/-- The block of the subcore `i` of core `c`. -/
abbrev blockAt (c : Fin 2) (i : Fin 16) : Fin 32 := ⟨2 * i.val + c.val, by omega⟩

/-- What a subcore of core `c` holds, the result array at `o`. -/
abbrev subPts (d : Dev nD) (x : Vec F S8192x4096 .f32) (w : Vec F S48 .f32) (c : Fin 2) (i : Fin 16) (o : Vec F S8192 .f32) : sProp (Mod F) :=
  iprop(xPts d (subShare c i) x ∗ wPts d (subShare c i) w ∗ oPts d (blockAt c i) o)
/-- What core `c` holds, the result array at `o`. -/
abbrev corePts (d : Dev nD) (x : Vec F S8192x4096 .f32) (w : Vec F S48 .f32) (c : Fin 2) (o : Vec F S8192 .f32) : sProp (Mod F) :=
  iprop(xPts d (coreShare c) x ∗ wPts d (coreShare c) w ∗ bigSep Finset.univ fun i : Fin 16 => oPts d (blockAt c i) o)

variable (m : (ℓ : Loc nD τ sig) → Buf (Elt F) ℓ)

/-- The weights as the host lays them out. -/
abbrev wOf (d : Dev nD) : Vec F S48 .f32 := weights (m (tcAt d main_arg1)) (m (tcAt d main_arg2))

/-- What the launch hands over and gets back. -/
def P : (K (F := F)).Pay (nD := nD) (Val := Elt F) (Name := ℕ) (U := UU) where
  st := fun q d c => match q with | 0 => corePts d (m (xLoc d)) (wOf m d) (Fin.cast nCore_zero c) (m (oLoc d))
  dn := fun q d c => match q with | 0 => corePts d (m (xLoc d)) (wOf m d) (Fin.cast nCore_zero c) (out (m (xLoc d)) (wOf m d))
  go := fun q d c i => match q with | 0 => subPts d (m (xLoc d)) (wOf m d) (Fin.cast nCore_zero c) (Fin.cast nSub_zero i) (m (oLoc d))
  td := fun q d c i => match q with
    | 0 => subPts d (m (xLoc d)) (wOf m d) (Fin.cast nCore_zero c) (Fin.cast nSub_zero i) (out (m (xLoc d)) (wOf m d))
  x := fun _ _ => iprop(emp)

instance P_storable : (P (F := F) m).IsStorable where
  st q d c := match q with
    | 0 => (inferInstance : BI.Storable (upEmb : UEmb _ 𝕄) (corePts d (m (xLoc d)) (wOf m d) (Fin.cast nCore_zero c) (m (oLoc d))))
  dn q d c := match q with
    | 0 => (inferInstance : BI.Storable (upEmb : UEmb _ 𝕄) (corePts d (m (xLoc d)) (wOf m d) (Fin.cast nCore_zero c) (out (m (xLoc d)) (wOf m d))))
  go q d c i := match q with
    | 0 => (inferInstance : BI.Storable (upEmb : UEmb _ 𝕄) (subPts d (m (xLoc d)) (wOf m d) (Fin.cast nCore_zero c) (Fin.cast nSub_zero i) (m (oLoc d))))
  td q d c i := match q with
    | 0 => (inferInstance : BI.Storable (upEmb : UEmb _ 𝕄)
        (subPts d (m (xLoc d)) (wOf m d) (Fin.cast nCore_zero c) (Fin.cast nSub_zero i) (out (m (xLoc d)) (wOf m d))))

/-! ## One task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s) xA (Memref.isWhole_whole _) wA (Memref.isWhole_whole _)
          oA (Memref.isWhole_whole _) xB (Memref.isWhole_whole _) wB (Memref.isWhole_whole _) oB (Memref.isWhole_whole _)
          cc0_scoped0 cc0_scoped1 cc0_scoped2) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (m (xLoc d)) (wOf m d) (m (oLoc d))
    (subShare (Fin.cast nCore_zero c) (Fin.cast nSub_zero i)) (subShare (Fin.cast nCore_zero c) (Fin.cast nSub_zero i)) hF O W hO

/-! ## Dealing out and collecting -/

theorem blockSet_eq (b : Fin 32) : blockSet b = (block b).set := by
  show ((View.whole (main_v3_scv : Ref sig .scVector)).slice (block b)).set = _
  rw [View.set_slice]; exact Finset.map_refl

/-- A subcore of a core, among the 32 blocks. -/
def dealt : Fin 2 × Fin 16 ≃ Fin 32 where
  toFun p := blockAt p.1 p.2
  invFun b := (⟨b.val % 2, by omega⟩, ⟨b.val / 2, by omega⟩)
  left_inv p := by
    refine Prod.ext (Fin.ext ?_) (Fin.ext ?_)
    · show (2 * p.2.val + p.1.val) % 2 = p.1.val
      omega
    · show (2 * p.2.val + p.1.val) / 2 = p.2.val
      omega
  right_inv b := Fin.ext (by show 2 * (b.val / 2) + b.val % 2 = b.val; omega)

/-- The result array is its 32 blocks, core by core and subcore by subcore. -/
theorem oPts_blocks (d : Dev nD) (o : Vec F S8192 .f32) :
    (oLoc d ↦{fullShare} o : sProp 𝕄) = bigSep Finset.univ fun c : Fin 2 => bigSep Finset.univ fun i : Fin 16 => oPts d (blockAt c i) o := by
  have h1 : (oLoc d ↦{fullShare} o : sProp 𝕄) = bigSep Finset.univ fun b : Fin 32 => oPts d b o := by
    have hd : ∀ i ∈ (Finset.univ : Finset (Fin 32)), ∀ j ∈ (Finset.univ : Finset (Fin 32)), i ≠ j → Disjoint (blockSet i) (blockSet j) :=
      fun i _ j _ h => by rw [blockSet_eq, blockSet_eq]; exact Rect.part_disjoint hdiv h
    have hc : (Finset.univ : Finset (Fin 32)).biUnion blockSet = Finset.univ :=
      (Finset.biUnion_congr rfl fun i _ => blockSet_eq i).trans (Rect.biUnion_part hdiv)
    unfold oPts
    rw [← pointsTo_biUnion Finset.univ (ℓ := oLoc d) blockSet hd, hc]; try rfl
  rw [h1, ← SparseCore.bigSep_product Finset.univ Finset.univ (fun p : Fin 2 × Fin 16 => oPts d (blockAt p.1 p.2) o), Finset.univ_product_univ]
  exact bigSep_univ_equiv dealt (fun b : Fin 32 => oPts d b o)

/-- An array at a share is the same array at the share's pieces. -/
theorem whole_pieces {ℓ : Loc nD τ sig} (f : Buf (Elt F) ℓ) (q : PosShare TreeShare) (n : ℕ) (hn : 0 < n) :
    (ℓ ↦{q} f : sProp 𝕄) = bigSep Finset.univ fun i : Fin n => (ℓ ↦{pieceOf q n hn i} f : sProp 𝕄) :=
  pointsTo_piecesOf Finset.univ f hn q

/-- Three families side by side, the first two of them pieces of a whole. -/
theorem three_pieces {n : ℕ} {A B : sProp 𝕄} {a b c : Fin n → sProp 𝕄} (hA : A = bigSep Finset.univ a) (hB : B = bigSep Finset.univ b) :
    iprop(A ∗ B ∗ bigSep Finset.univ c) = bigSep Finset.univ fun i => iprop(a i ∗ b i ∗ c i) := by
  rw [hA, hB, bigSep_sep', bigSep_sep']

/-- A core's share and its blocks are its subcores'. -/
theorem corePts_subs (d : Dev nD) (x : Vec F S8192x4096 .f32) (w : Vec F S48 .f32) (c : Fin 2) (o : Vec F S8192 .f32) :
    corePts d x w c o = bigSep Finset.univ fun i : Fin 16 => subPts d x w c i o :=
  three_pieces (whole_pieces (ℓ := xLoc d) x (coreShare c) 16 (by decide)) (whole_pieces (ℓ := wLoc d) w (coreShare c) 16 (by decide))

/-- The three arrays are the cores' parts. -/
theorem arrays_cores (d : Dev nD) (x : Vec F S8192x4096 .f32) (w : Vec F S48 .f32) (o : Vec F S8192 .f32) :
    (bigSep Finset.univ fun c : Fin 2 => corePts d x w c o)
      = iprop((xLoc d ↦{fullShare} x) ∗ (wLoc d ↦{fullShare} w) ∗ oLoc d ↦{fullShare} o : sProp 𝕄) := by
  rw [oPts_blocks]
  exact (three_pieces (whole_pieces (ℓ := xLoc d) x fullShare 2 (by decide)) (whole_pieces (ℓ := wLoc d) w fullShare 2 (by decide))).symm

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show corePts d (m (xLoc d)) (wOf m d) (Fin.cast nCore_zero c) (m (oLoc d)) ⊢ |={Set.univ}=> iprop(
      (bigSep Finset.univ fun i : Fin ((K (F := F)).nSub 0) => subPts d (m (xLoc d)) (wOf m d) (Fin.cast nCore_zero c) (Fin.cast nSub_zero i) (m (oLoc d)))
      ∗ ((bigSep Finset.univ fun i : Fin ((K (F := F)).nSub 0) =>
            subPts d (m (xLoc d)) (wOf m d) (Fin.cast nCore_zero c) (Fin.cast nSub_zero i) (out (m (xLoc d)) (wOf m d)))
          -∗ corePts d (m (xLoc d)) (wOf m d) (Fin.cast nCore_zero c) (out (m (xLoc d)) (wOf m d))))
  rw [bigSep_subs (fun i => subPts d (m (xLoc d)) (wOf m d) (Fin.cast nCore_zero c) i (m (oLoc d))),
    bigSep_subs (fun i => subPts d (m (xLoc d)) (wOf m d) (Fin.cast nCore_zero c) i (out (m (xLoc d)) (wOf m d))),
    ← corePts_subs, ← corePts_subs]
  iintro H; imodintro
  isplitl [H]; · iexact H
  iintro H; iexact H

/-- What the kernel starts from -/
theorem st0_eq (d : Dev nD) : (bigSep Finset.univ fun c : Fin ((K (F := F)).nCore 0) => (P m).st 0 d c)
    = iprop((xLoc d ↦{fullShare} m (xLoc d)) ∗ (wLoc d ↦{fullShare} wOf m d) ∗ oLoc d ↦{fullShare} m (oLoc d)) :=
  (bigSep_cores (fun c => corePts d (m (xLoc d)) (wOf m d) c (m (oLoc d)))).trans (arrays_cores d _ _ _)
/-- and what it ends with: the result array written. -/
theorem dn0_eq (d : Dev nD) : (bigSep Finset.univ fun c : Fin ((K (F := F)).nCore 0) => (P m).dn 0 d c)
    = iprop((xLoc d ↦{fullShare} m (xLoc d)) ∗ (wLoc d ↦{fullShare} wOf m d) ∗ oLoc d ↦{fullShare} out (m (xLoc d)) (wOf m d)) :=
  (bigSep_cores (fun c => corePts d (m (xLoc d)) (wOf m d) c (out (m (xLoc d)) (wOf m d)))).trans (arrays_cores d _ _ _)

end Cert.Proof.Grouped

end
-- ==== Proof.Run.lean ====
/-
  The kernel's whole run: from any memory it ends with its result array written and its arguments as they were.
-/
module

public import Idealize.ShloMosaic.Adequacy
public import proofs.«01_k».proof.Proof.Launch

@[expose] public section

noncomputable section

namespace Cert.Proof.Grouped

open Cert.KernelIdeal Cert.KernelIdeal.Gen

open Idealize.ShloMosaic
open Idealize.ShloMosaic.SparseCore (S V T)
open Idealize.ShloMosaic.SparseCore.Cfg (HIx Pay)
open Idealize.ShloMosaic.StableHlo (held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's own resources -/

def u₀ : UU := (initOf (K (F := F)).hsCells (K (F := F)).hsToks, 1)

theorem bigSep_empty {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_empty]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_empty]
  iempintro

/-! ## The host's contents, step by step -/

/-- The contents at the start; -/
def V0 (d : Dev nD) : Valuation τ sig (Elt F) := fun b => m (d, b)
/-- before the kernel; -/
def V4 (d : Dev nD) : Valuation τ sig (Elt F) := laid (V0 m d)
/-- after it. -/
def V5 (d : Dev nD) : Valuation τ sig (Elt F) := Function.update (V4 m d) bO (out (m (xLoc d)) (wOf m d))

theorem V4_w (d : Dev nD) : V4 m d bW = wOf m d := laid_weights _
theorem V4_of_ne (d : Dev nD) {r : Ref sig .tc} (h0 : r ≠ main_v0) (hc : r ≠ main_cst) (h1 : r ≠ main_v1) (h2 : r ≠ main_v2) :
    V4 m d (Proc.devRef .tc r) = m (tcAt d r) := laid_of_ne _ h0 hc h1 h2
theorem V4_x (d : Dev nD) : V4 m d bX = m (xLoc d) := V4_of_ne m d (by decide) (by decide) (by decide) (by decide)
theorem V4_o (d : Dev nD) : V4 m d bO = m (oLoc d) := V4_of_ne m d (by decide) (by decide) (by decide) (by decide)
theorem V4_A (d : Dev nD) : V4 m d bA = m (tcAt d main_arg1) := V4_of_ne m d (by decide) (by decide) (by decide) (by decide)
theorem V4_B (d : Dev nD) : V4 m d bB = m (tcAt d main_arg2) := V4_of_ne m d (by decide) (by decide) (by decide) (by decide)

theorem V5_o (d : Dev nD) : V5 m d bO = out (m (xLoc d)) (wOf m d) := Function.update_self _ _ _
theorem V5_of_ne (d : Dev nD) {b : DevRef τ sig} (h : b ≠ bO) : V5 m d b = V4 m d b := Function.update_of_ne h _ _

/-- What the host ends with in its last array. -/
abbrev res (d : Dev nD) : Vec F S8192x1 .f32 := result (m (xLoc d)) (m (tcAt d main_arg1)) (m (tcAt d main_arg2))

/-- The nine arrays before the kernel. -/
theorem held_before (d : Dev nD) :
    (StableHlo.held (SparseCore.T d) arrays
        ((opJoin (F := F)).result ((opZeros (F := F)).result ((opZero (F := F)).result ((opFlat (F := F)).result (V0 m d))))) : sProp 𝕄)
      = iprop((xLoc d ↦{fullShare} m (xLoc d)) ∗ (tcAt d main_arg1 ↦{fullShare} m (tcAt d main_arg1)) ∗ (tcAt d main_arg2 ↦{fullShare} m (tcAt d main_arg2))
          ∗ (tcAt d main_v0 ↦{fullShare} V4 m d b0) ∗ (tcAt d main_cst ↦{fullShare} V4 m d bC) ∗ (tcAt d main_v1 ↦{fullShare} V4 m d b1)
          ∗ (wLoc d ↦{fullShare} wOf m d) ∗ (oLoc d ↦{fullShare} m (oLoc d)) ∗ tcAt d main_v4 ↦{fullShare} V4 m d bR) := by
  show StableHlo.held (SparseCore.T d) arrays (V4 m d) = _
  rw [held_arrays, V4_x, V4_A, V4_B, V4_w, V4_o]

/-- The nine arrays after the kernel. -/
theorem held_after (d : Dev nD) :
    (StableHlo.held (SparseCore.T d) arrays (V5 m d) : sProp 𝕄)
      = iprop((xLoc d ↦{fullShare} m (xLoc d)) ∗ (tcAt d main_arg1 ↦{fullShare} m (tcAt d main_arg1)) ∗ (tcAt d main_arg2 ↦{fullShare} m (tcAt d main_arg2))
          ∗ (tcAt d main_v0 ↦{fullShare} V4 m d b0) ∗ (tcAt d main_cst ↦{fullShare} V4 m d bC) ∗ (tcAt d main_v1 ↦{fullShare} V4 m d b1)
          ∗ (wLoc d ↦{fullShare} wOf m d) ∗ (oLoc d ↦{fullShare} out (m (xLoc d)) (wOf m d)) ∗ tcAt d main_v4 ↦{fullShare} V4 m d bR) := by
  rw [held_arrays, V5_o, V5_of_ne m d (b := bX) (by decide), V5_of_ne m d (b := bA) (by decide), V5_of_ne m d (b := bB) (by decide),
    V5_of_ne m d (b := b0) (by decide), V5_of_ne m d (b := bC) (by decide), V5_of_ne m d (b := b1) (by decide),
    V5_of_ne m d (b := bW) (by decide), V5_of_ne m d (b := bR) (by decide), V4_x, V4_A, V4_B, V4_w]

/-- The nine arrays at the end. -/
theorem held_end (d : Dev nD) :
    (StableHlo.held (SparseCore.T d) arrays ((opCol (F := F)).result (V5 m d)) : sProp 𝕄)
      = iprop((xLoc d ↦{fullShare} m (xLoc d)) ∗ (tcAt d main_arg1 ↦{fullShare} m (tcAt d main_arg1)) ∗ (tcAt d main_arg2 ↦{fullShare} m (tcAt d main_arg2))
          ∗ (tcAt d main_v0 ↦{fullShare} (opCol (F := F)).result (V5 m d) b0) ∗ (tcAt d main_cst ↦{fullShare} (opCol (F := F)).result (V5 m d) bC)
          ∗ (tcAt d main_v1 ↦{fullShare} (opCol (F := F)).result (V5 m d) b1) ∗ (wLoc d ↦{fullShare} (opCol (F := F)).result (V5 m d) bW)
          ∗ (oLoc d ↦{fullShare} (opCol (F := F)).result (V5 m d) bO) ∗ tcAt d main_v4 ↦{fullShare} res m d) := by
  have eX : (opCol (F := F)).result (V5 m d) bX = m (xLoc d) := (col_of_ne _ (by decide)).trans ((V5_of_ne m d (by decide)).trans (V4_x m d))
  have eA : (opCol (F := F)).result (V5 m d) bA = m (tcAt d main_arg1) := (col_of_ne _ (by decide)).trans ((V5_of_ne m d (by decide)).trans (V4_A m d))
  have eB : (opCol (F := F)).result (V5 m d) bB = m (tcAt d main_arg2) := (col_of_ne _ (by decide)).trans ((V5_of_ne m d (by decide)).trans (V4_B m d))
  have eR : (opCol (F := F)).result (V5 m d) bR = res m d := (col_result _).trans (by rw [V5_o]; rfl)
  rw [held_arrays, eX, eA, eB, eR]

/-! ## The host's program -/

/-- What the host keeps to the end: the arguments as they were, the result written. -/
abbrev FIN (d : Dev nD) : sProp 𝕄 :=
  iprop((xLoc d ↦{fullShare} m (xLoc d)) ∗ (tcAt d main_arg1 ↦{fullShare} m (tcAt d main_arg1)) ∗ (tcAt d main_arg2 ↦{fullShare} m (tcAt d main_arg2))
    ∗ tcAt d main_v4 ↦{fullShare} res m d)

/-- The host's program: four operations lay the weights out, the kernel runs, one more operation gives the result its shape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) arrays (V0 m d) from unscoped_arrays d m]
  simp only [main, wp_bind, wp_pure]
  iintro ⟨#Hctx, Hst, ⟨Hb, Hheld, Hts, -⟩, -⟩
  iapply (wp_hlo_within 𝒱 (SparseCore.T d) none Set.univ (op := opFlat) (S := arrays) hFlat (V := V0 m d)) $$ [Hb Hheld]
  · isplitl [Hb] <;> iassumption
  iintro ⟨Hb, Hheld⟩
  rw [wp_ret]; imodintro
  iapply (wp_hlo_within 𝒱 (SparseCore.T d) none Set.univ (op := opZero) (S := arrays) hZero (V := (opFlat (F := F)).result (V0 m d))) $$ [Hb Hheld]
  · isplitl [Hb] <;> iassumption
  iintro ⟨Hb, Hheld⟩
  rw [wp_ret]; imodintro
  iapply (wp_hlo_within 𝒱 (SparseCore.T d) none Set.univ (op := opZeros) (S := arrays) hZeros
    (V := (opZero (F := F)).result ((opFlat (F := F)).result (V0 m d)))) $$ [Hb Hheld]
  · isplitl [Hb] <;> iassumption
  iintro ⟨Hb, Hheld⟩
  rw [wp_ret]; imodintro
  iapply (wp_hlo_within 𝒱 (SparseCore.T d) none Set.univ (op := opJoin) (S := arrays) hJoin
    (V := (opZeros (F := F)).result ((opZero (F := F)).result ((opFlat (F := F)).result (V0 m d))))) $$ [Hb Hheld]
  · isplitl [Hb] <;> iassumption
  iintro ⟨Hb, Hheld⟩
  rw [wp_ret]; imodintro
  ihave Hh := (Entails.of_eq (held_before (F := F) m d)) $$ Hheld
  icases Hh with ⟨Hx, HA, HB, H0, HC, H1, Hw, Ho, HR⟩
  iapply ((K (F := F)).wp_run (D (F := F)) 𝒱 (EH := EH) (P := P m) κ d 0) $$ [Hst Hx HA HB H0 HC H1 Hw Ho HR Hb Hts]
  isplitr; · iexact Hctx
  isplitl [Hst]; · iexact Hst
  isplitl [Hx Hw Ho]
  · rw [st0_eq]
    isplitl [Hx]; · iexact Hx
    isplitl [Hw]; · iexact Hw
    iexact Ho
  iintro ⟨Hst, Hdn⟩
  ihave Hdn' := (Entails.of_eq (dn0_eq m d)) $$ Hdn
  icases Hdn' with ⟨Hx, Hw, Ho⟩
  iapply (wp_hlo_within 𝒱 (SparseCore.T d) none Set.univ (op := opCol) (S := arrays) hCol (V := V5 m d)) $$ [Hb Hx HA HB H0 HC H1 Hw Ho HR]
  · isplitl [Hb]; · iexact Hb
    rw [held_after]
    isplitl [Hx]; · iexact Hx
    isplitl [HA]; · iexact HA
    isplitl [HB]; · iexact HB
    isplitl [H0]; · iexact H0
    isplitl [HC]; · iexact HC
    isplitl [H1]; · iexact H1
    isplitl [Hw]; · iexact Hw
    isplitl [Ho]; · iexact Ho
    iexact HR
  iintro ⟨Hb, Hheld⟩
  ihave Hh := (Entails.of_eq (held_end (F := F) m d)) $$ Hheld
  icases Hh with ⟨Hx, HA, HB, -, -, -, -, -, HR⟩
  rw [wp_ret]; imodintro; imodintro
  isplitl [Hst]; · iexact Hst
  isplitr [Hb Hts]
  · isplitl [Hx]; · iexact Hx
    isplitl [HA]; · iexact HA
    isplitl [HB]; · iexact HB
    iexact HR
  isplitl [Hb] <;> iassumption

/-! ## The end of the run -/

/-- What is read off the final memory. -/
def fq (d : Dev nD) (s' : Phys nD τ sig (Elt F)) : Prop :=
  s'.mem.mem (xLoc d) = m (xLoc d) ∧ s'.mem.mem (tcAt d main_arg1) = m (tcAt d main_arg1) ∧ s'.mem.mem (tcAt d main_arg2) = m (tcAt d main_arg2)
    ∧ s'.mem.mem (tcAt d main_v4) = res m d

theorem hfin (d : Dev nD) (s' : Phys nD τ sig (Elt F)) : iprop(FIN m d ∗ SI s') ⊢ (⌜fq m d s'⌝ : sProp 𝕄) := by
  iintro ⟨⟨Hx, HA, HB, HR⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := tcAt d main_arg1) (I := Finset.univ) (q := fullShare)
    (f := m (tcAt d main_arg1)))) $$ [HSI HA]
  · isplitl [HSI] <;> iassumption
  icases H with ⟨%hA, HSI, -⟩
  ihave H := (persistent_entails_right (SI_pointsTo_agree (st := s') (ℓ := tcAt d main_arg2) (I := Finset.univ) (q := fullShare)
    (f := m (tcAt d main_arg2)))) $$ [HSI HB]
  · isplitl [HSI] <;> iassumption
  icases H with ⟨%hB, HSI, -⟩
  ihave H := (SI_pointsTo_agree (st := s') (ℓ := tcAt d main_v4) (I := Finset.univ) (q := fullShare) (f := res m d)) $$ [HSI HR]
  · isplitl [HSI] <;> iassumption
  icases H with %hR
  ipureintro
  exact ⟨funext fun i => hx i (Finset.mem_univ i), funext fun i => hA i (Finset.mem_univ i), funext fun i => hB i (Finset.mem_univ i),
    funext fun i => hR i (Finset.mem_univ i)⟩

def QC : PUnit × MemSt nD τ sig (Elt F) → Prop := fun r =>
  (∀ c : Dev nD, r.2.mem (xLoc c) = m (xLoc c) ∧ r.2.mem (tcAt c main_arg1) = m (tcAt c main_arg1) ∧ r.2.mem (tcAt c main_arg2) = m (tcAt c main_arg2)
    ∧ r.2.mem (tcAt c main_v4) = res m c) ∧ r.2.sem = fun _ => 0

/-- The run: the result is written, the arguments are kept and every semaphore ends at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Grouped

end
-- ==== Proof.Rotate.lean ====
/-
  Sums and maxima do not depend on where a walk around a circle starts.
-/
module

public import proofs.«01_k».proof.Proof.Chunk
public import Idealize.ShloMosaic.Lib.ValueIdxCore

@[expose] public section

noncomputable section

namespace Cert.Proof.Grouped

open Cert.KernelIdeal Cert.KernelIdeal.Gen
open Idealize.ShloMosaic

/-- `l` places further round a circle of `n`. -/
def turn (n : ℕ) [NeZero n] (l : ℕ) : Fin n ≃ Fin n := Equiv.addRight (Fin.ofNat n l)

theorem turn_val (n : ℕ) [NeZero n] (l : ℕ) (k : Fin n) : (turn n l k).val = (k.val + l) % n := by
  show (k + Fin.ofNat n l).val = _
  rw [Fin.val_add, Fin.val_ofNat, Nat.add_mod_mod]

theorem sum_turn (n : ℕ) [NeZero n] (l : ℕ) (f : Fin n → EReal) : ∑ k, f (turn n l k) = ∑ k, f k := Equiv.sum_comp (turn n l) f

theorem sup_turn (n : ℕ) [NeZero n] (l : ℕ) (f : Fin n → EReal) :
    (Finset.univ.sup fun k => f (turn n l k)) = Finset.univ.sup f := by
  rw [Finset.sup_univ_eq_iSup, Finset.sup_univ_eq_iSup]
  exact Equiv.iSup_comp (g := f) (turn n l)

/-- Arrays added one after another, at an index, -/
theorem foldl_addf_apply {β : Type} (l : List β) (g : β → FVec Ideal S16 .f32) (a : FVec Ideal S16 .f32) (x : S16.Idx) :
    (l.foldl (fun a j => addf a (g j)) a) x = (a x + (l.map fun j => (g j x : EReal)).sum : EReal) := by
  induction l generalizing a with
  | nil => exact (add_zero (a x : EReal)).symm
  | cons j l ih =>
    rw [List.foldl_cons, ih, List.map_cons, List.sum_cons]
    exact add_assoc (a x : EReal) (g j x) _

/-- over a list that counts from zero, -/
theorem foldl_addf_ofFn {β : Type} {n : ℕ} (l : List β) (e : Fin n → β) (he : l = List.ofFn e) (g : β → FVec Ideal S16 .f32)
    (a : FVec Ideal S16 .f32) (x : S16.Idx) :
    (l.foldl (fun a j => addf a (g j)) a) x = (a x + ∑ k : Fin n, (g (e k) x : EReal) : EReal) := by
  rw [foldl_addf_apply, he, List.map_ofFn, List.sum_ofFn]
  rfl

/-- and the maximum of eight. -/
theorem max_eight (f : Fin 8 → EReal) :
    max (max (max (max (max (max (max (f 0) (f 1)) (f 2)) (f 3)) (f 4)) (f 5)) (f 6)) (f 7) = Finset.univ.sup f := by
  refine le_antisymm ?_ (Finset.sup_le fun k _ => ?_)
  · have h : ∀ k, f k ≤ Finset.univ.sup f := fun k => Finset.le_sup (Finset.mem_univ k)
    exact max_le (max_le (max_le (max_le (max_le (max_le (max_le (h _) (h _)) (h _)) (h _)) (h _)) (h _)) (h _)) (h _)
  · fin_cases k <;> simp only [le_max_iff, le_refl, true_or, or_true] <;> simp

end Cert.Proof.Grouped

end
-- ==== Proof.Lanes.lean ====
/-
  What a lane computes, over the extended reals: the order in which it walks a group's columns does not matter, so its row's
  result is the bias plus the weighted maxima and the weighted single entries.
-/
module

public import proofs.«01_k».proof.Proof.Rotate

@[expose] public section

noncomputable section

namespace Cert.Proof.Grouped

open Cert.KernelIdeal Cert.KernelIdeal.Gen
open Idealize.ShloMosaic
open Idealize.ShloMosaic.ValueIdx

/-- Lane `l` at step `j` of a walk around `2 ^ p` columns meets column `(j + l) mod 2 ^ p`. -/
theorem cols_spin (c m j : BitVec 32) (p : ℕ) (hm : m.toNat = 2 ^ p - 1) (hc : c.toNat + m.toNat < 128) (hj : j.toNat < 16) (x : S16.Idx) :
    (cols c m (spin j) x).toNat = c.toNat + (j.toNat + (x 0).val) % 2 ^ p := by
  have hx : (x 0).val < 16 := (x 0).isLt
  have h1 : ((j + lane x) &&& m).toNat ≤ m.toNat := by rw [BitVec.toNat_and]; exact Nat.and_le_right
  show (c + ((j + lane x) &&& m)).toNat = _
  rw [BitVec.toNat_add, Nat.mod_eq_of_lt (by omega), BitVec.toNat_and, hm, Nat.and_two_pow_sub_one_eq_mod, lane_apply, BitVec.toNat_add,
    BitVec.toNat_ofNat]
  congr 2
  omega

/-- Step `k` of a lane's walk over the weights, -/
theorem pickW_apply (W : Vec Ideal S48 .f32) (x : S16.Idx) (c m : BitVec 32) (h : c.toNat + m.toNat < 48) (n p : ℕ) [NeZero n] (hn : n = 2 ^ p) (hm : m.toNat = 2 ^ p - 1) (k : Fin n)
    (hk : n ≤ 16) (hc : c.toNat + n ≤ 48) :
    pickW W c m h (spin (BitVec.ofNat 32 k.val)) x
      = W (ix1 (⟨c.toNat + (turn n (x 0).val k).val, by have := (turn n (x 0).val k).isLt; omega⟩ : Fin 48)) := by
  have hkl := k.isLt
  have e : (BitVec.ofNat 32 k.val).toNat = k.val := by rw [BitVec.toNat_ofNat]; omega
  unfold pickW loadIdx
  congr 1
  funext a
  refine Fin.ext ?_
  match a with
  | ⟨0, _⟩ =>
    refine (cols_spin c m _ p hm (by omega) (by omega) x).trans ?_
    rw [e, ← hn]
    exact congrArg (c.toNat + ·) (turn_val n _ k).symm

section Values

variable (X : Vec Ideal S256x128 .f32) (W : Vec Ideal S48 .f32) (t : Fin k0_t1_loop.trips) (q : BitVec 32) (hq : q.toNat < 4)
variable (x : S16.Idx) (row : Fin 256) (hrow : 64 * t.val + 16 * q.toNat + (x 0).val = row.val)

include hrow in
/-- and over the row's entries. -/
theorem pickX_apply (c m : BitVec 32) (h : c.toNat + m.toNat < 128) (n p : ℕ) [NeZero n] (hn : n = 2 ^ p) (hm : m.toNat = 2 ^ p - 1) (k : Fin n)
    (hk : n ≤ 16) (hc : c.toNat + n ≤ 128) :
    pickX X t q hq c m h (spin (BitVec.ofNat 32 k.val)) x
      = X (ix2 row (⟨c.toNat + (turn n (x 0).val k).val, by have := (turn n (x 0).val k).isLt; omega⟩ : Fin 128)) := by
  have hkl := k.isLt
  have e : (BitVec.ofNat 32 k.val).toNat = k.val := by rw [BitVec.toNat_ofNat]; omega
  unfold pickX loadIdx
  congr 1
  funext a
  refine Fin.ext ?_
  match a with
  | ⟨0, _⟩ => exact (rowsAt_toNat t q hq x).trans hrow
  | ⟨1, _⟩ =>
    refine (cols_spin c m _ p hm h (by omega) x).trans ?_
    rw [e, ← hn]
    exact congrArg (c.toNat + ·) (turn_val n _ k).symm

include hrow in
/-- The maximum of the row's entries in eight columns. -/
theorem groupMax_apply (c : BitVec 32) (h : c.toNat + (7#32).toNat < 128) (hc : c.toNat + 8 ≤ 128) :
    groupMax X t q hq c h x = Finset.univ.sup fun k : Fin 8 => (X (ix2 row (⟨c.toNat + k.val, by omega⟩ : Fin 128)) : EReal) := by
  have h0 : pickX X t q hq c 7#32 h lane = pickX X t q hq c 7#32 h (spin (BitVec.ofNat 32 (0 : Fin 8).val)) := by
    have e : (lane : IVec S16 32) = spin (BitVec.ofNat 32 (0 : Fin 8).val) := funext fun y => (BitVec.zero_add _).symm
    congr 1
  unfold groupMax
  rw [h0]
  refine (max_eight fun k : Fin 8 => (pickX X t q hq c 7#32 h (spin (BitVec.ofNat 32 k.val)) x : EReal)).trans ?_
  simp only [pickX_apply X t q hq x row hrow c 7#32 h 8 3 rfl rfl _ (by decide) hc]
  exact sup_turn 8 (x 0).val fun k : Fin 8 => (X (ix2 row (⟨c.toNat + k.val, by omega⟩ : Fin 128)) : EReal)

include hrow in
/-- The row's weighted entries in the `n` columns from `c` on, met in turn. -/
theorem singles_apply (cw c m : BitVec 32) (hw : cw.toNat + m.toNat < 48) (h : c.toNat + m.toNat < 128) (n p : ℕ) [NeZero n] (hn : n = 2 ^ p)
    (hm : m.toNat = 2 ^ p - 1) (hk : n ≤ 16) (hcw : cw.toNat + n ≤ 48) (hc : c.toNat + n ≤ 128) (l : List (BitVec 32))
    (hl : l = List.ofFn fun k : Fin n => BitVec.ofNat 32 k.val) (a : FVec Ideal S16 .f32) :
    (l.foldl (fun a j => addf a (mulf (pickW W cw m hw (spin j)) (pickX X t q hq c m h (spin j)))) a) x
      = (a x + ∑ k : Fin n, (W (ix1 (⟨cw.toNat + k.val, by omega⟩ : Fin 48)) * X (ix2 row (⟨c.toNat + k.val, by omega⟩ : Fin 128)) : EReal) : EReal) := by
  rw [foldl_addf_ofFn l _ hl]
  refine congrArg (fun s : EReal => a x + s) (Eq.trans (Finset.sum_congr rfl fun k _ => ?_)
    (sum_turn n (x 0).val fun k : Fin n => (W (ix1 (⟨cw.toNat + k.val, by omega⟩ : Fin 48)) * X (ix2 row (⟨c.toNat + k.val, by omega⟩ : Fin 128)) : EReal)))
  exact congrArg₂ (fun u v : EReal => u * v) (pickW_apply W x cw m hw n p hn hm k hk hcw) (pickX_apply X t q hq x row hrow c m h n p hn hm k hk hc)

include hrow in
/-- The row's result. -/
theorem chunk_apply (hb : FVec Ideal S16 .f32) (w : Fin 12 → FVec Ideal S16 .f32) :
    chunk X W t q hq hb w x
      = (hb x + ∑ g : Fin 12, (w g x : EReal) * Finset.univ.sup (fun k : Fin 8 => (X (ix2 row (⟨8 * g.val + k.val, by omega⟩ : Fin 128)) : EReal))
          + ∑ k : Fin 16, (W (ix1 (⟨12 + k.val, by omega⟩ : Fin 48)) * X (ix2 row (⟨96 + k.val, by omega⟩ : Fin 128)) : EReal)
          + ∑ k : Fin 4, (W (ix1 (⟨28 + k.val, by omega⟩ : Fin 48)) * X (ix2 row (⟨112 + k.val, by omega⟩ : Fin 128)) : EReal) : EReal) := by
  unfold chunk
  refine (singles_apply X W t q hq x row hrow 28#32 112#32 3#32 _ _ 4 2 rfl rfl (by decide) (by decide) (by decide) _ (by decide) _).trans ?_
  refine congrArg (fun s : EReal => s + _) ?_
  refine (singles_apply X W t q hq x row hrow 12#32 96#32 15#32 _ _ 16 4 rfl rfl (by decide) (by decide) (by decide) _ (by decide) _).trans ?_
  refine congrArg (fun s : EReal => s + _) ?_
  unfold groupSum
  refine (foldl_addf_ofFn _ (fun g : Fin 12 => g) (by decide) _ hb x).trans ?_
  refine congrArg (fun s : EReal => hb x + s) (Finset.sum_congr rfl fun g _ => ?_)
  have hg : (BitVec.ofNat 32 (8 * g.val)).toNat = 8 * g.val := by rw [BitVec.toNat_ofNat]; omega
  refine congrArg (fun s : EReal => (w g x : EReal) * s) ((groupMax_apply X t q hq x row hrow _ _ (by omega)).trans ?_)
  simp only [hg]

end Values

end Cert.Proof.Grouped

end
-- ==== Proof.Target.lean ====
/-
  The mathematics both programs compute, entry by entry, over the extended reals: the maxima of twelve groups of eight
  columns and the next twenty columns, each times its weight, and the bias.
-/
module

public import Idealize.ShloMosaic.Lib.ValueIdxCore
public import Idealize.ShloMosaic.PureOps.Ideal

@[expose] public section

noncomputable section

namespace Cert.Proof.Target

open Idealize.ShloMosaic Idealize.ShloMosaic.ValueIdx

abbrev Rows : Type := (⟨2, ![8192, 4096]⟩ : Shape).Idx → EReal
abbrev Weights : Type := (⟨2, ![32, 1]⟩ : Shape).Idx → EReal

/-- The largest entry of row `r` in the columns of group `g`. -/
def top (x : Rows) (r : Fin 8192) (g : Fin 12) : EReal :=
  Finset.univ.sup fun k : Fin 8 => x (ix2 r (⟨8 * g.val + k.val, by omega⟩ : Fin 4096))

/-- Row `r`'s entry in the `k`th column after the groups. -/
def single (x : Rows) (r : Fin 8192) (k : Fin 20) : EReal := x (ix2 r (⟨96 + k.val, by omega⟩ : Fin 4096))

/-- Weight number `f`. -/
def weight (W : Weights) (f : Fin 32) : EReal := W (ix2 f (0 : Fin 1))

/-- Row `r`'s result. -/
def value (x : Rows) (W : Weights) (b : EReal) (r : Fin 8192) : EReal :=
  ((∑ g : Fin 12, top x r g * weight W (g.castAdd 20)) + ∑ k : Fin 20, single x r k * weight W (k.natAdd 12)) + b

end Cert.Proof.Target

end
-- ==== Proof.Equation.lean ====
/-
  The kernel's result over the extended reals: each row's entry is the bias plus the row's weighted group maxima and weighted
  single entries, which is the sum the reference forms in another order.
-/
module

public import Idealize.ShloMosaic.Lib.Pipeline.Value
public import proofs.«01_k».proof.Proof.Lanes
public import proofs.«01_k».proof.Proof.Target
public import proofs.«01_k».proof.Proof.Host

@[expose] public section

noncomputable section

namespace Cert.Proof.Grouped

open Cert.KernelIdeal Cert.KernelIdeal.Gen
open Idealize.ShloMosaic
open Idealize.ShloMosaic.ValueIdx

section Weights

variable {F : FTy → Type} [FloatOps F]

/-- The array of weights holds the weights first, -/
theorem weights_apply (W : Vec F S32x1 .f32) (b : Vec F S1 .f32) (f : Fin 48) (h : f.val < 32) :
    weights W b (ix1 f) = W (ix2 (⟨f.val, h⟩ : Fin 32) (0 : Fin 1)) := by
  unfold weights
  refine (concatenate_apply_piece 0 _ _ (ix1 f) 0 (by simp) S32 (shapeCast S32 W shapeCasts_S32x1_S32) rfl rfl 0 rfl
    (ix1 (⟨f.val, h⟩ : Fin 32)) ?_ (Nat.zero_add _)).trans ?_
  · intro c hc
    exact absurd (Subsingleton.elim (α := Fin 1) _ _) hc
  · refine shapeCast_apply _ _ _ (ix2 (⟨f.val, h⟩ : Fin 32) (0 : Fin 1)) ?_
    rw [Shape.rowMajor_val_one, Shape.rowMajor_val_two]
    show f.val * 1 + 0 = f.val
    omega

/-- then the bias. -/
theorem weights_bias (W : Vec F S32x1 .f32) (b : Vec F S1 .f32) : weights W b (ix1 (⟨32, by decide⟩ : Fin 48)) = b (ix1 (0 : Fin 1)) := by
  unfold weights
  refine concatenate_apply_piece 0 _ _ (ix1 (⟨32, by decide⟩ : Fin 48)) 1 (by simp) S1 b rfl rfl 32 rfl (ix1 (0 : Fin 1)) ?_ rfl
  intro c hc
  exact absurd (Subsingleton.elim (α := Fin 1) _ _) hc

/-- Sixteen weights read from the first on, -/
theorem headW_apply (W : Vec F S48 .f32) (k : Fin 16) : headW W (ix1 k) = W (ix1 (⟨k.val, by omega⟩ : Fin 48)) := by
  refine congrArg W (funext fun a => Fin.ext ?_)
  obtain rfl : a = 0 := Subsingleton.elim (α := Fin 1) _ _
  show 0 + 1 * k.val = k.val
  omega

/-- and the entry after the last weight. -/
theorem tailW_apply (W : Vec F S48 .f32) : tailW W (ix1 (0 : Fin 16)) = W (ix1 (⟨32, by decide⟩ : Fin 48)) := by
  refine congrArg W (funext fun a => Fin.ext ?_)
  obtain rfl : a = 0 := Subsingleton.elim (α := Fin 1) _ _
  rfl

/-- Every lane holds group `g`'s weight. -/
theorem groupW_apply (v : Vec F S16 .f32) (g : Fin 12) (x : S16.Idx) : groupW v g x = v (ix1 (⟨g.val, by omega⟩ : Fin 16)) := by
  fin_cases g <;>
    exact congrArg v (funext fun a => Fin.ext (by obtain rfl : a = 0 := Subsingleton.elim (α := Fin 1) _ _; rfl))

/-- Every lane holds the bias. -/
theorem bias_apply (v : Vec F S16 .f32) (x : S16.Idx) : k0_pay1 v x = v (ix1 (0 : Fin 16)) :=
  congrArg v (funext fun a => Fin.ext (by obtain rfl : a = 0 := Subsingleton.elim (α := Fin 1) _ _; rfl))

end Weights

/-- Row `p` of a block of rows, as computed from the block and the array of weights. -/
theorem blockOut_apply (x : Vec Ideal S8192x4096 .f32) (W : Vec Ideal S48 .f32) (b : Fin 32) (p : Fin 256) :
    blockOut x W b (ix1 p)
      = (W (ix1 (⟨32, by decide⟩ : Fin 48))
          + ∑ g : Fin 12, W (ix1 (⟨g.val, by omega⟩ : Fin 48)) * Finset.univ.sup (fun k : Fin 8 => (blockX x b (ix2 p (⟨8 * g.val + k.val, by omega⟩ : Fin 128)) : EReal))
          + ∑ k : Fin 16, (W (ix1 (⟨12 + k.val, by omega⟩ : Fin 48)) * blockX x b (ix2 p (⟨96 + k.val, by omega⟩ : Fin 128)) : EReal)
          + ∑ k : Fin 4, (W (ix1 (⟨28 + k.val, by omega⟩ : Fin 48)) * blockX x b (ix2 p (⟨112 + k.val, by omega⟩ : Fin 128)) : EReal) : EReal) := by
  have hp := p.isLt
  unfold blockOut
  generalize blockX x b = X
  refine (chunk_apply X W (tripOf p) (chunkOf p) (chunkOf_lt p) (laneIx ⟨p.val % 16, Nat.mod_lt _ (by decide)⟩) p ?_ _ _).trans ?_
  · rw [chunkOf_toNat]
    show 64 * (p.val / 64) + 16 * (p.val % 64 / 16) + p.val % 16 = p.val
    omega
  · simp only [groupW_apply, bias_apply, tailW_apply, headW_apply]

/-- Row `r` of the kernel's result. -/
theorem result_row (x : Vec Ideal S8192x4096 .f32) (W : Vec Ideal S32x1 .f32) (b : Vec Ideal S1 .f32) (r : Fin 8192) :
    result x W b (ix2 r (0 : Fin 1)) = Target.value x W (b (ix1 (0 : Fin 1))) r := by
  have hr := r.isLt
  have hx : ∀ (c : ℕ) (h : c < 128), blockX x (⟨r.val / 256, by omega⟩ : Fin 32) (ix2 (⟨r.val % 256, by omega⟩ : Fin 256) (⟨c, h⟩ : Fin 128))
      = x (ix2 r (⟨c, by omega⟩ : Fin 4096)) := fun c h => by
    refine congrArg x (funext fun a => Fin.ext ?_)
    match a with
    | ⟨0, _⟩ =>
      show 256 * (r.val / 256) + r.val % 256 = r.val
      omega
    | ⟨1, _⟩ => rfl
  have hw : ∀ (f : ℕ) (h : f < 32), weights W b (ix1 (⟨f, by omega⟩ : Fin 48)) = Target.weight W ⟨f, h⟩ := fun f h => weights_apply W b ⟨f, by omega⟩ h
  unfold result
  refine (shapeCast_apply _ _ _ (ix1 r) ?_).trans ?_
  · rw [Shape.rowMajor_val_one, Shape.rowMajor_val_two]
    show r.val = r.val * 1 + 0
    omega
  refine (out_eq x (weights W b) ⟨r.val / 256, by omega⟩ (ix1 r) (ix1 (⟨r.val % 256, by omega⟩ : Fin 256)) ?_).trans ?_
  · show r.val = 256 * (r.val / 256) + r.val % 256
    omega
  refine (blockOut_apply x (weights W b) _ _).trans ?_
  rw [weights_bias]
  have e1 : (∑ g : Fin 12, weights W b (ix1 (⟨g.val, by omega⟩ : Fin 48)) * Finset.univ.sup (fun k : Fin 8 =>
        (blockX x (⟨r.val / 256, by omega⟩ : Fin 32) (ix2 (⟨r.val % 256, by omega⟩ : Fin 256) (⟨8 * g.val + k.val, by omega⟩ : Fin 128)) : EReal)) : EReal)
      = ∑ g : Fin 12, Target.top x r g * Target.weight W (g.castAdd 20) := by
    refine Finset.sum_congr rfl fun g _ => ?_
    rw [hw g.val (by omega), mul_comm]
    simp only [hx]
    rfl
  have e2 : (∑ k : Fin 16, (weights W b (ix1 (⟨12 + k.val, by omega⟩ : Fin 48))
        * blockX x (⟨r.val / 256, by omega⟩ : Fin 32) (ix2 (⟨r.val % 256, by omega⟩ : Fin 256) (⟨96 + k.val, by omega⟩ : Fin 128)) : EReal) : EReal)
      = ∑ k : Fin 16, Target.single x r (k.castAdd 4) * Target.weight W ((k.castAdd 4).natAdd 12) := by
    refine Finset.sum_congr rfl fun k _ => ?_
    rw [hw (12 + k.val) (by omega), hx]
    exact mul_comm _ _
  have e3 : (∑ k : Fin 4, (weights W b (ix1 (⟨28 + k.val, by omega⟩ : Fin 48))
        * blockX x (⟨r.val / 256, by omega⟩ : Fin 32) (ix2 (⟨r.val % 256, by omega⟩ : Fin 256) (⟨112 + k.val, by omega⟩ : Fin 128)) : EReal) : EReal)
      = ∑ k : Fin 4, Target.single x r (k.natAdd 16) * Target.weight W ((k.natAdd 16).natAdd 12) := by
    refine Finset.sum_congr rfl fun k _ => ?_
    rw [hw (28 + k.val) (by omega), hx]
    refine (mul_comm _ _).trans (congrArg₂ (fun u v : EReal => u * v) ?_ ?_)
    · refine congrArg (fun c : Fin 4096 => x (ix2 r c)) (Fin.ext ?_)
      show 112 + k.val = 96 + (16 + k.val)
      omega
    · refine congrArg (fun c : Fin 32 => Target.weight W c) (Fin.ext ?_)
      show 28 + k.val = 12 + (16 + k.val)
      omega
  rw [e1, e2, e3]
  unfold Target.value
  rw [Fin.sum_univ_add (a := 16) (b := 4) fun k : Fin 20 => Target.single x r k * Target.weight W (k.natAdd 12)]
  generalize (∑ g : Fin 12, Target.top x r g * Target.weight W (g.castAdd 20)) = A
  generalize (∑ k : Fin 16, Target.single x r (k.castAdd 4) * Target.weight W ((k.castAdd 4).natAdd 12)) = B
  generalize (∑ k : Fin 4, Target.single x r (k.natAdd 16) * Target.weight W ((k.natAdd 16).natAdd 12)) = C
  generalize (b (ix1 (0 : Fin 1)) : EReal) = z
  rw [add_comm (A + (B + C)) z, add_assoc, add_assoc, ← add_assoc A]

end Cert.Proof.Grouped

end
-- ==== Proof.Taken.lean ====
/-
  What the reference's gathers read: columns of the input given by a list of column numbers. The program first adds the
  number of columns to a negative number and, at the end, replaces what a number out of range would give; here the numbers
  are consecutive and in range, so both leave everything as it is.
-/
module

public import Idealize.ShloMosaic.Lib.ValueIdxCore
public import Idealize.ShloMosaic.Lib.DynamicIndex
public import Idealize.ShloMosaic.Lib.ReduceAll
public import proofs.«01_k».proof.Proof.Gen.ReferenceIdeal.Run

@[expose] public section

noncomputable section

namespace Cert.Proof.Ref

open Idealize.ShloMosaic Idealize.ShloMosaic.ValueIdx
open Idealize.SL.Sem

section Take

variable {α : Type} {n : ℕ}

/-- The gather of whole columns of an array of 8192 by 4096, `n` of them. -/
abbrev colsDims (n : ℕ) (wf : GatherDims.WF ⟨2, ![8192, 4096]⟩ ⟨2, ![n, 1]⟩ ⟨2, ![8192, n]⟩ [0] [1] [] [1] [] 1 ![8192, 1]) :
    GatherDims ⟨2, ![8192, 4096]⟩ ⟨2, ![n, 1]⟩ ⟨2, ![8192, n]⟩ where
  offsetDims := [0]
  collapsedSliceDims := [1]
  operandBatchingDims := []
  startIndicesBatchingDims := []
  startIndexMap := [1]
  indexVectorDim := 1
  sliceSizes := ![8192, 1]
  wf := wf

/-- Where column number `k` stands among the column numbers. -/
abbrev numberIx (k : Fin n) : (⟨2, ![n, 1]⟩ : Shape).Idx := ix2 k (0 : Fin 1)

/-- Entry `(r, k)` of a gather of columns is row `r`'s entry in the `k`th of them. -/
theorem gather_cols (wf : GatherDims.WF ⟨2, ![8192, 4096]⟩ ⟨2, ![n, 1]⟩ ⟨2, ![8192, n]⟩ [0] [1] [] [1] [] 1 ![8192, 1])
    (x : (⟨2, ![8192, 4096]⟩ : Shape).Idx → α) (idx : IVec ⟨2, ![n, 1]⟩ 32) (r : Fin 8192) (k : Fin n) (c : Fin 4096)
    (hc : idx (numberIx k) = BitVec.ofNat 32 c.val) :
    Host.gather (colsDims n wf) x idx (ix2 r k) = x (ix2 r c) := by
  have hcl := c.isLt
  unfold Host.gather
  congr 1
  funext a
  refine Fin.ext ?_
  show (colsDims n wf).start (ix2 r k) idx a + (colsDims n wf).batchCoord (ix2 r k) a + (colsDims n wf).offCoord (ix2 r k) a = _
  rw [GatherDims.batchCoord_eq_zero _ _ _ List.not_mem_nil]
  match a with
  | ⟨0, _⟩ =>
    have h0 : (colsDims n wf).start (ix2 r k) idx (0 : Fin 2) = 0 := by
      unfold GatherDims.start
      exact dif_neg (show ¬ (0 : Fin 2) ∈ [(1 : Fin 2)] by decide)
    have h1 : (colsDims n wf).offCoord (ix2 r k) (0 : Fin 2) = r.val := by
      unfold GatherDims.offCoord
      rw [dif_pos ((GatherDims.mem_sKept _ _).mpr ⟨show ¬ (0 : Fin 2) ∈ [(1 : Fin 2)] by decide, List.not_mem_nil⟩)]
      rfl
    exact (congrArg₂ (fun u v => u + 0 + v) h0 h1).trans (Nat.zero_add _)
  | ⟨1, _⟩ =>
    have h1 : (colsDims n wf).offCoord (ix2 r k) (1 : Fin 2) = 0 :=
      GatherDims.offCoord_eq_zero _ _ _ (fun h => ((GatherDims.mem_sKept _ _).mp h).1 (List.mem_singleton.mpr rfl))
    have h0 : (colsDims n wf).start (ix2 r k) idx (1 : Fin 2) = c.val := by
      unfold GatherDims.start
      rw [dif_pos (show (1 : Fin 2) ∈ (colsDims n wf).startIndexMap from List.mem_singleton.mpr rfl)]
      have hsi : (colsDims n wf).siIdx (ix2 r k) ⟨List.idxOf (1 : Fin 2) (colsDims n wf).startIndexMap,
          List.idxOf_lt_length_iff.2 (List.mem_singleton.mpr rfl)⟩ = numberIx k := by
        funext b; refine Fin.ext ?_
        match b with
        | ⟨0, _⟩ => rfl
        | ⟨1, _⟩ => rfl
      rw [hsi, hc, toInt_ofNat_of_lt (by omega)]
      show min (Int.toNat (c.val : ℤ)) 4095 = c.val
      rw [Int.toNat_natCast]
      omega
    exact (congrArg₂ (fun u v => u + 0 + v) h0 h1).trans (by rfl)

end Take

section Numbers

variable {F : FTy → Type} [FloatOps F] {n : ℕ}

/-- The column numbers, a negative one counted from the end, as one column. -/
abbrev numbers (ids : IVec ⟨1, ![n]⟩ 32) (h0 : Cert.ReferenceIdeal.S_.BroadcastsInDim ⟨1, ![n]⟩ (![] : Fin 0 → Fin 1))
    (h1 : (⟨1, ![n]⟩ : Shape).BroadcastsInDim ⟨2, ![n, 1]⟩ (![0] : Fin 1 → Fin 2)) : IVec ⟨2, ![n, 1]⟩ 32 :=
  broadcastInDim ⟨2, ![n, 1]⟩ ![0] h1
    (select (cmpi .slt ids (broadcastInDim ⟨1, ![n]⟩ ![] h0 (constantI Cert.ReferenceIdeal.S_ 32 0#32)))
      (addi ids (broadcastInDim ⟨1, ![n]⟩ ![] h0 (constantI Cert.ReferenceIdeal.S_ 32 4096#32))) ids)

/-- Consecutive column numbers in range stay as they are. -/
theorem numbers_apply (ids : IVec ⟨1, ![n]⟩ 32) (h0 h1) (c : ℕ) (hc : c + n ≤ 4096)
    (hids : ∀ k : Fin n, ids (ix1 k) = BitVec.ofNat 32 (c + k.val)) (k : Fin n) :
    numbers ids h0 h1 (numberIx k) = BitVec.ofNat 32 (c + k.val) := by
  have hk := k.isLt
  unfold numbers broadcastInDim
  have e : (fun a : Fin 1 => if h : (⟨1, ![n]⟩ : Shape).size a = 1 then (⟨0, by omega⟩ : Fin ((⟨1, ![n]⟩ : Shape).size a))
      else ⟨((numberIx k : (⟨2, ![n, 1]⟩ : Shape).Idx) ((![0] : Fin 1 → Fin 2) a)).val, by
        rcases h1.2 a with h2 | h2
        · exact absurd h2 h
        · rw [h2]; exact ((numberIx k : (⟨2, ![n, 1]⟩ : Shape).Idx) ((![0] : Fin 1 → Fin 2) a)).isLt⟩) = ix1 k := by
    funext a
    obtain rfl : a = 0 := Subsingleton.elim _ _
    refine Fin.ext ?_
    split
    · rename_i h
      have : n = 1 := h
      show 0 = k.val
      omega
    · rfl
  rw [e, ← hids k]
  refine select_slt_zero_of_nonneg ids _ ids (ix1 k) ?_
  rw [hids k, toInt_ofNat_of_lt (by omega)]
  omega

/-- The columns with these numbers; an entry of a column whose number is out of range would be replaced by `fill`. -/
abbrev taken {S : Shape} (x : FVec F ⟨2, ![8192, 4096]⟩ .f32) (num : IVec ⟨2, ![n, 1]⟩ 32) (fill : FVec F ⟨2, ![8192, n]⟩ .f32)
    (wf : GatherDims.WF ⟨2, ![8192, 4096]⟩ ⟨2, ![n, 1]⟩ ⟨2, ![8192, n]⟩ [0] [1] [] [1] [] 1 ![8192, 1])
    (b1 : (⟨1, ![n]⟩ : Shape).BroadcastsInDim ⟨2, ![8192, n]⟩ (![1] : Fin 1 → Fin 2)) (lo hi : IVec ⟨2, ![n, 1]⟩ 32) (one : IVec S 1)
    (red : (⟨2, ![n, 1]⟩ : Shape).ReducesTo [1] ⟨1, ![n]⟩) (hS : 0 < S.numel) : FVec F ⟨2, ![8192, n]⟩ .f32 :=
  select (broadcastInDim ⟨2, ![8192, n]⟩ ![1] b1 (Host.reduce IntOp.andi (andi (cmpi .sge num lo) (cmpi .sle num hi)) one red hS))
    (Host.gather (colsDims n wf) x num) fill

/-- Consecutive columns in range: entry `(r, k)` is row `r`'s entry in column `c + k`. -/
theorem taken_apply {S : Shape} (x : FVec F ⟨2, ![8192, 4096]⟩ .f32) (num : IVec ⟨2, ![n, 1]⟩ 32) (fill : FVec F ⟨2, ![8192, n]⟩ .f32)
    (wf b1) (lo hi : IVec ⟨2, ![n, 1]⟩ 32) (one : IVec S 1) (red) (hS) (c : ℕ) (hc : c + n ≤ 4096)
    (hnum : ∀ k : Fin n, num (numberIx k) = BitVec.ofNat 32 (c + k.val)) (hlo : ∀ i, lo i = 0#32) (hhi : ∀ i, hi i = 4095#32)
    (hone : ∀ i, one i = 1#1) (r : Fin 8192) (k : Fin n) :
    taken x num fill wf b1 lo hi one red hS (ix2 r k) = x (ix2 r (⟨c + k.val, by omega⟩ : Fin 4096)) := by
  have hm : ∀ j, Host.reduce IntOp.andi (andi (cmpi .sge num lo) (cmpi .sle num hi)) one red hS j = 1#1 := fun j => by
    refine Host.reduce_andi_one _ _ red hS j (hone _) fun i => ?_
    have hi1 : (i 1).val = 0 := by have : (i 1).val < 1 := (i 1).isLt; omega
    obtain ⟨k, rfl⟩ : ∃ k : Fin n, i = numberIx k := ⟨i 0, by
      funext a
      match a with
      | ⟨0, _⟩ => rfl
      | ⟨1, _⟩ => exact Fin.ext hi1⟩
    have hk := k.isLt
    show IntOp.andi (IntOp.cmpi .sge (num _) (lo _)) (IntOp.cmpi .sle (num _) (hi _)) = 1#1
    have hz : (BitVec.ofNat 32 (c + k.val)).toInt = ((c + k.val : ℕ) : ℤ) := toInt_ofNat_of_lt (by omega)
    have h1 : (0#32 : BitVec 32).sle (BitVec.ofNat 32 (c + k.val)) = true := by
      rw [BitVec.sle, decide_eq_true_iff]
      show (0 : ℤ) ≤ (BitVec.ofNat 32 (c + k.val)).toInt
      omega
    have h2 : (BitVec.ofNat 32 (c + k.val)).sle (4095#32 : BitVec 32) = true := by
      rw [BitVec.sle, decide_eq_true_iff]
      show (BitVec.ofNat 32 (c + k.val)).toInt ≤ (4095 : ℤ)
      omega
    rw [hnum, hlo, hhi]
    show IntOp.andi (BitVec.ofBool ((0#32 : BitVec 32).sle _)) (BitVec.ofBool ((BitVec.ofNat 32 (c + k.val)).sle _)) = 1#1
    rw [h1, h2]
    rfl
  show Scalar.select (Host.reduce IntOp.andi (andi (cmpi .sge num lo) (cmpi .sle num hi)) one red hS _) (Host.gather (colsDims n wf) x num (ix2 r k)) _ = _
  rw [hm]
  exact gather_cols wf x num r k ⟨c + k.val, by omega⟩ (hnum k)

end Numbers

end Cert.Proof.Ref

end
-- ==== Proof.Pooled.lean ====
/-
  The reference's value: its array of 32 features per row is the maxima of the twelve groups of columns followed by the
  twenty single columns, and its result is that array times the weights, plus the bias.
-/
module

public import Idealize.ShloMosaic.Lib.StackMember
public import Idealize.ShloMosaic.Lib.Pipeline.Value
public import Idealize.ShloMosaic.Lib.Pointwise.Reduce
public import Idealize.ShloMosaic.Lib.Pointwise.Reshape
public import proofs.«01_k».proof.Proof.Target
public import proofs.«01_k».proof.Proof.Taken

@[expose] public section

noncomputable section

namespace Cert.Proof.Ref

open Cert.ReferenceIdeal Cert.ReferenceIdeal.Gen Cert.ReferenceIdeal.Value
open Idealize.ShloMosaic hiding ix1 ix2
open Idealize.ShloMosaic.ValueIdx
open Idealize.SL.Sem

section Features

variable {F : FTy → Type} [FloatOps F]

/-- The eight columns with the numbers `ids`. -/
abbrev eight (x : FVec F S8192x4096 .f32) (ids : Fin 8 → BitVec 32) : FVec F S8192x8 .f32 :=
  taken x (numbers (fun i => ids (S8.rowMajor i)) bcast_S_S8 bcast_S8_S8x1_0)
    (broadcastInDim S8192x8 ![] bcast_S_S8192x8 (constant S_ .f32 0x7FC00000#32))
    gather_S8192x4096_S8x1_S8192x8_0_1_n_n_1_1_81921.wf bcast_S8_S8192x8_1
    (broadcastInDim S8x1 ![] bcast_S_S8x1 (constantI S_ 32 0#32))
    (broadcastInDim S8x1 ![0, 1] bcast_S1x1_S8x1_0_1 (broadcastInDim S1x1 ![1] bcast_S1_S1x1_1 (constantI S1 32 4095#32)))
    (constantI S_ 1 1#1) reducesTo_S8x1_S8_d1 h_S_

/-- The twenty columns with the numbers `ids`. -/
abbrev twenty (x : FVec F S8192x4096 .f32) (ids : Fin 20 → BitVec 32) : FVec F S8192x20 .f32 :=
  taken x (numbers (fun i => ids (S20.rowMajor i)) bcast_S_S20 bcast_S20_S20x1_0)
    (broadcastInDim S8192x20 ![] bcast_S_S8192x20 (constant S_ .f32 0x7FC00000#32))
    gather_S8192x4096_S20x1_S8192x20_0_1_n_n_1_1_81921.wf bcast_S20_S8192x20_1
    (broadcastInDim S20x1 ![] bcast_S_S20x1 (constantI S_ 32 0#32))
    (broadcastInDim S20x1 ![0, 1] bcast_S1x1_S20x1_0_1 (broadcastInDim S1x1 ![1] bcast_S1_S1x1_1 (constantI S1 32 4095#32)))
    (constantI S_ 1 1#1) reducesTo_S20x1_S20_d1 h_S_

/-- Each row's maximum over the eight columns with the numbers `ids`, as a column. -/
abbrev pooled (x : FVec F S8192x4096 .f32) (ids : Fin 8 → BitVec 32) : FVec F S8192x1 .f32 :=
  shapeCast S8192x1 (Host.reduce FloatOps.maximumf (eight x ids) (constant S_ .f32 0xFF800000#32) reducesTo_S8192x8_S8192_d1 h_S_)
    shapeCasts_S8192_S8192x1

/-- The twelve groups' column numbers. -/
abbrev groupIds : Fin 12 → Fin 8 → BitVec 32 := ![lit0, lit1, lit2, lit3, lit4, lit5, lit6, lit7, lit8, lit9, lit10, lit11]

theorem groupIds_eq : ∀ (g : Fin 12) (k : Fin 8), groupIds g k = BitVec.ofNat 32 (8 * g.val + k.val) := by decide

theorem lit12_eq : ∀ k : Fin 20, lit12 k = BitVec.ofNat 32 (96 + k.val) := by decide

/-- The thirteen blocks of features. -/
abbrev pieces (x : FVec F S8192x4096 .f32) : List ((s : Shape) × (s.Idx → F .f32)) :=
  List.ofFn (fun g : Fin 12 => (⟨S8192x1, pooled x (groupIds g)⟩ : (s : Shape) × (s.Idx → F .f32))) ++ [⟨S8192x20, twenty x lit12⟩]

set_option maxRecDepth 8192 in
theorem features_eq (V0 : Valuation τ sig (Elt F)) :
    res_main_v37 V0 = concatenate S8192x32 1 (pieces (V0 (Proc.devRef .tc main_arg0)))
      concatenates_S8192x1_S8192x1_S8192x1_S8192x1_S8192x1_S8192x1_S8192x1_S8192x1_S8192x1_S8192x1_S8192x1_S8192x1_S8192x20_S8192x32_d1 := rfl

/-- Entry `(r, k)` of eight consecutive columns from column `c` on, -/
theorem eight_apply (x : FVec F S8192x4096 .f32) (ids : Fin 8 → BitVec 32) (c : ℕ) (hc : c + 8 ≤ 4096)
    (hids : ∀ k, ids k = BitVec.ofNat 32 (c + k.val)) (r : Fin 8192) (k : Fin 8) :
    eight x ids (ix2 r k) = x (ix2 r (⟨c + k.val, by omega⟩ : Fin 4096)) := by
  refine taken_apply x _ _ _ _ _ _ _ _ _ c hc (numbers_apply _ _ _ c hc fun k => ?_) (fun _ => rfl) (fun _ => rfl) (fun _ => rfl) r k
  refine (congrArg ids (Fin.ext ?_)).trans (hids k)
  exact Shape.rowMajor_val_one _

/-- and of twenty. -/
theorem twenty_apply (x : FVec F S8192x4096 .f32) (r : Fin 8192) (k : Fin 20) :
    twenty x lit12 (ix2 r k) = x (ix2 r (⟨96 + k.val, by omega⟩ : Fin 4096)) := by
  refine taken_apply x _ _ _ _ _ _ _ _ _ 96 (by decide) (numbers_apply _ _ _ 96 (by decide) fun k => ?_) (fun _ => rfl) (fun _ => rfl)
    (fun _ => rfl) r k
  refine (congrArg lit12 (Fin.ext ?_)).trans (lit12_eq k)
  exact Shape.rowMajor_val_one _

end Features

/-- The maximum starts from the least extended real. -/
theorem least : (Ideal.ofBits .f32 0xFF800000#32 : EReal) = ⊥ := by
  show Ideal.ieee 8 23 (0xFF800000#32) = ⊥
  unfold Ideal.ieee
  rw [if_pos (by decide), if_pos (by decide), if_pos (by decide)]

/-- A row's maximum over eight consecutive columns is the greatest of its entries there. -/
theorem pooled_apply (x : FVec Ideal S8192x4096 .f32) (ids : Fin 8 → BitVec 32) (c : ℕ) (hc : c + 8 ≤ 4096)
    (hids : ∀ k, ids k = BitVec.ofNat 32 (c + k.val)) (r : Fin 8192) :
    pooled x ids (ix2 r (0 : Fin 1)) = Finset.univ.sup fun k : Fin 8 => x (ix2 r (⟨c + k.val, by omega⟩ : Fin 4096)) := by
  unfold pooled
  rw [shapeCast_apply _ _ (ix2 r (0 : Fin 1)) (ix1 r) (by
    rw [Shape.rowMajor_val_one, Shape.rowMajor_val_two]
    show r.val = r.val * 1 + 0
    omega)]
  rw [Ideal.maximumf_eq_max, Host.reduce_eq_fold, Shape.ReducesTo.fold_fiber_r2_a1]
  show (Finset.univ : Finset (Fin 8)).fold max (Ideal.ofBits .f32 0xFF800000#32) (fun k => eight x ids (ix2 r k)) = _
  rw [least]
  simp only [eight_apply x ids c hc hids]
  rfl

/-- A group's feature of row `r` is the greatest entry of the group. -/
theorem features_group (V0 : Valuation τ sig (Elt Ideal)) (r : Fin 8192) (g : Fin 12) :
    res_main_v37 V0 (ix2 r (g.castAdd 20)) = Target.top (V0 (Proc.devRef .tc main_arg0)) r g := by
  rw [features_eq]
  refine (concatenate_apply_piece 1 _ _ (ix2 r (g.castAdd 20)) g.val (by simp; omega) S8192x1
    (pooled (V0 (Proc.devRef .tc main_arg0)) (groupIds g)) ?_ rfl g.val ?_ (ix2 r (0 : Fin 1)) ?_ ?_).trans
    (pooled_apply _ _ (8 * g.val) (by omega) (groupIds_eq g) r)
  · rw [List.getElem_append_left (by simp), List.getElem_ofFn]
  · fin_cases g <;> rfl
  · intro b hb
    match b with
    | ⟨0, _⟩ => rfl
    | ⟨1, _⟩ => exact absurd rfl hb
  · exact Nat.add_zero _

/-- A single column's feature of row `r` is the row's entry there. -/
theorem features_single (V0 : Valuation τ sig (Elt Ideal)) (r : Fin 8192) (k : Fin 20) :
    res_main_v37 V0 (ix2 r (k.natAdd 12)) = Target.single (V0 (Proc.devRef .tc main_arg0)) r k := by
  rw [features_eq]
  refine (concatenate_apply_piece 1 _ _ (ix2 r (k.natAdd 12)) 12 (by simp) S8192x20
    (twenty (V0 (Proc.devRef .tc main_arg0)) lit12) ?_ rfl 12 rfl (ix2 r k) ?_ rfl).trans (twenty_apply _ r k)
  · rfl
  · intro b hb
    match b with
    | ⟨0, _⟩ => rfl
    | ⟨1, _⟩ => exact absurd rfl hb

/-- Row `r` of the reference's result. -/
theorem reference_row (V0 : Valuation τ sig (Elt Ideal)) (r : Fin 8192) :
    (addf (F := Ideal) (Host.dotGeneral (φ₁ := .f32) (φ₂ := .f32) dot_S8192x32_S32x1_S8192x1_1_0_0_1_n_n none (res_main_v37 V0) (V0 (Proc.devRef .tc main_arg1)))
      (broadcastInDim S8192x1 ![0, 1] bcast_S1x1_S8192x1_0_1 (broadcastInDim S1x1 ![1] bcast_S1_S1x1_1 (V0 (Proc.devRef .tc main_arg2)))))
        (ix2 r (0 : Fin 1))
      = Target.value (V0 (Proc.devRef .tc main_arg0)) (V0 (Proc.devRef .tc main_arg1)) ((V0 (Proc.devRef .tc main_arg2) : FVec Ideal S1 .f32) (ix1 (0 : Fin 1))) r := by
  refine congrArg₂ (fun u v : EReal => u + v) ((StackMember.dotGeneral_plain_apply (m := 8192) (n := 1) (k := 32) none (res_main_v37 V0) (V0 (Proc.devRef .tc main_arg1)) r (0 : Fin 1)).trans ?_) ?_
  · refine (Fin.sum_univ_add (a := 12) (b := 20) _).trans ?_
    simp only [features_group, features_single]
    rfl
  · unfold broadcastInDim
    congr 1
    funext (a : Fin 1)
    obtain rfl : a = 0 := Subsingleton.elim _ _
    exact Subsingleton.elim (α := Fin 1) _ _

end Cert.Proof.Ref

end
-- ==== Proof.lean ====
/-
  The claim: the kernel, its idealisation and the reference run to their ends without fault, leave their arguments unchanged
  and every semaphore at zero; the idealisation is the kernel's own text; and over the extended reals the kernel's result is
  the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Run
public import proofs.«01_k».proof.Proof.Equation
public import proofs.«01_k».proof.Proof.Pooled
public import Idealize.ShloMosaic.Adequacy
public import Idealize.ShloMosaic.Init

@[expose] public section

noncomputable section

namespace Cert.Proof

open Idealize.ShloMosaic Idealize.SL.Sem Cert.Kernel

instance : Cert.Kernel.Facts := Cert.Kernel.Gen.facts
instance : Cert.KernelIdeal.Facts := Cert.KernelIdeal.Gen.facts
instance : Cert.ReferenceIdeal.Facts := Cert.ReferenceIdeal.Gen.facts

/-- The kernel runs to its end, leaves its arguments unchanged and every semaphore at zero. -/
theorem frame_kernel : Cert.quiescent_Kernel := fun m g _ =>
  (θ_run Cert.KernelIdeal.defs _ _).mono (fun _ h => ⟨fun c => ⟨(h.1 c).1, (h.1 c).2.1, (h.1 c).2.2.1⟩, h.2⟩)
    (Grouped.run_main (F := Bits) m g)

/-- So does its idealisation, -/
theorem frame_kernelIdeal : Cert.quiescent_KernelIdeal := fun m g _ =>
  (θ_run Cert.KernelIdeal.defs _ _).mono (fun _ h => ⟨fun c => ⟨(h.1 c).1, (h.1 c).2.1, (h.1 c).2.2.1⟩, h.2⟩)
    (Grouped.run_main (F := Ideal) m g)

/-- and so does the reference. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From equal arguments the two idealised programs end with equal results. -/
theorem values : Cert.algebraic_KernelIdeal_ReferenceIdeal := by
  intro m g m' g' _ hagree
  refine ⟨fun c => Grouped.res m c,
    (θ_run Cert.KernelIdeal.defs _ _).mono (fun _ h c => ⟨(h.1 c).2.2.2, (h.1 c).1, (h.1 c).2.1, (h.1 c).2.2.1⟩) (Grouped.run_main (F := Ideal) m g), ?_⟩
  refine (θ_run Cert.ReferenceIdeal.defs _ _).mono (fun _ h c => ⟨(h c).1.trans ?_, (h c).2⟩) (Cert.ReferenceIdeal.Value.run (F := Ideal) m' g')
  obtain ⟨h0, h1, h2⟩ := hagree c
  funext i
  obtain ⟨r, rfl⟩ : ∃ r : Fin 8192, i = ValueIdx.ix2 r (0 : Fin 1) :=
    ⟨i 0, (ValueIdx.eq_ix2 (n0 := 8192) (n1 := 1) i).trans (congrArg (ValueIdx.ix2 (i 0)) (Subsingleton.elim (α := Fin 1) _ _))⟩
  refine (Ref.reference_row _ r).trans (Eq.trans ?_ (Grouped.result_row _ _ _ r).symm)
  exact congrArg₂ (fun (x : Target.Rows) (p : Target.Weights × EReal) => Target.value x p.1 p.2 r) h0
    (congrArg₂ (fun (W : Target.Weights) (b : (⟨1, ![1]⟩ : Shape).Idx → EReal) => (W, b (ValueIdx.ix1 (0 : Fin 1)))) h1 h2)

theorem claim : Cert.Claim := ⟨Cert.Kernel.Gen.facts, Cert.KernelIdeal.Gen.facts, Cert.ReferenceIdeal.Gen.facts,
  frame_kernel, frame_kernelIdeal, frame_referenceIdeal, trivial, values⟩

end Cert.Proof

end
